-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded_affine [hPre_bounded_affine : Cert.Pre_bounded_affine.Facts] (m : (ℓ : Loc Cert.KernelIdeal.nD Cert.KernelIdeal.τ Cert.KernelIdeal.sig) → Buf (Elt Ideal) ℓ) : Prop :=
  ∀ c : Dev Cert.KernelIdeal.nD,
    (Cert.Pre_bounded_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded_affine [hPre_bounded_affine : Cert.Pre_bounded_affine.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded_affine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_bounded_affine [hKernelIdeal : Cert.KernelIdeal.Facts] [hPre_bounded_affine : Cert.Pre_bounded_affine.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded_affine m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_bounded_affine [hReferenceIdeal : Cert.ReferenceIdeal.Facts] [hPre_bounded_affine : Cert.Pre_bounded_affine.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded_affine m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_d_model" .f32 0x38638E39#32 ((1 / 18432 : ℝ) : EReal)

def algebraic_KernelIdeal_ReferenceIdeal_pre_bounded_affine [hKernelIdeal : Cert.KernelIdeal.Facts] [hReferenceIdeal : Cert.ReferenceIdeal.Facts] [hPre_bounded_affine : Cert.Pre_bounded_affine.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded_affine m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)) (v5 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_v9) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v62) = v2 c
          ∧ r.2.mem ((c.tc : Thread Cert.ReferenceIdeal.nD Cert.ReferenceIdeal.τ).loc Cert.ReferenceIdeal.main_v15) = v3 c
          ∧ r.2.mem ((c.tc : Thread Cert.ReferenceIdeal.nD Cert.ReferenceIdeal.τ).loc Cert.ReferenceIdeal.main_v25) = v4 c
          ∧ r.2.mem ((c.tc : Thread Cert.ReferenceIdeal.nD Cert.ReferenceIdeal.τ).loc Cert.ReferenceIdeal.main_v11) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_bounded_affine : Cert.Pre_bounded_affine.Facts),
    quiescent_Kernel (hKernel := hKernel)
    ∧ quiescent_KernelIdeal (hKernelIdeal := hKernelIdeal)
    ∧ quiescent_KernelIdeal_pre_bounded_affine (hKernelIdeal := hKernelIdeal) (hPre_bounded_affine := hPre_bounded_affine)
    ∧ quiescent_ReferenceIdeal (hReferenceIdeal := hReferenceIdeal)
    ∧ quiescent_ReferenceIdeal_pre_bounded_affine (hReferenceIdeal := hReferenceIdeal) (hPre_bounded_affine := hPre_bounded_affine)
    ∧ preserves_Kernel_KernelIdeal
    ∧ algebraic_KernelIdeal_ReferenceIdeal_pre_bounded_affine (hKernelIdeal := hKernelIdeal) (hReferenceIdeal := hReferenceIdeal) (hPre_bounded_affine := hPre_bounded_affine)
-- ==== Pre_bounded_affine.lean ====
abbrev S2x2048x18432 : Shape := ⟨3, ![2, 2048, 18432]⟩
abbrev S18432 : Shape := ⟨1, ![18432]⟩
abbrev S_ : Shape := ⟨0, ![]⟩

class Facts : Prop where
  bcast_S_S18432 : S_.BroadcastsInDim S18432 (![] : Fin 0 → Fin S18432.rank)

variable [Facts]

def fn {F : FTy → Type} [FloatOps F] (main_arg0 : FVec F S2x2048x18432 .bf16) (main_arg1 : FVec F S2x2048x18432 .bf16) (main_arg2 : FVec F S18432 .f32) (main_arg3 : IVec S2x2048x18432 32) (main_arg4 : FVec F S18432 .f32) (main_arg5 : FVec F S18432 .f32) : IVec S18432 1 :=
  let main_v0 : FVec F S18432 .f32 := Host.absf main_arg4
  let main_cst : FVec F S_ .f32 := constant S_ .f32 0x7F000000#32
  let main_v1 : FVec F S18432 .f32 := broadcastInDim S18432 ![] bcast_S_S18432 main_cst
  let main_v2 : IVec S18432 1 := cmpf .ole main_v0 main_v1
  let main_v3 : FVec F S18432 .f32 := Host.absf main_arg5
  let main_cst_0 : FVec F S_ .f32 := constant S_ .f32 0x7F000000#32
  let main_v4 : FVec F S18432 .f32 := broadcastInDim S18432 ![] bcast_S_S18432 main_cst_0
  let main_v5 : IVec S18432 1 := cmpf .ole main_v3 main_v4
  let main_v6 : IVec S18432 1 := andi main_v2 main_v5
  main_v6
-- ==== Kernel.lean ====
abbrev S2x2048x18432 : Shape := ⟨3, ![2, 2048, 18432]⟩
abbrev S18432 : Shape := ⟨1, ![18432]⟩
abbrev S4096x18432 : Shape := ⟨2, ![4096, 18432]⟩
abbrev S1x18432 : Shape := ⟨2, ![1, 18432]⟩
abbrev S2x2048 : Shape := ⟨2, ![2, 2048]⟩
abbrev S512x18432 : Shape := ⟨2, ![512, 18432]⟩
abbrev S32x18432 : Shape := ⟨2, ![32, 18432]⟩
abbrev S8x18432 : Shape := ⟨2, ![8, 18432]⟩
abbrev S8x256 : Shape := ⟨2, ![8, 256]⟩
abbrev S32x128 : Shape := ⟨2, ![32, 128]⟩
abbrev S32x256 : Shape := ⟨2, ![32, 256]⟩
abbrev S1x256 : Shape := ⟨2, ![1, 256]⟩
abbrev S256 : Shape := ⟨1, ![256]⟩
abbrev S32 : Shape := ⟨1, ![32]⟩
abbrev S32x1 : Shape := ⟨2, ![32, 1]⟩
abbrev S2x128 : Shape := ⟨2, ![2, 128]⟩
abbrev S128 : Shape := ⟨1, ![128]⟩
abbrev S1x128 : Shape := ⟨2, ![1, 128]⟩
abbrev S2x256x18432 : Shape := ⟨3, ![2, 256, 18432]⟩

abbrev nBuf : Space → Nat
  | .hbm => 21
  | .vmem => 20
  | .smem => 0
  | _ => 0

abbrev bufTy : (tb : Table) → Fin (tcTables nBuf tb) → BufTy
  | .hbm, ⟨0, _⟩ => ⟨S2x2048x18432, .bf16⟩
  | .hbm, ⟨1, _⟩ => ⟨S2x2048x18432, .bf16⟩
  | .hbm, ⟨2, _⟩ => ⟨S18432, .f32⟩
  | .hbm, ⟨3, _⟩ => ⟨S2x2048x18432, .i32⟩
  | .hbm, ⟨4, _⟩ => ⟨S18432, .f32⟩
  | .hbm, ⟨5, _⟩ => ⟨S18432, .f32⟩
  | .hbm, ⟨6, _⟩ => ⟨S4096x18432, .bf16⟩
  | .hbm, ⟨7, _⟩ => ⟨S4096x18432, .bf16⟩
  | .hbm, ⟨8, _⟩ => ⟨S4096x18432, .i32⟩
  | .hbm, ⟨9, _⟩ => ⟨S1x18432, .f32⟩
  | .hbm, ⟨10, _⟩ => ⟨S1x18432, .f32⟩
  | .hbm, ⟨11, _⟩ => ⟨S1x18432, .f32⟩
  | .hbm, ⟨12, _⟩ => ⟨S4096x18432, .fp8e4m3⟩
  | .hbm, ⟨13, _⟩ => ⟨S2x2048, .f32⟩
  | .hbm, ⟨14, _⟩ => ⟨S512x18432, .i8⟩
  | .hbm, ⟨15, _⟩ => ⟨S2x2048, .f32⟩
  | .hbm, ⟨16, _⟩ => ⟨S2x2048, .f32⟩
  | .hbm, ⟨17, _⟩ => ⟨S4096x18432, .bf16⟩
  | .hbm, ⟨18, _⟩ => ⟨S2x2048x18432, .fp8e4m3⟩
  | .hbm, ⟨19, _⟩ => ⟨S2x256x18432, .i8⟩
  | .hbm, ⟨20, _⟩ => ⟨S2x2048x18432, .bf16⟩
  | .local _ .vmem, ⟨0, _⟩ => ⟨S32x18432, .bf16⟩
  | .local _ .vmem, ⟨1, _⟩ => ⟨S32x18432, .bf16⟩
  | .local _ .vmem, ⟨2, _⟩ => ⟨S32x18432, .bf16⟩
  | .local _ .vmem, ⟨3, _⟩ => ⟨S32x18432, .bf16⟩
  | .local _ .vmem, ⟨4, _⟩ => ⟨S1x18432, .f32⟩
  | .local _ .vmem, ⟨5, _⟩ => ⟨S32x18432, .i32⟩
  | .local _ .vmem, ⟨6, _⟩ => ⟨S32x18432, .i32⟩
  | .local _ .vmem, ⟨7, _⟩ => ⟨S1x18432, .f32⟩
  | .local _ .vmem, ⟨8, _⟩ => ⟨S1x18432, .f32⟩
  | .local _ .vmem, ⟨9, _⟩ => ⟨S32x18432, .fp8e4m3⟩
  | .local _ .vmem, ⟨10, _⟩ => ⟨S32x18432, .fp8e4m3⟩
  | .local _ .vmem, ⟨11, _⟩ => ⟨S2x2048, .f32⟩
  | .local _ .vmem, ⟨12, _⟩ => ⟨S32x18432, .i8⟩
  | .local _ .vmem, ⟨13, _⟩ => ⟨S32x18432, .i8⟩
  | .local _ .vmem, ⟨14, _⟩ => ⟨S2x2048, .f32⟩
  | .local _ .vmem, ⟨15, _⟩ => ⟨S2x2048, .f32⟩
  | .local _ .vmem, ⟨16, _⟩ => ⟨S32x18432, .bf16⟩
  | .local _ .vmem, ⟨17, _⟩ => ⟨S32x18432, .bf16⟩
  | .local _ .vmem, ⟨18, _⟩ => ⟨S32x18432, .f32⟩
  | .local _ .vmem, ⟨19, _⟩ => ⟨S8x18432, .i32⟩
  | _, _ => ⟨S2x2048x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev main_v6_5 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32_9 : BitVec 32 := 0#32
  let c12_i32 : BitVec 32 := 12#32
  let v28 : BitVec 32 := Scalar.addi c0_i32_9 c12_i32
  let c1_i32_10 : BitVec 32 := 1#32
  ⟨c0_i32_9, v28, c1_i32_10⟩
def k0_mult1 (k0_t1 : Fin k0_t1_loop.trips) : BitVec 32 :=
  let c0_i32_9 : BitVec 32 := 0#32
  let c1_i32_10 : BitVec 32 := 1#32
  let arg15 : BitVec 32 := Scf.iv c0_i32_9 c1_i32_10 k0_t1
  let c1536_i32 : BitVec 32 := 1536#32
  let v313 : BitVec 32 := Scalar.muli arg15 c1536_i32
  let c0_i32_122 : BitVec 32 := 0#32
  let v314 : BitVec 32 := Scalar.addi v313 c0_i32_122
  v314
def k0_off1 (k0_t1 : Fin k0_t1_loop.trips) (c0_i32_122 : BitVec 32) : Fin 2 → Nat :=
  let c0_123 : Index := 0#32
  let c0_i32_9 : BitVec 32 := 0#32
  let c1_i32_10 : BitVec 32 := 1#32
  let arg15 : BitVec 32 := Scf.iv c0_i32_9 c1_i32_10 k0_t1
  let c1536_i32 : BitVec 32 := 1536#32
  let v313 : BitVec 32 := Scalar.muli arg15 c1536_i32
  let v314 : BitVec 32 := Scalar.addi v313 c0_i32_122
  let v315 : BitVec 32 := v314
  let v316 : Index := Scalar.indexCast v315
  ![0, v316.toNat]
def k0_off2 (k0_t1 : Fin k0_t1_loop.trips) (c0_i32_122 : BitVec 32) : Fin 2 → Nat :=
  let c0_125 : Index := 0#32
  let c0_i32_9 : BitVec 32 := 0#32
  let c1_i32_10 : BitVec 32 := 1#32
  let arg15 : BitVec 32 := Scf.iv c0_i32_9 c1_i32_10 k0_t1
  let c1536_i32 : BitVec 32 := 1536#32
  let v313 : BitVec 32 := Scalar.muli arg15 c1536_i32
  let v314 : BitVec 32 := Scalar.addi v313 c0_i32_122
  let v315 : BitVec 32 := v314
  let v325 : Index := Scalar.indexCast v315
  ![0, v325.toNat]
def k0_off3 (i : grid0.Coords) (k0_t1 : Fin k0_t1_loop.trips) (c0_i32_122 : BitVec 32) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v366 : Index := Scalar.indexCast v9
  let c0_i32_9 : BitVec 32 := 0#32
  let c1_i32_10 : BitVec 32 := 1#32
  let arg15 : BitVec 32 := Scf.iv c0_i32_9 c1_i32_10 k0_t1
  let c1536_i32 : BitVec 32 := 1536#32
  let v313 : BitVec 32 := Scalar.muli arg15 c1536_i32
  let v314 : BitVec 32 := Scalar.addi v313 c0_i32_122
  let v315 : BitVec 32 := v314
  let v367 : Index := Scalar.indexCast v315
  ![v366.toNat, v367.toNat]
def k0_mult2 (k0_t1 : Fin k0_t1_loop.trips) : BitVec 32 :=
  let c0_i32_9 : BitVec 32 := 0#32
  let c1_i32_10 : BitVec 32 := 1#32
  let arg15 : BitVec 32 := Scf.iv c0_i32_9 c1_i32_10 k0_t1
  let c1536_i32_136 : BitVec 32 := 1536#32
  let v371 : BitVec 32 := Scalar.muli arg15 c1536_i32_136
  let c256_i32 : BitVec 32 := 256#32
  let v372 : BitVec 32 := Scalar.addi v371 c256_i32
  v372
def k0_mult3 (k0_t1 : Fin k0_t1_loop.trips) : BitVec 32 :=
  let c0_i32_9 : BitVec 32 := 0#32
  let c1_i32_10 : BitVec 32 := 1#32
  let arg15 : BitVec 32 := Scf.iv c0_i32_9 c1_i32_10 k0_t1
  let c1536_i32_151 : BitVec 32 := 1536#32
  let v429 : BitVec 32 := Scalar.muli arg15 c1536_i32_151
  let c512_i32 : BitVec 32 := 512#32
  let v430 : BitVec 32 := Scalar.addi v429 c512_i32
  v430
def k0_mult4 (k0_t1 : Fin k0_t1_loop.trips) : BitVec 32 :=
  let c0_i32_9 : BitVec 32 := 0#32
  let c1_i32_10 : BitVec 32 := 1#32
  let arg15 : BitVec 32 := Scf.iv c0_i32_9 c1_i32_10 k0_t1
  let c1536_i32_166 : BitVec 32 := 1536#32
  let v487 : BitVec 32 := Scalar.muli arg15 c1536_i32_166
  let c768_i32 : BitVec 32 := 768#32
  let v488 : BitVec 32 := Scalar.addi v487 c768_i32
  v488
def k0_mult5 (k0_t1 : Fin k0_t1_loop.trips) : BitVec 32 :=
  let c0_i32_9 : BitVec 32 := 0#32
  let c1_i32_10 : BitVec 32 := 1#32
  let arg15 : BitVec 32 := Scf.iv c0_i32_9 c1_i32_10 k0_t1
  let c1536_i32_181 : BitVec 32 := 1536#32
  let v545 : BitVec 32 := Scalar.muli arg15 c1536_i32_181
  let c1024_i32 : BitVec 32 := 1024#32
  let v546 : BitVec 32 := Scalar.addi v545 c1024_i32
  v546
def k0_mult6 (k0_t1 : Fin k0_t1_loop.trips) : BitVec 32 :=
  let c0_i32_9 : BitVec 32 := 0#32
  let c1_i32_10 : BitVec 32 := 1#32
  let arg15 : BitVec 32 := Scf.iv c0_i32_9 c1_i32_10 k0_t1
  let c1536_i32_196 : BitVec 32 := 1536#32
  let v603 : BitVec 32 := Scalar.muli arg15 c1536_i32_196
  let c1280_i32 : BitVec 32 := 1280#32
  let v604 : BitVec 32 := Scalar.addi v603 c1280_i32
  v604
@[reducible] def k0_t2_loop : Scf.Loop 32 :=
  let c0_i32_15 : BitVec 32 := 0#32
  let c12_i32_16 : BitVec 32 := 12#32
  let v35 : BitVec 32 := Scalar.addi c0_i32_15 c12_i32_16
  let c1_i32_17 : BitVec 32 := 1#32
  ⟨c0_i32_15, v35, c1_i32_17⟩
def k0_mult7 (k0_t2 : Fin k0_t2_loop.trips) : BitVec 32 :=
  let c0_i32_15 : BitVec 32 := 0#32
  let c1_i32_17 : BitVec 32 := 1#32
  let arg15 : BitVec 32 := Scf.iv c0_i32_15 c1_i32_17 k0_t2
  let c1536_i32 : BitVec 32 := 1536#32
  let v313 : BitVec 32 := Scalar.muli arg15 c1536_i32
  let c0_i32_122 : BitVec 32 := 0#32
  let v314 : BitVec 32 := Scalar.addi v313 c0_i32_122
  v314
def k0_off4 (k0_t2 : Fin k0_t2_loop.trips) (c0_i32_122 : BitVec 32) : Fin 2 → Nat :=
  let c0_123 : Index := 0#32
  let c0_i32_15 : BitVec 32 := 0#32
  let c1_i32_17 : BitVec 32 := 1#32
  let arg15 : BitVec 32 := Scf.iv c0_i32_15 c1_i32_17 k0_t2
  let c1536_i32 : BitVec 32 := 1536#32
  let v313 : BitVec 32 := Scalar.muli arg15 c1536_i32
  let v314 : BitVec 32 := Scalar.addi v313 c0_i32_122
  let v315 : BitVec 32 := v314
  let v316 : Index := Scalar.indexCast v315
  ![0, v316.toNat]
def k0_mult8 (k0_t2 : Fin k0_t2_loop.trips) : BitVec 32 :=
  let c0_i32_15 : BitVec 32 := 0#32
  let c1_i32_17 : BitVec 32 := 1#32
  let arg15 : BitVec 32 := Scf.iv c0_i32_15 c1_i32_17 k0_t2
  let c1536_i32_125 : BitVec 32 := 1536#32
  let v331 : BitVec 32 := Scalar.muli arg15 c1536_i32_125
  let c256_i32 : BitVec 32 := 256#32
  let v332 : BitVec 32 := Scalar.addi v331 c256_i32
  v332
def k0_mult9 (k0_t2 : Fin k0_t2_loop.trips) : BitVec 32 :=
  let c0_i32_15 : BitVec 32 := 0#32
  let c1_i32_17 : BitVec 32 := 1#32
  let arg15 : BitVec 32 := Scf.iv c0_i32_15 c1_i32_17 k0_t2
  let c1536_i32_128 : BitVec 32 := 1536#32
  let v349 : BitVec 32 := Scalar.muli arg15 c1536_i32_128
  let c512_i32 : BitVec 32 := 512#32
  let v350 : BitVec 32 := Scalar.addi v349 c512_i32
  v350
def k0_mult10 (k0_t2 : Fin k0_t2_loop.trips) : BitVec 32 :=
  let c0_i32_15 : BitVec 32 := 0#32
  let c1_i32_17 : BitVec 32 := 1#32
  let arg15 : BitVec 32 := Scf.iv c0_i32_15 c1_i32_17 k0_t2
  let c1536_i32_131 : BitVec 32 := 1536#32
  let v367 : BitVec 32 := Scalar.muli arg15 c1536_i32_131
  let c768_i32 : BitVec 32 := 768#32
  let v368 : BitVec 32 := Scalar.addi v367 c768_i32
  v368
def k0_mult11 (k0_t2 : Fin k0_t2_loop.trips) : BitVec 32 :=
  let c0_i32_15 : BitVec 32 := 0#32
  let c1_i32_17 : BitVec 32 := 1#32
  let arg15 : BitVec 32 := Scf.iv c0_i32_15 c1_i32_17 k0_t2
  let c1536_i32_134 : BitVec 32 := 1536#32
  let v385 : BitVec 32 := Scalar.muli arg15 c1536_i32_134
  let c1024_i32 : BitVec 32 := 1024#32
  let v386 : BitVec 32 := Scalar.addi v385 c1024_i32
  v386
def k0_mult12 (k0_t2 : Fin k0_t2_loop.trips) : BitVec 32 :=
  let c0_i32_15 : BitVec 32 := 0#32
  let c1_i32_17 : BitVec 32 := 1#32
  let arg15 : BitVec 32 := Scf.iv c0_i32_15 c1_i32_17 k0_t2
  let c1536_i32_137 : BitVec 32 := 1536#32
  let v403 : BitVec 32 := Scalar.muli arg15 c1536_i32_137
  let c1280_i32 : BitVec 32 := 1280#32
  let v404 : BitVec 32 := Scalar.addi v403 c1280_i32
  v404
@[reducible] def k0_t3_loop : Scf.Loop 32 :=
  let c0_i32_23 : BitVec 32 := 0#32
  let c12_i32_24 : BitVec 32 := 12#32
  let v45 : BitVec 32 := Scalar.addi c0_i32_23 c12_i32_24
  let c1_i32_25 : BitVec 32 := 1#32
  ⟨c0_i32_23, v45, c1_i32_25⟩
def k0_mult13 (k0_t3 : Fin k0_t3_loop.trips) : BitVec 32 :=
  let c0_i32_23 : BitVec 32 := 0#32
  let c1_i32_25 : BitVec 32 := 1#32
  let arg15 : BitVec 32 := Scf.iv c0_i32_23 c1_i32_25 k0_t3
  let c1536_i32 : BitVec 32 := 1536#32
  let v313 : BitVec 32 := Scalar.muli arg15 c1536_i32
  let c0_i32_122 : BitVec 32 := 0#32
  let v314 : BitVec 32 := Scalar.addi v313 c0_i32_122
  v314
def k0_off5 (k0_t3 : Fin k0_t3_loop.trips) (c0_i32_122 : BitVec 32) : Fin 2 → Nat :=
  let c0_123 : Index := 0#32
  let c0_i32_23 : BitVec 32 := 0#32
  let c1_i32_25 : BitVec 32 := 1#32
  let arg15 : BitVec 32 := Scf.iv c0_i32_23 c1_i32_25 k0_t3
  let c1536_i32 : BitVec 32 := 1536#32
  let v313 : BitVec 32 := Scalar.muli arg15 c1536_i32
  let v314 : BitVec 32 := Scalar.addi v313 c0_i32_122
  let v315 : BitVec 32 := v314
  let v316 : Index := Scalar.indexCast v315
  ![0, v316.toNat]
def k0_off6 (k0_t3 : Fin k0_t3_loop.trips) (c0_i32_122 : BitVec 32) : Fin 2 → Nat :=
  let c0_124 : Index := 0#32
  let c0_i32_23 : BitVec 32 := 0#32
  let c1_i32_25 : BitVec 32 := 1#32
  let arg15 : BitVec 32 := Scf.iv c0_i32_23 c1_i32_25 k0_t3
  let c1536_i32 : BitVec 32 := 1536#32
  let v313 : BitVec 32 := Scalar.muli arg15 c1536_i32
  let v314 : BitVec 32 := Scalar.addi v313 c0_i32_122
  let v315 : BitVec 32 := v314
  let v320 : Index := Scalar.indexCast v315
  ![0, v320.toNat]
def k0_mult14 (k0_t3 : Fin k0_t3_loop.trips) : BitVec 32 :=
  let c0_i32_23 : BitVec 32 := 0#32
  let c1_i32_25 : BitVec 32 := 1#32
  let arg15 : BitVec 32 := Scf.iv c0_i32_23 c1_i32_25 k0_t3
  let c1536_i32_127 : BitVec 32 := 1536#32
  let v339 : BitVec 32 := Scalar.muli arg15 c1536_i32_127
  let c256_i32 : BitVec 32 := 256#32
  let v340 : BitVec 32 := Scalar.addi v339 c256_i32
  v340
def k0_mult15 (k0_t3 : Fin k0_t3_loop.trips) : BitVec 32 :=
  let c0_i32_23 : BitVec 32 := 0#32
  let c1_i32_25 : BitVec 32 := 1#32
  let arg15 : BitVec 32 := Scf.iv c0_i32_23 c1_i32_25 k0_t3
  let c1536_i32_132 : BitVec 32 := 1536#32
  let v365 : BitVec 32 := Scalar.muli arg15 c1536_i32_132
  let c512_i32 : BitVec 32 := 512#32
  let v366 : BitVec 32 := Scalar.addi v365 c512_i32
  v366
def k0_mult16 (k0_t3 : Fin k0_t3_loop.trips) : BitVec 32 :=
  let c0_i32_23 : BitVec 32 := 0#32
  let c1_i32_25 : BitVec 32 := 1#32
  let arg15 : BitVec 32 := Scf.iv c0_i32_23 c1_i32_25 k0_t3
  let c1536_i32_137 : BitVec 32 := 1536#32
  let v391 : BitVec 32 := Scalar.muli arg15 c1536_i32_137
  let c768_i32 : BitVec 32 := 768#32
  let v392 : BitVec 32 := Scalar.addi v391 c768_i32
  v392
def k0_mult17 (k0_t3 : Fin k0_t3_loop.trips) : BitVec 32 :=
  let c0_i32_23 : BitVec 32 := 0#32
  let c1_i32_25 : BitVec 32 := 1#32
  let arg15 : BitVec 32 := Scf.iv c0_i32_23 c1_i32_25 k0_t3
  let c1536_i32_142 : BitVec 32 := 1536#32
  let v417 : BitVec 32 := Scalar.muli arg15 c1536_i32_142
  let c1024_i32 : BitVec 32 := 1024#32
  let v418 : BitVec 32 := Scalar.addi v417 c1024_i32
  v418
def k0_mult18 (k0_t3 : Fin k0_t3_loop.trips) : BitVec 32 :=
  let c0_i32_23 : BitVec 32 := 0#32
  let c1_i32_25 : BitVec 32 := 1#32
  let arg15 : BitVec 32 := Scf.iv c0_i32_23 c1_i32_25 k0_t3
  let c1536_i32_147 : BitVec 32 := 1536#32
  let v443 : BitVec 32 := Scalar.muli arg15 c1536_i32_147
  let c1280_i32 : BitVec 32 := 1280#32
  let v444 : BitVec 32 := Scalar.addi v443 c1280_i32
  v444
@[reducible] def k0_t4_loop : Scf.Loop 32 :=
  let c0_i32_53 : BitVec 32 := 0#32
  let c12_i32_54 : BitVec 32 := 12#32
  let v146 : BitVec 32 := Scalar.addi c0_i32_53 c12_i32_54
  let c1_i32_55 : BitVec 32 := 1#32
  ⟨c0_i32_53, v146, c1_i32_55⟩
def k0_mult19 (k0_t4 : Fin k0_t4_loop.trips) : BitVec 32 :=
  let c0_i32_53 : BitVec 32 := 0#32
  let c1_i32_55 : BitVec 32 := 1#32
  let arg15 : BitVec 32 := Scf.iv c0_i32_53 c1_i32_55 k0_t4
  let c1536_i32 : BitVec 32 := 1536#32
  let v313 : BitVec 32 := Scalar.muli arg15 c1536_i32
  let c0_i32_122 : BitVec 32 := 0#32
  let v314 : BitVec 32 := Scalar.addi v313 c0_i32_122
  v314
def k0_off7 (k0_t4 : Fin k0_t4_loop.trips) (c0_i32_122 : BitVec 32) : Fin 2 → Nat :=
  let c0_123 : Index := 0#32
  let c0_i32_53 : BitVec 32 := 0#32
  let c1_i32_55 : BitVec 32 := 1#32
  let arg15 : BitVec 32 := Scf.iv c0_i32_53 c1_i32_55 k0_t4
  let c1536_i32 : BitVec 32 := 1536#32
  let v313 : BitVec 32 := Scalar.muli arg15 c1536_i32
  let v314 : BitVec 32 := Scalar.addi v313 c0_i32_122
  let v315 : BitVec 32 := v314
  let v316 : Index := Scalar.indexCast v315
  ![0, v316.toNat]
def k0_mult20 (k0_t4 : Fin k0_t4_loop.trips) : BitVec 32 :=
  let c0_i32_53 : BitVec 32 := 0#32
  let c1_i32_55 : BitVec 32 := 1#32
  let arg15 : BitVec 32 := Scf.iv c0_i32_53 c1_i32_55 k0_t4
  let c1536_i32_127 : BitVec 32 := 1536#32
  let v327 : BitVec 32 := Scalar.muli arg15 c1536_i32_127
  let c256_i32 : BitVec 32 := 256#32
  let v328 : BitVec 32 := Scalar.addi v327 c256_i32
  v328
def k0_mult21 (k0_t4 : Fin k0_t4_loop.trips) : BitVec 32 :=
  let c0_i32_53 : BitVec 32 := 0#32
  let c1_i32_55 : BitVec 32 := 1#32
  let arg15 : BitVec 32 := Scf.iv c0_i32_53 c1_i32_55 k0_t4
  let c1536_i32_132 : BitVec 32 := 1536#32
  let v341 : BitVec 32 := Scalar.muli arg15 c1536_i32_132
  let c512_i32 : BitVec 32 := 512#32
  let v342 : BitVec 32 := Scalar.addi v341 c512_i32
  v342
def k0_mult22 (k0_t4 : Fin k0_t4_loop.trips) : BitVec 32 :=
  let c0_i32_53 : BitVec 32 := 0#32
  let c1_i32_55 : BitVec 32 := 1#32
  let arg15 : BitVec 32 := Scf.iv c0_i32_53 c1_i32_55 k0_t4
  let c1536_i32_137 : BitVec 32 := 1536#32
  let v355 : BitVec 32 := Scalar.muli arg15 c1536_i32_137
  let c768_i32 : BitVec 32 := 768#32
  let v356 : BitVec 32 := Scalar.addi v355 c768_i32
  v356
def k0_mult23 (k0_t4 : Fin k0_t4_loop.trips) : BitVec 32 :=
  let c0_i32_53 : BitVec 32 := 0#32
  let c1_i32_55 : BitVec 32 := 1#32
  let arg15 : BitVec 32 := Scf.iv c0_i32_53 c1_i32_55 k0_t4
  let c1536_i32_142 : BitVec 32 := 1536#32
  let v369 : BitVec 32 := Scalar.muli arg15 c1536_i32_142
  let c1024_i32 : BitVec 32 := 1024#32
  let v370 : BitVec 32 := Scalar.addi v369 c1024_i32
  v370
def k0_mult24 (k0_t4 : Fin k0_t4_loop.trips) : BitVec 32 :=
  let c0_i32_53 : BitVec 32 := 0#32
  let c1_i32_55 : BitVec 32 := 1#32
  let arg15 : BitVec 32 := Scf.iv c0_i32_53 c1_i32_55 k0_t4
  let c1536_i32_147 : BitVec 32 := 1536#32
  let v383 : BitVec 32 := Scalar.muli arg15 c1536_i32_147
  let c1280_i32 : BitVec 32 := 1280#32
  let v384 : BitVec 32 := Scalar.addi v383 c1280_i32
  v384
def k0_mult25 (i : grid0.Coords) : BitVec 32 :=
  let arg0 : BitVec 32 := BitVec.ofNat 32 (i 0).val
  let c64_i32_67 : BitVec 32 := 64#32
  let c0_i32_68 : BitVec 32 := 0#32
  let v170 : BitVec 1 := Scalar.cmpi .eq c64_i32_67 c0_i32_68
  let c1_i32_69 : BitVec 32 := 1#32
  let v171 : BitVec 32 := Scalar.select v170 c1_i32_69 c64_i32_67
  let v172 : BitVec 32 := Scalar.remsi arg0 v171
  let c0_i32_71 : BitVec 32 := 0#32
  let v174 : BitVec 1 := Scalar.cmpi .slt v172 c0_i32_71
  let c0_i32_72 : BitVec 32 := 0#32
  let v175 : BitVec 1 := Scalar.cmpi .slt v171 c0_i32_72
  let v176 : BitVec 1 := Scalar.xori v174 v175
  let c0_i32_70 : BitVec 32 := 0#32
  let v173 : BitVec 1 := Scalar.cmpi .ne v172 c0_i32_70
  let v177 : BitVec 1 := Scalar.andi v176 v173
  let v178 : BitVec 32 := Scalar.addi v172 v171
  let v179 : BitVec 32 := Scalar.select v177 v178 v172
  let c32_i32_73 : BitVec 32 := 32#32
  let v180 : BitVec 32 := Scalar.muli v179 c32_i32_73
  let c0_i32_75 : BitVec 32 := 0#32
  let v182 : BitVec 1 := Scalar.cmpi .sgt v180 c0_i32_75
  let v183 : BitVec 32 := Scalar.extui v182
  let c0_i32_76 : BitVec 32 := 0#32
  let v184 : BitVec 1 := Scalar.cmpi .slt v180 c0_i32_76
  let v185 : BitVec 32 := Scalar.extui v184
  let v186 : BitVec 32 := Scalar.subi v183 v185
  let c128_i32_74 : BitVec 32 := 128#32
  let c0_i32_77 : BitVec 32 := 0#32
  let v187 : BitVec 1 := Scalar.cmpi .sgt c128_i32_74 c0_i32_77
  let v188 : BitVec 32 := Scalar.extui v187
  let c0_i32_78 : BitVec 32 := 0#32
  let v189 : BitVec 1 := Scalar.cmpi .slt c128_i32_74 c0_i32_78
  let v190 : BitVec 32 := Scalar.extui v189
  let v191 : BitVec 32 := Scalar.subi v188 v190
  let v192 : BitVec 1 := Scalar.cmpi .ne v186 v191
  let v193 : BitVec 32 := Scalar.remsi v180 c128_i32_74
  let c0_i32_79 : BitVec 32 := 0#32
  let v194 : BitVec 1 := Scalar.cmpi .ne v193 c0_i32_79
  let v195 : BitVec 1 := Scalar.andi v192 v194
  let v181 : BitVec 32 := Scalar.divsi v180 c128_i32_74
  let c1_i32_80 : BitVec 32 := 1#32
  let v196 : BitVec 32 := Scalar.subi v181 c1_i32_80
  let v197 : BitVec 32 := Scalar.select v195 v196 v181
  let c128_i32_81 : BitVec 32 := 128#32
  let v198 : BitVec 32 := Scalar.muli v197 c128_i32_81
  v198
def k0_off8 (i : grid0.Coords) : Fin 2 → Nat :=
  let c0 : Index := 0#32
  let arg0 : BitVec 32 := BitVec.ofNat 32 (i 0).val
  let c64_i32_67 : BitVec 32 := 64#32
  let c0_i32_68 : BitVec 32 := 0#32
  let v170 : BitVec 1 := Scalar.cmpi .eq c64_i32_67 c0_i32_68
  let c1_i32_69 : BitVec 32 := 1#32
  let v171 : BitVec 32 := Scalar.select v170 c1_i32_69 c64_i32_67
  let v172 : BitVec 32 := Scalar.remsi arg0 v171
  let c0_i32_71 : BitVec 32 := 0#32
  let v174 : BitVec 1 := Scalar.cmpi .slt v172 c0_i32_71
  let c0_i32_72 : BitVec 32 := 0#32
  let v175 : BitVec 1 := Scalar.cmpi .slt v171 c0_i32_72
  let v176 : BitVec 1 := Scalar.xori v174 v175
  let c0_i32_70 : BitVec 32 := 0#32
  let v173 : BitVec 1 := Scalar.cmpi .ne v172 c0_i32_70
  let v177 : BitVec 1 := Scalar.andi v176 v173
  let v178 : BitVec 32 := Scalar.addi v172 v171
  let v179 : BitVec 32 := Scalar.select v177 v178 v172
  let c32_i32_73 : BitVec 32 := 32#32
  let v180 : BitVec 32 := Scalar.muli v179 c32_i32_73
  let c0_i32_75 : BitVec 32 := 0#32
  let v182 : BitVec 1 := Scalar.cmpi .sgt v180 c0_i32_75
  let v183 : BitVec 32 := Scalar.extui v182
  let c0_i32_76 : BitVec 32 := 0#32
  let v184 : BitVec 1 := Scalar.cmpi .slt v180 c0_i32_76
  let v185 : BitVec 32 := Scalar.extui v184
  let v186 : BitVec 32 := Scalar.subi v183 v185
  let c128_i32_74 : BitVec 32 := 128#32
  let c0_i32_77 : BitVec 32 := 0#32
  let v187 : BitVec 1 := Scalar.cmpi .sgt c128_i32_74 c0_i32_77
  let v188 : BitVec 32 := Scalar.extui v187
  let c0_i32_78 : BitVec 32 := 0#32
  let v189 : BitVec 1 := Scalar.cmpi .slt c128_i32_74 c0_i32_78
  let v190 : BitVec 32 := Scalar.extui v189
  let v191 : BitVec 32 := Scalar.subi v188 v190
  let v192 : BitVec 1 := Scalar.cmpi .ne v186 v191
  let v193 : BitVec 32 := Scalar.remsi v180 c128_i32_74
  let c0_i32_79 : BitVec 32 := 0#32
  let v194 : BitVec 1 := Scalar.cmpi .ne v193 c0_i32_79
  let v195 : BitVec 1 := Scalar.andi v192 v194
  let v181 : BitVec 32 := Scalar.divsi v180 c128_i32_74
  let c1_i32_80 : BitVec 32 := 1#32
  let v196 : BitVec 32 := Scalar.subi v181 c1_i32_80
  let v197 : BitVec 32 := Scalar.select v195 v196 v181
  let c128_i32_81 : BitVec 32 := 128#32
  let v198 : BitVec 32 := Scalar.muli v197 c128_i32_81
  let v199 : BitVec 32 := v198
  let v245 : Index := Scalar.indexCast v199
  ![0, v245.toNat]
def k0_cond1 (i : grid0.Coords) : BitVec 1 :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c7_i32 : BitVec 32 := 7#32
  let v147 : BitVec 1 := Scalar.cmpi .eq v9 c7_i32
  let v148 : BitVec 32 := Scalar.extui v147
  let c0_i32_57 : BitVec 32 := 0#32
  let v149 : BitVec 1 := Scalar.cmpi .ne v148 c0_i32_57
  v149

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x18432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x18432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x18432 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x18432 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x18432 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x18432 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x18432 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S32x18432 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S32x18432 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "inv_d_model" => some ((1 / 18432 : ℝ) : EReal)
  | _ => none
-- ==== ReferenceIdeal.lean ====
abbrev S2x2048x18432 : Shape := ⟨3, ![2, 2048, 18432]⟩
abbrev S18432 : Shape := ⟨1, ![18432]⟩
abbrev S254 : Shape := ⟨1, ![254]⟩
abbrev S_ : Shape := ⟨0, ![]⟩
abbrev S1x1x18432 : Shape := ⟨3, ![1, 1, 18432]⟩
abbrev S2x2048 : Shape := ⟨2, ![2, 2048]⟩
abbrev S2x2048x1 : Shape := ⟨3, ![2, 2048, 1]⟩
abbrev S1x1x254 : Shape := ⟨3, ![1, 1, 254]⟩
abbrev S2x2048x254 : Shape := ⟨3, ![2, 2048, 254]⟩
abbrev S2x256x8x18432 : Shape := ⟨4, ![2, 256, 8, 18432]⟩
abbrev S8 : Shape := ⟨1, ![8]⟩
abbrev S8x1 : Shape := ⟨2, ![8, 1]⟩
abbrev S1x1x8x1 : Shape := ⟨4, ![1, 1, 8, 1]⟩
abbrev S2x256x18432 : Shape := ⟨3, ![2, 256, 18432]⟩

abbrev nBuf : Space → Nat
  | .hbm => 96
  | .vmem => 3
  | .smem => 0
  | _ => 0

abbrev bufTy : (tb : Table) → Fin (tcTables nBuf tb) → BufTy
  | .hbm, ⟨0, _⟩ => ⟨S2x2048x18432, .bf16⟩
  | .hbm, ⟨1, _⟩ => ⟨S2x2048x18432, .bf16⟩
  | .hbm, ⟨2, _⟩ => ⟨S18432, .f32⟩
  | .hbm, ⟨3, _⟩ => ⟨S2x2048x18432, .i32⟩
  | .hbm, ⟨4, _⟩ => ⟨S18432, .f32⟩
  | .hbm, ⟨5, _⟩ => ⟨S18432, .f32⟩
  | .hbm, ⟨6, _⟩ => ⟨S254, .f32⟩
  | .hbm, ⟨7, _⟩ => ⟨S_, .i32⟩
  | .hbm, ⟨8, _⟩ => ⟨S2x2048x18432, .i32⟩
  | .hbm, ⟨9, _⟩ => ⟨S2x2048x18432, .i1⟩
  | .hbm, ⟨10, _⟩ => ⟨S2x2048x18432, .f32⟩
  | .hbm, ⟨11, _⟩ => ⟨S1x1x18432, .f32⟩
  | .hbm, ⟨12, _⟩ => ⟨S2x2048x18432, .f32⟩
  | .hbm, ⟨13, _⟩ => ⟨S2x2048x18432, .f32⟩
  | .hbm, ⟨14, _⟩ => ⟨S_, .f32⟩
  | .hbm, ⟨15, _⟩ => ⟨S2x2048x18432, .f32⟩
  | .hbm, ⟨16, _⟩ => ⟨S2x2048x18432, .f32⟩
  | .hbm, ⟨17, _⟩ => ⟨S_, .f32⟩
  | .hbm, ⟨18, _⟩ => ⟨S_, .f32⟩
  | .hbm, ⟨19, _⟩ => ⟨S2x2048x18432, .f32⟩
  | .hbm, ⟨20, _⟩ => ⟨S2x2048x18432, .f32⟩
  | .hbm, ⟨21, _⟩ => ⟨S2x2048x18432, .f32⟩
  | .hbm, ⟨22, _⟩ => ⟨S2x2048x18432, .f32⟩
  | .hbm, ⟨23, _⟩ => ⟨S2x2048x18432, .bf16⟩
  | .hbm, ⟨24, _⟩ => ⟨S2x2048x18432, .f32⟩
  | .hbm, ⟨25, _⟩ => ⟨S_, .f32⟩
  | .hbm, ⟨26, _⟩ => ⟨S2x2048, .f32⟩
  | .hbm, ⟨27, _⟩ => ⟨S_, .f32⟩
  | .hbm, ⟨28, _⟩ => ⟨S2x2048, .f32⟩
  | .hbm, ⟨29, _⟩ => ⟨S2x2048, .f32⟩
  | .hbm, ⟨30, _⟩ => ⟨S2x2048x1, .f32⟩
  | .hbm, ⟨31, _⟩ => ⟨S2x2048x18432, .f32⟩
  | .hbm, ⟨32, _⟩ => ⟨S2x2048x18432, .f32⟩
  | .hbm, ⟨33, _⟩ => ⟨S2x2048x18432, .f32⟩
  | .hbm, ⟨34, _⟩ => ⟨S_, .f32⟩
  | .hbm, ⟨35, _⟩ => ⟨S2x2048, .f32⟩
  | .hbm, ⟨36, _⟩ => ⟨S_, .f32⟩
  | .hbm, ⟨37, _⟩ => ⟨S2x2048, .f32⟩
  | .hbm, ⟨38, _⟩ => ⟨S2x2048, .f32⟩
  | .hbm, ⟨39, _⟩ => ⟨S_, .f32⟩
  | .hbm, ⟨40, _⟩ => ⟨S2x2048, .f32⟩
  | .hbm, ⟨41, _⟩ => ⟨S2x2048, .f32⟩
  | .hbm, ⟨42, _⟩ => ⟨S2x2048, .f32⟩
  | .hbm, ⟨43, _⟩ => ⟨S2x2048x1, .f32⟩
  | .hbm, ⟨44, _⟩ => ⟨S2x2048x18432, .f32⟩
  | .hbm, ⟨45, _⟩ => ⟨S2x2048x18432, .f32⟩
  | .hbm, ⟨46, _⟩ => ⟨S1x1x18432, .f32⟩
  | .hbm, ⟨47, _⟩ => ⟨S2x2048x18432, .f32⟩
  | .hbm, ⟨48, _⟩ => ⟨S2x2048x18432, .f32⟩
  | .hbm, ⟨49, _⟩ => ⟨S1x1x18432, .f32⟩
  | .hbm, ⟨50, _⟩ => ⟨S2x2048x18432, .f32⟩
  | .hbm, ⟨51, _⟩ => ⟨S2x2048x18432, .f32⟩
  | .hbm, ⟨52, _⟩ => ⟨S2x2048x18432, .f32⟩
  | .hbm, ⟨53, _⟩ => ⟨S_, .f32⟩
  | .hbm, ⟨54, _⟩ => ⟨S2x2048, .f32⟩
  | .hbm, ⟨55, _⟩ => ⟨S_, .f32⟩
  | .hbm, ⟨56, _⟩ => ⟨S2x2048, .f32⟩
  | .hbm, ⟨57, _⟩ => ⟨S2x2048, .f32⟩
  | .hbm, ⟨58, _⟩ => ⟨S2x2048x1, .f32⟩
  | .hbm, ⟨59, _⟩ => ⟨S1x1x254, .f32⟩
  | .hbm, ⟨60, _⟩ => ⟨S2x2048x254, .f32⟩
  | .hbm, ⟨61, _⟩ => ⟨S2x2048x254, .f32⟩
  | .hbm, ⟨62, _⟩ => ⟨S2x2048x254, .i1⟩
  | .hbm, ⟨63, _⟩ => ⟨S_, .f32⟩
  | .hbm, ⟨64, _⟩ => ⟨S_, .f32⟩
  | .hbm, ⟨65, _⟩ => ⟨S2x2048x254, .f32⟩
  | .hbm, ⟨66, _⟩ => ⟨S2x2048x254, .f32⟩
  | .hbm, ⟨67, _⟩ => ⟨S2x2048x254, .f32⟩
  | .hbm, ⟨68, _⟩ => ⟨S_, .f32⟩
  | .hbm, ⟨69, _⟩ => ⟨S2x2048, .f32⟩
  | .hbm, ⟨70, _⟩ => ⟨S_, .f32⟩
  | .hbm, ⟨71, _⟩ => ⟨S2x2048, .f32⟩
  | .hbm, ⟨72, _⟩ => ⟨S2x2048, .i1⟩
  | .hbm, ⟨73, _⟩ => ⟨S_, .f32⟩
  | .hbm, ⟨74, _⟩ => ⟨S2x2048, .f32⟩
  | .hbm, ⟨75, _⟩ => ⟨S2x2048, .i1⟩
  | .hbm, ⟨76, _⟩ => ⟨S2x2048, .i1⟩
  | .hbm, ⟨77, _⟩ => ⟨S_, .f32⟩
  | .hbm, ⟨78, _⟩ => ⟨S_, .f32⟩
  | .hbm, ⟨79, _⟩ => ⟨S2x2048, .f32⟩
  | .hbm, ⟨80, _⟩ => ⟨S2x2048, .f32⟩
  | .hbm, ⟨81, _⟩ => ⟨S_, .f32⟩
  | .hbm, ⟨82, _⟩ => ⟨S2x2048, .f32⟩
  | .hbm, ⟨83, _⟩ => ⟨S2x2048, .f32⟩
  | .hbm, ⟨84, _⟩ => ⟨S2x256x8x18432, .i1⟩
  | .hbm, ⟨85, _⟩ => ⟨S2x256x8x18432, .i32⟩
  | .hbm, ⟨86, _⟩ => ⟨S8, .i32⟩
  | .hbm, ⟨87, _⟩ => ⟨S8x1, .i32⟩
  | .hbm, ⟨88, _⟩ => ⟨S1x1x8x1, .i32⟩
  | .hbm, ⟨89, _⟩ => ⟨S2x256x8x18432, .i32⟩
  | .hbm, ⟨90, _⟩ => ⟨S2x256x8x18432, .i32⟩
  | .hbm, ⟨91, _⟩ => ⟨S_, .i32⟩
  | .hbm, ⟨92, _⟩ => ⟨S2x256x18432, .i32⟩
  | .hbm, ⟨93, _⟩ => ⟨S2x256x18432, .i8⟩
  | .hbm, ⟨94, _⟩ => ⟨S2x2048x1, .f32⟩
  | .hbm, ⟨95, _⟩ => ⟨S2x2048x18432, .fp8e4m3⟩
  | .local _ .vmem, ⟨0, _⟩ => ⟨S2x2048x18432, .f32⟩
  | .local _ .vmem, ⟨1, _⟩ => ⟨S2x2048x1, .f32⟩
  | .local _ .vmem, ⟨2, _⟩ => ⟨S2x2048x18432, .fp8e4m3⟩
  | _, _ => ⟨S2x2048x18432, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_v44 : Ref sig .tc := ⟨.hbm, 67, rfl⟩
abbrev main_cst_10 : Ref sig .tc := ⟨.hbm, 68, rfl⟩
abbrev main_v45 : Ref sig .tc := ⟨.hbm, 69, rfl⟩
abbrev main_cst_11 : Ref sig .tc := ⟨.hbm, 70, rfl⟩
abbrev main_v46 : Ref sig .tc := ⟨.hbm, 71, rfl⟩
abbrev main_v47 : Ref sig .tc := ⟨.hbm, 72, rfl⟩
abbrev main_cst_12 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_13 : Ref sig .tc := ⟨.hbm, 77, rfl⟩
abbrev main_call2_v0 : Ref sig .tc := ⟨.hbm, 78, rfl⟩
abbrev main_call2_v1 : Ref sig .tc := ⟨.hbm, 79, rfl⟩
abbrev main_v51 : Ref sig .tc := ⟨.hbm, 80, rfl⟩
abbrev main_cst_14 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_c_15 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2x2048x18432 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x2048x18432 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Kernel.Loop1.lean ====
/- The first pass of the body (dropout, addition, the sum, the mask words), as a counted loop: where its stores of mask
   words lie, what one trip yields and writes, and the invariant by which a run goes through the loop. -/
module

public import proofs.«01_k».proof.Proof.Gen.Kernel.Loops

@[expose] public section

set_option maxRecDepth 8192
set_option maxHeartbeats 4000000

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- Step `i` writes its mask words into row `i mod 8` of the scratch, trip `k0_t1`'s unit `r` at column
    `1536 k0_t1 + 256 r`. -/
theorem k0_off3_eq : ∀ (i : grid0.Coords) (k0_t1 : Fin k0_t1_loop.trips), ∀ (r : Fin 6), k0_off3 i k0_t1 (BitVec.ofNat 32 (256 * r.val)) = ![((i 0).val % 8), 1536 * k0_t1.val + 256 * r.val] := by
  intro i k0_t1 r
  have r_r : r.val < 6 := r.isLt
  have h_c0_i32_122 : Affine.IsInt (BitVec.ofNat 32 (256 * r.val)) (256 * (r.val : Int)) := Affine.ofNat _ (by omega)
  have r_i0 : (i 0).val < 128 := (i 0).isLt
  have h_arg0 : Affine.IsInt (BitVec.ofNat 32 (i 0).val) (((i 0).val : Int)) := Affine.ofNat _ (by omega)
  have h_c8_i32 : Affine.IsInt 8#32 (8) := Affine.ofNat _ (by omega)
  have h_c0_i32 : Affine.IsInt 0#32 (0) := Affine.ofNat _ (by omega)
  have h_v0 : Affine.Fails _ := Affine.eq_fails h_c8_i32 h_c0_i32 (by omega)
  have h_c1_i32 : Affine.IsInt 1#32 (1) := Affine.ofNat _ (by omega)
  have h_v1 : Affine.IsInt _ (8) := Affine.select_fails h_v0 h_c1_i32 h_c8_i32 (by omega)
  have h_v2 : Affine.IsInt _ ((((i 0).val : Int) % 8)) := Affine.remsi h_arg0 h_v1 (by omega)
  have h_c0_i32_1 : Affine.IsInt 0#32 (0) := Affine.ofNat _ (by omega)
  have h_v4 : Affine.Fails _ := Affine.slt_fails h_v2 h_c0_i32_1 (by omega)
  have h_c0_i32_2 : Affine.IsInt 0#32 (0) := Affine.ofNat _ (by omega)
  have h_v5 : Affine.Fails _ := Affine.slt_fails h_v1 h_c0_i32_2 (by omega)
  have h_v6 : Affine.Fails _ := Affine.xori_ff h_v4 h_v5
  have h_c0_i32_0 : Affine.IsInt 0#32 (0) := Affine.ofNat _ (by omega)
  have h_v3 : Affine.Term _ := Affine.cmpi_term .ne h_v2 h_c0_i32_0
  have h_v7 : Affine.Fails _ := Affine.andi_fails_left h_v6 h_v3
  have h_v8 : Affine.IsInt _ ((((i 0).val : Int) % 8) + 8) := Affine.addi h_v2 h_v1 (by omega)
  have h_v9 : Affine.IsInt _ ((((i 0).val : Int) % 8)) := Affine.select_fails h_v7 h_v8 h_v2 (by omega)
  have h_v366 : Affine.IsInt _ ((((i 0).val : Int) % 8)) := Affine.indexCast h_v9
  have h_c0_i32_9 : Affine.IsInt 0#32 (0) := Affine.ofNat _ (by omega)
  have h_c1_i32_10 : Affine.IsInt 1#32 (1) := Affine.ofNat _ (by omega)
  have r_k0_t1 : k0_t1.val < 12 := Nat.lt_of_lt_of_le k0_t1.isLt k0_t1_abs.2.1
  have h_arg15 : Affine.IsInt _ ((k0_t1.val : Int)) := Affine.iv h_c0_i32_9 h_c1_i32_10 k0_t1.val (by omega)
  have c_arg15 : (k0_t1.val : Int) ≤ 12 - 1 := Affine.iv_lt k0_t1_abs.1 k0_t1.isLt k0_t1_abs.2.2 h_arg15
  have h_c1536_i32 : Affine.IsInt 1536#32 (1536) := Affine.ofNat _ (by omega)
  have h_v313 : Affine.IsInt _ (1536 * (k0_t1.val : Int)) := Affine.muli h_arg15 h_c1536_i32 (by omega)
  have h_v314 : Affine.IsInt _ (1536 * (k0_t1.val : Int) + 256 * (r.val : Int)) := Affine.addi h_v313 h_c0_i32_122 (by omega)
  have h_v367 : Affine.IsInt _ (1536 * (k0_t1.val : Int) + 256 * (r.val : Int)) := Affine.indexCast h_v314
  exact Affine.vec_cons h_v366 (by omega) <| Affine.vec_cons h_v367 (by omega) <| Affine.vec_nil
instance closedOff_k0_off3_0 (i : grid0.Coords) (k0_t1 : Fin k0_t1_loop.trips) : ClosedOff (k0_off3 i k0_t1 (BitVec.ofNat 32 0)) := ⟨![((i 0).val % 8), 1536 * k0_t1.val + 256 * 0], k0_off3_eq i k0_t1 ⟨0, by decide⟩⟩
instance closedOff_k0_off3_1 (i : grid0.Coords) (k0_t1 : Fin k0_t1_loop.trips) : ClosedOff (k0_off3 i k0_t1 (BitVec.ofNat 32 256)) := ⟨![((i 0).val % 8), 1536 * k0_t1.val + 256 * 1], k0_off3_eq i k0_t1 ⟨1, by decide⟩⟩
instance closedOff_k0_off3_2 (i : grid0.Coords) (k0_t1 : Fin k0_t1_loop.trips) : ClosedOff (k0_off3 i k0_t1 (BitVec.ofNat 32 512)) := ⟨![((i 0).val % 8), 1536 * k0_t1.val + 256 * 2], k0_off3_eq i k0_t1 ⟨2, by decide⟩⟩
instance closedOff_k0_off3_3 (i : grid0.Coords) (k0_t1 : Fin k0_t1_loop.trips) : ClosedOff (k0_off3 i k0_t1 (BitVec.ofNat 32 768)) := ⟨![((i 0).val % 8), 1536 * k0_t1.val + 256 * 3], k0_off3_eq i k0_t1 ⟨3, by decide⟩⟩
instance closedOff_k0_off3_4 (i : grid0.Coords) (k0_t1 : Fin k0_t1_loop.trips) : ClosedOff (k0_off3 i k0_t1 (BitVec.ofNat 32 1024)) := ⟨![((i 0).val % 8), 1536 * k0_t1.val + 256 * 4], k0_off3_eq i k0_t1 ⟨4, by decide⟩⟩
instance closedOff_k0_off3_5 (i : grid0.Coords) (k0_t1 : Fin k0_t1_loop.trips) : ClosedOff (k0_off3 i k0_t1 (BitVec.ofNat 32 1280)) := ⟨![((i 0).val % 8), 1536 * k0_t1.val + 256 * 5], k0_off3_eq i k0_t1 ⟨5, by decide⟩⟩
/-- The statistics are read and written in the group of 128 lanes that holds the step's 32 rows. -/
theorem k0_off8_eq : ∀ i : grid0.Coords, k0_off8 i = ![0, 128 * ((32 * ((i 0).val % 64)) / 128)] := by decide +kernel
instance closedOff_k0_off8 (i : grid0.Coords) : ClosedOff (k0_off8 i) := ⟨![0, 128 * ((32 * ((i 0).val % 64)) / 128)], k0_off8_eq i⟩

/-! ## One trip, the state before a trip, the invariant -/

/-- One trip's resources: what the region reads (arg1, arg2, arg3, arg4) at its contents, what it
   writes (arg12, arg14) at any. -/
abbrev Trip_k0_t1 (c : Dev nD) (arg1 : Memref sig .tc .vmem S32x18432 .bf16) (arg2 : Memref sig .tc .vmem S32x18432 .bf16) (arg3 : Memref sig .tc .vmem S1x18432 .f32) (arg4 : Memref sig .tc .vmem S32x18432 .i32) (arg12 : Memref sig .tc .vmem S32x18432 .bf16) (arg14 : Memref sig .tc .vmem S8x18432 .i32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (f_arg12 : BufTy.Contents (Elt F) arg12.view.ty) (f_arg14 : BufTy.Contents (Elt F) arg14.view.ty) : sProp 𝕄G :=
  iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg12.view.loc (c : Thread nD τ) ↦[arg12.view.set]{fullShare} f_arg12) ∗ (arg14.view.loc (c : Thread nD τ) ↦[arg14.view.set]{fullShare} f_arg14))

/-- ONE TRIP of `k0_t1_loop` at a symbolic `k` and carried value `acc`, run by `sl_exec` (its
   rectangles where the program's in-range evidence puts them, their places unread): what it yields
   and the pieces it writes into arg12, arg14 are the run's own finds — the witnesses `sl_close`
   assigns handing the buffers to the continuation, as functions of the carried value.
   `@[irreducible]`: cited, never unfolded. -/
@[irreducible] def trip_k0_t1 (𝒱 : Variants) (c : Dev nD) (bd : Option 𝒱.V) (i : grid0.Coords) (arg1 : Memref sig .tc .vmem S32x18432 .bf16) (harg1 : arg1.IsWhole) (arg2 : Memref sig .tc .vmem S32x18432 .bf16) (harg2 : arg2.IsWhole) (arg3 : Memref sig .tc .vmem S1x18432 .f32) (harg3 : arg3.IsWhole) (arg4 : Memref sig .tc .vmem S32x18432 .i32) (harg4 : arg4.IsWhole) (arg5 : Memref sig .tc .vmem S1x18432 .f32) (harg5 : arg5.IsWhole) (arg6 : Memref sig .tc .vmem S1x18432 .f32) (harg6 : arg6.IsWhole) (arg7 : Memref sig .tc .vmem S32x18432 .fp8e4m3) (harg7 : arg7.IsWhole) (arg8 : Memref sig .tc .vmem S2x2048 .f32) (harg8 : arg8.IsWhole) (arg9 : Memref sig .tc .vmem S32x18432 .i8) (harg9 : arg9.IsWhole) (arg10 : Memref sig .tc .vmem S2x2048 .f32) (harg10 : arg10.IsWhole) (arg11 : Memref sig .tc .vmem S2x2048 .f32) (harg11 : arg11.IsWhole) (arg12 : Memref sig .tc .vmem S32x18432 .bf16) (harg12 : arg12.IsWhole) (arg13 : Memref sig .tc .vmem S32x18432 .f32) (harg13 : arg13.IsWhole) (arg14 : Memref sig .tc .vmem S8x18432 .i32) (harg14 : arg14.IsWhole) (v9 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (k : Fin k0_t1_loop.trips) :
    Σ' (R_k0_t1 : ((FVec F S32x128 .f32) → FVec F S32x128 .f32)) (L_arg12 : ((FVec F S32x128 .f32) → List (View.Piece (Elt F) S32x18432 .bf16))) , { L_arg14 : ((FVec F S32x128 .f32) → List (View.Piece (Elt F) S8x18432 .i32)) // ∀ (E : Set ℕ) (acc : FVec F S32x128 .f32) (f_arg12 : BufTy.Contents (Elt F) arg12.view.ty) (f_arg14 : BufTy.Contents (Elt F) arg14.view.ty),
      Trip_k0_t1 (F := F) c arg1 arg2 arg3 arg4 arg12 arg14 X_arg1 X_arg2 X_arg3 X_arg4 f_arg12 f_arg14
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 v9 k acc)
          (fun yld => iprop(⌜yld = R_k0_t1 acc⌝ ∗ Trip_k0_t1 (F := F) c arg1 arg2 arg3 arg4 arg12 arg14 X_arg1 X_arg2 X_arg3 X_arg4 (arg12.view.writes (Elt F) f_arg12 (L_arg12 acc)) (arg14.view.writes (Elt F) f_arg14 (L_arg14 acc)))) } := by
  have hk : k.val < 12 := Nat.lt_of_lt_of_le k.isLt k0_t1_abs.2.1
  refine ⟨?_, ?_, ?_, fun E acc f_arg12 f_arg14 => ?run⟩
  case run =>
    unfold k0_t1_body
    iintro ⟨HR_arg1, HR_arg2, HR_arg3, HR_arg4, HW_arg12, HW_arg14⟩
    sl_exec
    sl_step
    sl_close

/-- The trip's result (a plain projection of `trip_…`, for the recursion below to cite without its
   proof). -/
abbrev tripR_k0_t1 (𝒱 : Variants) (c : Dev nD) (bd : Option 𝒱.V) (i : grid0.Coords) (arg1 : Memref sig .tc .vmem S32x18432 .bf16) (harg1 : arg1.IsWhole) (arg2 : Memref sig .tc .vmem S32x18432 .bf16) (harg2 : arg2.IsWhole) (arg3 : Memref sig .tc .vmem S1x18432 .f32) (harg3 : arg3.IsWhole) (arg4 : Memref sig .tc .vmem S32x18432 .i32) (harg4 : arg4.IsWhole) (arg5 : Memref sig .tc .vmem S1x18432 .f32) (harg5 : arg5.IsWhole) (arg6 : Memref sig .tc .vmem S1x18432 .f32) (harg6 : arg6.IsWhole) (arg7 : Memref sig .tc .vmem S32x18432 .fp8e4m3) (harg7 : arg7.IsWhole) (arg8 : Memref sig .tc .vmem S2x2048 .f32) (harg8 : arg8.IsWhole) (arg9 : Memref sig .tc .vmem S32x18432 .i8) (harg9 : arg9.IsWhole) (arg10 : Memref sig .tc .vmem S2x2048 .f32) (harg10 : arg10.IsWhole) (arg11 : Memref sig .tc .vmem S2x2048 .f32) (harg11 : arg11.IsWhole) (arg12 : Memref sig .tc .vmem S32x18432 .bf16) (harg12 : arg12.IsWhole) (arg13 : Memref sig .tc .vmem S32x18432 .f32) (harg13 : arg13.IsWhole) (arg14 : Memref sig .tc .vmem S8x18432 .i32) (harg14 : arg14.IsWhole) (v9 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (k : Fin k0_t1_loop.trips) (acc : FVec F S32x128 .f32) : FVec F S32x128 .f32 :=
  (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v9 X_arg1 X_arg2 X_arg3 X_arg4 k).1 acc

/-- The trip's piece lists (plain projections of `trip_…`, for the recursion below to cite without
   its proof), at the carried value. -/
abbrev tripL_k0_t1 (𝒱 : Variants) (c : Dev nD) (bd : Option 𝒱.V) (i : grid0.Coords) (arg1 : Memref sig .tc .vmem S32x18432 .bf16) (harg1 : arg1.IsWhole) (arg2 : Memref sig .tc .vmem S32x18432 .bf16) (harg2 : arg2.IsWhole) (arg3 : Memref sig .tc .vmem S1x18432 .f32) (harg3 : arg3.IsWhole) (arg4 : Memref sig .tc .vmem S32x18432 .i32) (harg4 : arg4.IsWhole) (arg5 : Memref sig .tc .vmem S1x18432 .f32) (harg5 : arg5.IsWhole) (arg6 : Memref sig .tc .vmem S1x18432 .f32) (harg6 : arg6.IsWhole) (arg7 : Memref sig .tc .vmem S32x18432 .fp8e4m3) (harg7 : arg7.IsWhole) (arg8 : Memref sig .tc .vmem S2x2048 .f32) (harg8 : arg8.IsWhole) (arg9 : Memref sig .tc .vmem S32x18432 .i8) (harg9 : arg9.IsWhole) (arg10 : Memref sig .tc .vmem S2x2048 .f32) (harg10 : arg10.IsWhole) (arg11 : Memref sig .tc .vmem S2x2048 .f32) (harg11 : arg11.IsWhole) (arg12 : Memref sig .tc .vmem S32x18432 .bf16) (harg12 : arg12.IsWhole) (arg13 : Memref sig .tc .vmem S32x18432 .f32) (harg13 : arg13.IsWhole) (arg14 : Memref sig .tc .vmem S8x18432 .i32) (harg14 : arg14.IsWhole) (v9 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (k : Fin k0_t1_loop.trips) (acc : FVec F S32x128 .f32) : List (View.Piece (Elt F) S32x18432 .bf16) × List (View.Piece (Elt F) S8x18432 .i32) :=
  ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v9 X_arg1 X_arg2 X_arg3 X_arg4 k).2.1 acc, (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v9 X_arg1 X_arg2 X_arg3 X_arg4 k).2.2.1 acc)

/-- Trip `k`'s contribution to the state the recursion `st_k0_t1` below carries (`prev`): its result
   as the new carried value and its pieces in front, per written memref; past the last trip, `prev`
   itself. -/
@[irreducible] def st_k0_t1Step (𝒱 : Variants) (c : Dev nD) (bd : Option 𝒱.V) (i : grid0.Coords) (arg1 : Memref sig .tc .vmem S32x18432 .bf16) (harg1 : arg1.IsWhole) (arg2 : Memref sig .tc .vmem S32x18432 .bf16) (harg2 : arg2.IsWhole) (arg3 : Memref sig .tc .vmem S1x18432 .f32) (harg3 : arg3.IsWhole) (arg4 : Memref sig .tc .vmem S32x18432 .i32) (harg4 : arg4.IsWhole) (arg5 : Memref sig .tc .vmem S1x18432 .f32) (harg5 : arg5.IsWhole) (arg6 : Memref sig .tc .vmem S1x18432 .f32) (harg6 : arg6.IsWhole) (arg7 : Memref sig .tc .vmem S32x18432 .fp8e4m3) (harg7 : arg7.IsWhole) (arg8 : Memref sig .tc .vmem S2x2048 .f32) (harg8 : arg8.IsWhole) (arg9 : Memref sig .tc .vmem S32x18432 .i8) (harg9 : arg9.IsWhole) (arg10 : Memref sig .tc .vmem S2x2048 .f32) (harg10 : arg10.IsWhole) (arg11 : Memref sig .tc .vmem S2x2048 .f32) (harg11 : arg11.IsWhole) (arg12 : Memref sig .tc .vmem S32x18432 .bf16) (harg12 : arg12.IsWhole) (arg13 : Memref sig .tc .vmem S32x18432 .f32) (harg13 : arg13.IsWhole) (arg14 : Memref sig .tc .vmem S8x18432 .i32) (harg14 : arg14.IsWhole) (v9 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (init : FVec F S32x128 .f32) (k : ℕ) (prev : (FVec F S32x128 .f32) × List (View.Piece (Elt F) S32x18432 .bf16) × List (View.Piece (Elt F) S8x18432 .i32)) : (FVec F S32x128 .f32) × List (View.Piece (Elt F) S32x18432 .bf16) × List (View.Piece (Elt F) S8x18432 .i32) :=
  if h : k < k0_t1_loop.trips then
    (tripR_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v9 X_arg1 X_arg2 X_arg3 X_arg4 ⟨k, h⟩ prev.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v9 X_arg1 X_arg2 X_arg3 X_arg4 ⟨k, h⟩ prev.1).1 ++ prev.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v9 X_arg1 X_arg2 X_arg3 X_arg4 ⟨k, h⟩ prev.1).2 ++ prev.2.2)
  else prev

/-- The STATE before trip `k`: the carried value and, per written memref, the pieces of the trips
   before (last first), from the loop's initial value `init`. -/
def st_k0_t1 (𝒱 : Variants) (c : Dev nD) (bd : Option 𝒱.V) (i : grid0.Coords) (arg1 : Memref sig .tc .vmem S32x18432 .bf16) (harg1 : arg1.IsWhole) (arg2 : Memref sig .tc .vmem S32x18432 .bf16) (harg2 : arg2.IsWhole) (arg3 : Memref sig .tc .vmem S1x18432 .f32) (harg3 : arg3.IsWhole) (arg4 : Memref sig .tc .vmem S32x18432 .i32) (harg4 : arg4.IsWhole) (arg5 : Memref sig .tc .vmem S1x18432 .f32) (harg5 : arg5.IsWhole) (arg6 : Memref sig .tc .vmem S1x18432 .f32) (harg6 : arg6.IsWhole) (arg7 : Memref sig .tc .vmem S32x18432 .fp8e4m3) (harg7 : arg7.IsWhole) (arg8 : Memref sig .tc .vmem S2x2048 .f32) (harg8 : arg8.IsWhole) (arg9 : Memref sig .tc .vmem S32x18432 .i8) (harg9 : arg9.IsWhole) (arg10 : Memref sig .tc .vmem S2x2048 .f32) (harg10 : arg10.IsWhole) (arg11 : Memref sig .tc .vmem S2x2048 .f32) (harg11 : arg11.IsWhole) (arg12 : Memref sig .tc .vmem S32x18432 .bf16) (harg12 : arg12.IsWhole) (arg13 : Memref sig .tc .vmem S32x18432 .f32) (harg13 : arg13.IsWhole) (arg14 : Memref sig .tc .vmem S8x18432 .i32) (harg14 : arg14.IsWhole) (v9 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (init : FVec F S32x128 .f32) : ℕ → (FVec F S32x128 .f32) × List (View.Piece (Elt F) S32x18432 .bf16) × List (View.Piece (Elt F) S8x18432 .i32)
  | 0 => (init, [], [])
  | k + 1 => st_k0_t1Step 𝒱 c bd i arg1 harg1 arg2 harg2 arg3 harg3 arg4 harg4 arg5 harg5 arg6 harg6 arg7 harg7 arg8 harg8 arg9 harg9 arg10 harg10 arg11 harg11 arg12 harg12 arg13 harg13 arg14 harg14 v9 X_arg1 X_arg2 X_arg3 X_arg4 init k (st_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 v9 X_arg1 X_arg2 X_arg3 X_arg4 init k)

theorem st_k0_t1_succ (𝒱 : Variants) (c : Dev nD) (bd : Option 𝒱.V) (i : grid0.Coords) (arg1 : Memref sig .tc .vmem S32x18432 .bf16) (harg1 : arg1.IsWhole) (arg2 : Memref sig .tc .vmem S32x18432 .bf16) (harg2 : arg2.IsWhole) (arg3 : Memref sig .tc .vmem S1x18432 .f32) (harg3 : arg3.IsWhole) (arg4 : Memref sig .tc .vmem S32x18432 .i32) (harg4 : arg4.IsWhole) (arg5 : Memref sig .tc .vmem S1x18432 .f32) (harg5 : arg5.IsWhole) (arg6 : Memref sig .tc .vmem S1x18432 .f32) (harg6 : arg6.IsWhole) (arg7 : Memref sig .tc .vmem S32x18432 .fp8e4m3) (harg7 : arg7.IsWhole) (arg8 : Memref sig .tc .vmem S2x2048 .f32) (harg8 : arg8.IsWhole) (arg9 : Memref sig .tc .vmem S32x18432 .i8) (harg9 : arg9.IsWhole) (arg10 : Memref sig .tc .vmem S2x2048 .f32) (harg10 : arg10.IsWhole) (arg11 : Memref sig .tc .vmem S2x2048 .f32) (harg11 : arg11.IsWhole) (arg12 : Memref sig .tc .vmem S32x18432 .bf16) (harg12 : arg12.IsWhole) (arg13 : Memref sig .tc .vmem S32x18432 .f32) (harg13 : arg13.IsWhole) (arg14 : Memref sig .tc .vmem S8x18432 .i32) (harg14 : arg14.IsWhole) (v9 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (init : FVec F S32x128 .f32) (k : Fin k0_t1_loop.trips) :
    st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v9 X_arg1 X_arg2 X_arg3 X_arg4 init (k.val + 1)
      = ((tripR_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v9 X_arg1 X_arg2 X_arg3 X_arg4 k (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v9 X_arg1 X_arg2 X_arg3 X_arg4 init k.val).1), (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v9 X_arg1 X_arg2 X_arg3 X_arg4 k (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v9 X_arg1 X_arg2 X_arg3 X_arg4 init k.val).1).1 ++ (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v9 X_arg1 X_arg2 X_arg3 X_arg4 init k.val).2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v9 X_arg1 X_arg2 X_arg3 X_arg4 k (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v9 X_arg1 X_arg2 X_arg3 X_arg4 init k.val).1).2 ++ (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v9 X_arg1 X_arg2 X_arg3 X_arg4 init k.val).2.2) := by
  rw [st_k0_t1.eq_2]; unfold st_k0_t1Step; exact dif_pos k.isLt

/-- The carried value before trip 0 is the initial one: the invariant's equation at loop entry,
   which the run closes by this (`sl_pure`) without unfolding the value it holds. -/
theorem st_k0_t1_zero (𝒱 : Variants) (c : Dev nD) (bd : Option 𝒱.V) (i : grid0.Coords) (arg1 : Memref sig .tc .vmem S32x18432 .bf16) (harg1 : arg1.IsWhole) (arg2 : Memref sig .tc .vmem S32x18432 .bf16) (harg2 : arg2.IsWhole) (arg3 : Memref sig .tc .vmem S1x18432 .f32) (harg3 : arg3.IsWhole) (arg4 : Memref sig .tc .vmem S32x18432 .i32) (harg4 : arg4.IsWhole) (arg5 : Memref sig .tc .vmem S1x18432 .f32) (harg5 : arg5.IsWhole) (arg6 : Memref sig .tc .vmem S1x18432 .f32) (harg6 : arg6.IsWhole) (arg7 : Memref sig .tc .vmem S32x18432 .fp8e4m3) (harg7 : arg7.IsWhole) (arg8 : Memref sig .tc .vmem S2x2048 .f32) (harg8 : arg8.IsWhole) (arg9 : Memref sig .tc .vmem S32x18432 .i8) (harg9 : arg9.IsWhole) (arg10 : Memref sig .tc .vmem S2x2048 .f32) (harg10 : arg10.IsWhole) (arg11 : Memref sig .tc .vmem S2x2048 .f32) (harg11 : arg11.IsWhole) (arg12 : Memref sig .tc .vmem S32x18432 .bf16) (harg12 : arg12.IsWhole) (arg13 : Memref sig .tc .vmem S32x18432 .f32) (harg13 : arg13.IsWhole) (arg14 : Memref sig .tc .vmem S8x18432 .i32) (harg14 : arg14.IsWhole) (v9 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (init : FVec F S32x128 .f32) :
    (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v9 X_arg1 X_arg2 X_arg3 X_arg4 init 0).1 = init := rfl

/-- THE INVARIANT before trip `k`: arg1, arg2, arg3, arg4 read at `X_·`; arg12, arg14 holding the
   pieces of the trips before `k` written over the contents at loop entry `G_·` (stated `∃ f, … ∗ ⌜f
   = …⌝`, so that a hypothesis of any contents matches and the equation is what is proved); and
   `acc` equal to the state's carried value (an equation the run substitutes after the loop). -/
abbrev inv_k0_t1 (𝒱 : Variants) (c : Dev nD) (bd : Option 𝒱.V) (i : grid0.Coords) (arg1 : Memref sig .tc .vmem S32x18432 .bf16) (harg1 : arg1.IsWhole) (arg2 : Memref sig .tc .vmem S32x18432 .bf16) (harg2 : arg2.IsWhole) (arg3 : Memref sig .tc .vmem S1x18432 .f32) (harg3 : arg3.IsWhole) (arg4 : Memref sig .tc .vmem S32x18432 .i32) (harg4 : arg4.IsWhole) (arg5 : Memref sig .tc .vmem S1x18432 .f32) (harg5 : arg5.IsWhole) (arg6 : Memref sig .tc .vmem S1x18432 .f32) (harg6 : arg6.IsWhole) (arg7 : Memref sig .tc .vmem S32x18432 .fp8e4m3) (harg7 : arg7.IsWhole) (arg8 : Memref sig .tc .vmem S2x2048 .f32) (harg8 : arg8.IsWhole) (arg9 : Memref sig .tc .vmem S32x18432 .i8) (harg9 : arg9.IsWhole) (arg10 : Memref sig .tc .vmem S2x2048 .f32) (harg10 : arg10.IsWhole) (arg11 : Memref sig .tc .vmem S2x2048 .f32) (harg11 : arg11.IsWhole) (arg12 : Memref sig .tc .vmem S32x18432 .bf16) (harg12 : arg12.IsWhole) (arg13 : Memref sig .tc .vmem S32x18432 .f32) (harg13 : arg13.IsWhole) (arg14 : Memref sig .tc .vmem S8x18432 .i32) (harg14 : arg14.IsWhole) (v9 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (G_arg12 : BufTy.Contents (Elt F) arg12.view.ty) (G_arg14 : BufTy.Contents (Elt F) arg14.view.ty) (init : FVec F S32x128 .f32) (k : ℕ) (acc : FVec F S32x128 .f32) : sProp 𝕄G :=
  iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (∃ f, (arg12.view.loc (c : Thread nD τ) ↦[arg12.view.set]{fullShare} f) ∗ ⌜f = arg12.view.writes (Elt F) G_arg12 (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v9 X_arg1 X_arg2 X_arg3 X_arg4 init k).2.1⌝) ∗ (∃ f, (arg14.view.loc (c : Thread nD τ) ↦[arg14.view.set]{fullShare} f) ∗ ⌜f = arg14.view.writes (Elt F) G_arg14 (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v9 X_arg1 X_arg2 X_arg3 X_arg4 init k).2.2⌝) ∗ ⌜acc = (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v9 X_arg1 X_arg2 X_arg3 X_arg4 init k).1⌝)

set_option warn.classDefReducibility false in
/-- THE LOOP BY ITS INVARIANT — generated (`@[sl_loop]`: `sl_exec` finds it meeting `k0_t1_loop`,
   fixing `X_· G_·` and `init` against the context; after the loop each written memref holds `writes
   G (st … trips).2` and what it yields is `(st … trips).1`). -/
@[sl_loop] def loopInv_k0_t1 (𝒱 : Variants) (c : Dev nD) (bd : Option 𝒱.V) (E : Set ℕ) (i : grid0.Coords) (arg1 : Memref sig .tc .vmem S32x18432 .bf16) (harg1 : arg1.IsWhole) (arg2 : Memref sig .tc .vmem S32x18432 .bf16) (harg2 : arg2.IsWhole) (arg3 : Memref sig .tc .vmem S1x18432 .f32) (harg3 : arg3.IsWhole) (arg4 : Memref sig .tc .vmem S32x18432 .i32) (harg4 : arg4.IsWhole) (arg5 : Memref sig .tc .vmem S1x18432 .f32) (harg5 : arg5.IsWhole) (arg6 : Memref sig .tc .vmem S1x18432 .f32) (harg6 : arg6.IsWhole) (arg7 : Memref sig .tc .vmem S32x18432 .fp8e4m3) (harg7 : arg7.IsWhole) (arg8 : Memref sig .tc .vmem S2x2048 .f32) (harg8 : arg8.IsWhole) (arg9 : Memref sig .tc .vmem S32x18432 .i8) (harg9 : arg9.IsWhole) (arg10 : Memref sig .tc .vmem S2x2048 .f32) (harg10 : arg10.IsWhole) (arg11 : Memref sig .tc .vmem S2x2048 .f32) (harg11 : arg11.IsWhole) (arg12 : Memref sig .tc .vmem S32x18432 .bf16) (harg12 : arg12.IsWhole) (arg13 : Memref sig .tc .vmem S32x18432 .f32) (harg13 : arg13.IsWhole) (arg14 : Memref sig .tc .vmem S8x18432 .i32) (harg14 : arg14.IsWhole) (v9 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (G_arg12 : BufTy.Contents (Elt F) arg12.view.ty) (G_arg14 : BufTy.Contents (Elt F) arg14.view.ty) (init : FVec F S32x128 .f32) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 v9 init where
  inv := inv_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v9 X_arg1 X_arg2 X_arg3 X_arg4 G_arg12 G_arg14 init
  step k acc := by
    iintro ⟨HR_arg1, HR_arg2, HR_arg3, HR_arg4, ⟨%f_arg12, HW_arg12, %h_arg12⟩, ⟨%f_arg14, HW_arg14, %h_arg14⟩, %h_acc⟩
    subst h_acc
    iapply (wp_wand_r Idealize.ShloMosaic.frame (wpE (defs₀ (F := F)) 𝒱 (c : Thread nD τ) bd) E)
    isplitl [HR_arg1 HR_arg2 HR_arg3 HR_arg4 HW_arg12 HW_arg14]
    · iapply ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v9 X_arg1 X_arg2 X_arg3 X_arg4 k).2.2.2 E (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v9 X_arg1 X_arg2 X_arg3 X_arg4 init k).1 f_arg12 f_arg14)
      isplitl [HR_arg1]; · iexact HR_arg1
      isplitl [HR_arg2]; · iexact HR_arg2
      isplitl [HR_arg3]; · iexact HR_arg3
      isplitl [HR_arg4]; · iexact HR_arg4
      isplitl [HW_arg12]; · iexact HW_arg12
      iexact HW_arg14
    · iintro %yld ⟨%h_res, HR_arg1, HR_arg2, HR_arg3, HR_arg4, HW_arg12, HW_arg14⟩
      isplitl [HR_arg1]; · iexact HR_arg1
      isplitl [HR_arg2]; · iexact HR_arg2
      isplitl [HR_arg3]; · iexact HR_arg3
      isplitl [HR_arg4]; · iexact HR_arg4
      simp only [st_k0_t1_succ]
      isplitl [HW_arg12]
      · iexists _; isplitl [HW_arg12]; · iexact HW_arg12
        ipureintro; rw [h_arg12, ← View.writes_append]
      isplitl [HW_arg14]
      · iexists _; isplitl [HW_arg14]; · iexact HW_arg14
        ipureintro; rw [h_arg14, ← View.writes_append]
      ipureintro; rw [h_res]

end Cert.Kernel.Run

end
-- ==== Proof.Kernel.Body.lean ====
/- The kernel body run once, at any step: nothing is said of what it leaves in its outputs. -/
module

public import proofs.«01_k».proof.Proof.Kernel.Loop1
public import proofs.«01_k».proof.Proof.Gen.Kernel.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the host lines after the kernel write (the reshaped results). -/
def T0 : Finset (Ref sig .tc) := {main_v7, main_v8, main_v9}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-! ## The arguments end unchanged -/

/-- A run that keeps every input array keeps @main's arguments. -/
theorem unchanged_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c)⟩) h

/-- The step is the last of a block of mask words: the block is stored. -/
abbrev cond0_0 (i : grid0.Coords) : Prop := k0_cond1 i = 1#1
/-- The step is the first: the statistics are zeroed. -/
abbrev cond0_1 (i : grid0.Coords) : Prop := (Scalar.cmpi .ne (Scalar.extui (Scalar.cmpi .eq (BitVec.ofNat 32 (i 0).val) 0#32)) 0#32) = 1#1

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S32x18432 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x18432 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x18432 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x18432 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x18432 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x18432 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S32x18432 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S32x18432 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2x2048 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2x2048 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S32x18432 .bf16 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S32x18432 .f32 := Memref.whole cc0_scratch0
abbrev scM0_1 : Memref sig .tc .vmem S8x18432 .i32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

set_option maxHeartbeats 2000000 in
/-- The body at any step, on whole staging memrefs: the inputs at their contents, the outputs and the scratch at
    anything; it runs, the inputs end as they were, the outputs and the scratch at some contents. -/
theorem body_run (c : Dev nD) (i : grid0.Coords) (arg1 : Memref sig .tc .vmem S32x18432 .bf16) (harg1 : arg1.IsWhole) (arg2 : Memref sig .tc .vmem S32x18432 .bf16) (harg2 : arg2.IsWhole) (arg3 : Memref sig .tc .vmem S1x18432 .f32) (harg3 : arg3.IsWhole) (arg4 : Memref sig .tc .vmem S32x18432 .i32) (harg4 : arg4.IsWhole) (arg5 : Memref sig .tc .vmem S1x18432 .f32) (harg5 : arg5.IsWhole) (arg6 : Memref sig .tc .vmem S1x18432 .f32) (harg6 : arg6.IsWhole) (arg7 : Memref sig .tc .vmem S32x18432 .fp8e4m3) (harg7 : arg7.IsWhole) (arg8 : Memref sig .tc .vmem S2x2048 .f32) (harg8 : arg8.IsWhole) (arg9 : Memref sig .tc .vmem S32x18432 .i8) (harg9 : arg9.IsWhole) (arg10 : Memref sig .tc .vmem S2x2048 .f32) (harg10 : arg10.IsWhole) (arg11 : Memref sig .tc .vmem S2x2048 .f32) (harg11 : arg11.IsWhole) (arg12 : Memref sig .tc .vmem S32x18432 .bf16) (harg12 : arg12.IsWhole) (arg13 : Memref sig .tc .vmem S32x18432 .f32) (harg13 : arg13.IsWhole) (arg14 : Memref sig .tc .vmem S8x18432 .i32) (harg14 : arg14.IsWhole)
    (x0 : Vec F S32x18432 .bf16) (x1 : Vec F S32x18432 .bf16) (x2 : Vec F S1x18432 .f32) (x3 : Vec F S32x18432 .i32) (x4 : Vec F S1x18432 .f32) (x5 : Vec F S1x18432 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_dropout_ln_fp8 i arg1 harg1 arg2 harg2 arg3 harg3 arg4 harg4 arg5 harg5 arg6 harg6 arg7 harg7 arg8 harg8 arg9 harg9 arg10 harg10 arg11 harg11 arg12 harg12 arg13 harg13 arg14 harg14) K := by
    intro E K
    simp only [cc0_dropout_ln_fp8_eq_skeleton]; unfold cc0_dropout_ln_fp8_skel
    simp only [k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    by_cases hc0 : cond0_0 i <;> by_cases hc1 : cond0_1 i
    all_goals
      sl_exec (disch := first | sl_exact hc0 | sl_exact hc1)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _, _; isplitr; swap; · iexact H6
        ipureintro; rfl
      isplitl [H7]
      · iexists _, _; isplitr; swap; · iexact H7
        ipureintro; rfl
      isplitl [H8]
      · iexists _, _; isplitr; swap; · iexact H8
        ipureintro; rfl
      isplitl [H9]
      · iexists _, _; isplitr; swap; · iexact H9
        ipureintro; rfl
      isplitl [H10]
      · iexists _, _; isplitr; swap; · iexact H10
        ipureintro; rfl
      isplitl [H11]
      · iexists _, _; isplitr; swap; · iexact H11
        ipureintro; rfl
      isplitl [HS0]
      · iexists _, _; isplitr; swap; · iexact HS0
        ipureintro; rfl
      iexists _, _; isplitr; swap; · iexact HS1
      ipureintro; rfl

end Cert.Kernel.Run

end
-- ==== Proof.Kernel.Frame.lean ====
/- The frame of the kernel: from any memory it runs to the end, its arguments unchanged and every semaphore counter at
   zero. Nothing is said here of the results. -/
module

public import proofs.«01_k».proof.Proof.Kernel.Body
public import Idealize.ShloMosaic.Lib.Claim

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The output windows this certificate FORGETS (6, 7, 8, 9, 10, 11): nothing reads what the kernel leaves in them, so nothing
    of it is named (Lib/Pipeline/Dat.lean `Dat.toRForget`). -/
def forgets0 : Fin 12 → Bool := fun w => w.val == 6 || w.val == 7 || w.val == 8 || w.val == 9 || w.val == 10 || w.val == 11

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

set_option maxHeartbeats 3600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [show (dats m 0 c).leavesExact 0 t = owns (c : Thread nD τ) (ms0_0 t) fullShare ((dats m 0 c).after 0 t) from by unfold Dat.leavesExact; rw [liveAt0_0 t], after0_0]
  rw [show (dats m 0 c).leavesExact 1 t = owns (c : Thread nD τ) (ms0_1 t) fullShare ((dats m 0 c).after 1 t) from by unfold Dat.leavesExact; rw [liveAt0_1 t], after0_1]
  rw [show (dats m 0 c).leavesExact 2 t = owns (c : Thread nD τ) (ms0_2 t) fullShare ((dats m 0 c).after 2 t) from by unfold Dat.leavesExact; rw [liveAt0_2 t], after0_2]
  rw [show (dats m 0 c).leavesExact 3 t = owns (c : Thread nD τ) (ms0_3 t) fullShare ((dats m 0 c).after 3 t) from by unfold Dat.leavesExact; rw [liveAt0_3 t], after0_3]
  rw [show (dats m 0 c).leavesExact 4 t = owns (c : Thread nD τ) (ms0_4 t) fullShare ((dats m 0 c).after 4 t) from by unfold Dat.leavesExact; rw [liveAt0_4 t], after0_4]
  rw [show (dats m 0 c).leavesExact 5 t = owns (c : Thread nD τ) (ms0_5 t) fullShare ((dats m 0 c).after 5 t) from by unfold Dat.leavesExact; rw [liveAt0_5 t], after0_5]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((body_run c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  iintro ⟨H0, H1, H2, H3, H4, H5, H6, H7, H8, H9, H10, H11, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 6, 7, 8, 9, 10, 11) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  unchanged_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Run

end
-- ==== Proof.KernelIdeal.Loop1.lean ====
/- The first pass of the body (dropout, addition, the sum, the mask words), as a counted loop: where its stores of mask
   words lie, what one trip yields and writes, and the invariant by which a run goes through the loop. -/
module

public import proofs.«01_k».proof.Proof.Gen.KernelIdeal.Loops

@[expose] public section

set_option maxRecDepth 8192
set_option maxHeartbeats 4000000

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- Step `i` writes its mask words into row `i mod 8` of the scratch, trip `k0_t1`'s unit `r` at column
    `1536 k0_t1 + 256 r`. -/
theorem k0_off3_eq : ∀ (i : grid0.Coords) (k0_t1 : Fin k0_t1_loop.trips), ∀ (r : Fin 6), k0_off3 i k0_t1 (BitVec.ofNat 32 (256 * r.val)) = ![((i 0).val % 8), 1536 * k0_t1.val + 256 * r.val] := by
  intro i k0_t1 r
  have r_r : r.val < 6 := r.isLt
  have h_c0_i32_122 : Affine.IsInt (BitVec.ofNat 32 (256 * r.val)) (256 * (r.val : Int)) := Affine.ofNat _ (by omega)
  have r_i0 : (i 0).val < 128 := (i 0).isLt
  have h_arg0 : Affine.IsInt (BitVec.ofNat 32 (i 0).val) (((i 0).val : Int)) := Affine.ofNat _ (by omega)
  have h_c8_i32 : Affine.IsInt 8#32 (8) := Affine.ofNat _ (by omega)
  have h_c0_i32 : Affine.IsInt 0#32 (0) := Affine.ofNat _ (by omega)
  have h_v0 : Affine.Fails _ := Affine.eq_fails h_c8_i32 h_c0_i32 (by omega)
  have h_c1_i32 : Affine.IsInt 1#32 (1) := Affine.ofNat _ (by omega)
  have h_v1 : Affine.IsInt _ (8) := Affine.select_fails h_v0 h_c1_i32 h_c8_i32 (by omega)
  have h_v2 : Affine.IsInt _ ((((i 0).val : Int) % 8)) := Affine.remsi h_arg0 h_v1 (by omega)
  have h_c0_i32_1 : Affine.IsInt 0#32 (0) := Affine.ofNat _ (by omega)
  have h_v4 : Affine.Fails _ := Affine.slt_fails h_v2 h_c0_i32_1 (by omega)
  have h_c0_i32_2 : Affine.IsInt 0#32 (0) := Affine.ofNat _ (by omega)
  have h_v5 : Affine.Fails _ := Affine.slt_fails h_v1 h_c0_i32_2 (by omega)
  have h_v6 : Affine.Fails _ := Affine.xori_ff h_v4 h_v5
  have h_c0_i32_0 : Affine.IsInt 0#32 (0) := Affine.ofNat _ (by omega)
  have h_v3 : Affine.Term _ := Affine.cmpi_term .ne h_v2 h_c0_i32_0
  have h_v7 : Affine.Fails _ := Affine.andi_fails_left h_v6 h_v3
  have h_v8 : Affine.IsInt _ ((((i 0).val : Int) % 8) + 8) := Affine.addi h_v2 h_v1 (by omega)
  have h_v9 : Affine.IsInt _ ((((i 0).val : Int) % 8)) := Affine.select_fails h_v7 h_v8 h_v2 (by omega)
  have h_v366 : Affine.IsInt _ ((((i 0).val : Int) % 8)) := Affine.indexCast h_v9
  have h_c0_i32_9 : Affine.IsInt 0#32 (0) := Affine.ofNat _ (by omega)
  have h_c1_i32_10 : Affine.IsInt 1#32 (1) := Affine.ofNat _ (by omega)
  have r_k0_t1 : k0_t1.val < 12 := Nat.lt_of_lt_of_le k0_t1.isLt k0_t1_abs.2.1
  have h_arg15 : Affine.IsInt _ ((k0_t1.val : Int)) := Affine.iv h_c0_i32_9 h_c1_i32_10 k0_t1.val (by omega)
  have c_arg15 : (k0_t1.val : Int) ≤ 12 - 1 := Affine.iv_lt k0_t1_abs.1 k0_t1.isLt k0_t1_abs.2.2 h_arg15
  have h_c1536_i32 : Affine.IsInt 1536#32 (1536) := Affine.ofNat _ (by omega)
  have h_v313 : Affine.IsInt _ (1536 * (k0_t1.val : Int)) := Affine.muli h_arg15 h_c1536_i32 (by omega)
  have h_v314 : Affine.IsInt _ (1536 * (k0_t1.val : Int) + 256 * (r.val : Int)) := Affine.addi h_v313 h_c0_i32_122 (by omega)
  have h_v367 : Affine.IsInt _ (1536 * (k0_t1.val : Int) + 256 * (r.val : Int)) := Affine.indexCast h_v314
  exact Affine.vec_cons h_v366 (by omega) <| Affine.vec_cons h_v367 (by omega) <| Affine.vec_nil
instance closedOff_k0_off3_0 (i : grid0.Coords) (k0_t1 : Fin k0_t1_loop.trips) : ClosedOff (k0_off3 i k0_t1 (BitVec.ofNat 32 0)) := ⟨![((i 0).val % 8), 1536 * k0_t1.val + 256 * 0], k0_off3_eq i k0_t1 ⟨0, by decide⟩⟩
instance closedOff_k0_off3_1 (i : grid0.Coords) (k0_t1 : Fin k0_t1_loop.trips) : ClosedOff (k0_off3 i k0_t1 (BitVec.ofNat 32 256)) := ⟨![((i 0).val % 8), 1536 * k0_t1.val + 256 * 1], k0_off3_eq i k0_t1 ⟨1, by decide⟩⟩
instance closedOff_k0_off3_2 (i : grid0.Coords) (k0_t1 : Fin k0_t1_loop.trips) : ClosedOff (k0_off3 i k0_t1 (BitVec.ofNat 32 512)) := ⟨![((i 0).val % 8), 1536 * k0_t1.val + 256 * 2], k0_off3_eq i k0_t1 ⟨2, by decide⟩⟩
instance closedOff_k0_off3_3 (i : grid0.Coords) (k0_t1 : Fin k0_t1_loop.trips) : ClosedOff (k0_off3 i k0_t1 (BitVec.ofNat 32 768)) := ⟨![((i 0).val % 8), 1536 * k0_t1.val + 256 * 3], k0_off3_eq i k0_t1 ⟨3, by decide⟩⟩
instance closedOff_k0_off3_4 (i : grid0.Coords) (k0_t1 : Fin k0_t1_loop.trips) : ClosedOff (k0_off3 i k0_t1 (BitVec.ofNat 32 1024)) := ⟨![((i 0).val % 8), 1536 * k0_t1.val + 256 * 4], k0_off3_eq i k0_t1 ⟨4, by decide⟩⟩
instance closedOff_k0_off3_5 (i : grid0.Coords) (k0_t1 : Fin k0_t1_loop.trips) : ClosedOff (k0_off3 i k0_t1 (BitVec.ofNat 32 1280)) := ⟨![((i 0).val % 8), 1536 * k0_t1.val + 256 * 5], k0_off3_eq i k0_t1 ⟨5, by decide⟩⟩
/-- The statistics are read and written in the group of 128 lanes that holds the step's 32 rows. -/
theorem k0_off8_eq : ∀ i : grid0.Coords, k0_off8 i = ![0, 128 * ((32 * ((i 0).val % 64)) / 128)] := by decide +kernel
instance closedOff_k0_off8 (i : grid0.Coords) : ClosedOff (k0_off8 i) := ⟨![0, 128 * ((32 * ((i 0).val % 64)) / 128)], k0_off8_eq i⟩

/-! ## One trip, the state before a trip, the invariant -/

/-- One trip's resources: what the region reads (arg1, arg2, arg3, arg4) at its contents, what it
   writes (arg12, arg14) at any. -/
abbrev Trip_k0_t1 (c : Dev nD) (arg1 : Memref sig .tc .vmem S32x18432 .bf16) (arg2 : Memref sig .tc .vmem S32x18432 .bf16) (arg3 : Memref sig .tc .vmem S1x18432 .f32) (arg4 : Memref sig .tc .vmem S32x18432 .i32) (arg12 : Memref sig .tc .vmem S32x18432 .bf16) (arg14 : Memref sig .tc .vmem S8x18432 .i32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (f_arg12 : BufTy.Contents (Elt F) arg12.view.ty) (f_arg14 : BufTy.Contents (Elt F) arg14.view.ty) : sProp 𝕄G :=
  iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg12.view.loc (c : Thread nD τ) ↦[arg12.view.set]{fullShare} f_arg12) ∗ (arg14.view.loc (c : Thread nD τ) ↦[arg14.view.set]{fullShare} f_arg14))

/-- ONE TRIP of `k0_t1_loop` at a symbolic `k` and carried value `acc`, run by `sl_exec` (its
   rectangles where the program's in-range evidence puts them, their places unread): what it yields
   and the pieces it writes into arg12, arg14 are the run's own finds — the witnesses `sl_close`
   assigns handing the buffers to the continuation, as functions of the carried value.
   `@[irreducible]`: cited, never unfolded. -/
@[irreducible] def trip_k0_t1 (𝒱 : Variants) (c : Dev nD) (bd : Option 𝒱.V) (i : grid0.Coords) (arg1 : Memref sig .tc .vmem S32x18432 .bf16) (harg1 : arg1.IsWhole) (arg2 : Memref sig .tc .vmem S32x18432 .bf16) (harg2 : arg2.IsWhole) (arg3 : Memref sig .tc .vmem S1x18432 .f32) (harg3 : arg3.IsWhole) (arg4 : Memref sig .tc .vmem S32x18432 .i32) (harg4 : arg4.IsWhole) (arg5 : Memref sig .tc .vmem S1x18432 .f32) (harg5 : arg5.IsWhole) (arg6 : Memref sig .tc .vmem S1x18432 .f32) (harg6 : arg6.IsWhole) (arg7 : Memref sig .tc .vmem S32x18432 .fp8e4m3) (harg7 : arg7.IsWhole) (arg8 : Memref sig .tc .vmem S2x2048 .f32) (harg8 : arg8.IsWhole) (arg9 : Memref sig .tc .vmem S32x18432 .i8) (harg9 : arg9.IsWhole) (arg10 : Memref sig .tc .vmem S2x2048 .f32) (harg10 : arg10.IsWhole) (arg11 : Memref sig .tc .vmem S2x2048 .f32) (harg11 : arg11.IsWhole) (arg12 : Memref sig .tc .vmem S32x18432 .bf16) (harg12 : arg12.IsWhole) (arg13 : Memref sig .tc .vmem S32x18432 .f32) (harg13 : arg13.IsWhole) (arg14 : Memref sig .tc .vmem S8x18432 .i32) (harg14 : arg14.IsWhole) (v9 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (k : Fin k0_t1_loop.trips) :
    Σ' (R_k0_t1 : ((FVec F S32x128 .f32) → FVec F S32x128 .f32)) (L_arg12 : ((FVec F S32x128 .f32) → List (View.Piece (Elt F) S32x18432 .bf16))) , { L_arg14 : ((FVec F S32x128 .f32) → List (View.Piece (Elt F) S8x18432 .i32)) // ∀ (E : Set ℕ) (acc : FVec F S32x128 .f32) (f_arg12 : BufTy.Contents (Elt F) arg12.view.ty) (f_arg14 : BufTy.Contents (Elt F) arg14.view.ty),
      Trip_k0_t1 (F := F) c arg1 arg2 arg3 arg4 arg12 arg14 X_arg1 X_arg2 X_arg3 X_arg4 f_arg12 f_arg14
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 v9 k acc)
          (fun yld => iprop(⌜yld = R_k0_t1 acc⌝ ∗ Trip_k0_t1 (F := F) c arg1 arg2 arg3 arg4 arg12 arg14 X_arg1 X_arg2 X_arg3 X_arg4 (arg12.view.writes (Elt F) f_arg12 (L_arg12 acc)) (arg14.view.writes (Elt F) f_arg14 (L_arg14 acc)))) } := by
  have hk : k.val < 12 := Nat.lt_of_lt_of_le k.isLt k0_t1_abs.2.1
  refine ⟨?_, ?_, ?_, fun E acc f_arg12 f_arg14 => ?run⟩
  case run =>
    unfold k0_t1_body
    iintro ⟨HR_arg1, HR_arg2, HR_arg3, HR_arg4, HW_arg12, HW_arg14⟩
    sl_exec
    sl_step
    sl_close

/-- The trip's result (a plain projection of `trip_…`, for the recursion below to cite without its
   proof). -/
abbrev tripR_k0_t1 (𝒱 : Variants) (c : Dev nD) (bd : Option 𝒱.V) (i : grid0.Coords) (arg1 : Memref sig .tc .vmem S32x18432 .bf16) (harg1 : arg1.IsWhole) (arg2 : Memref sig .tc .vmem S32x18432 .bf16) (harg2 : arg2.IsWhole) (arg3 : Memref sig .tc .vmem S1x18432 .f32) (harg3 : arg3.IsWhole) (arg4 : Memref sig .tc .vmem S32x18432 .i32) (harg4 : arg4.IsWhole) (arg5 : Memref sig .tc .vmem S1x18432 .f32) (harg5 : arg5.IsWhole) (arg6 : Memref sig .tc .vmem S1x18432 .f32) (harg6 : arg6.IsWhole) (arg7 : Memref sig .tc .vmem S32x18432 .fp8e4m3) (harg7 : arg7.IsWhole) (arg8 : Memref sig .tc .vmem S2x2048 .f32) (harg8 : arg8.IsWhole) (arg9 : Memref sig .tc .vmem S32x18432 .i8) (harg9 : arg9.IsWhole) (arg10 : Memref sig .tc .vmem S2x2048 .f32) (harg10 : arg10.IsWhole) (arg11 : Memref sig .tc .vmem S2x2048 .f32) (harg11 : arg11.IsWhole) (arg12 : Memref sig .tc .vmem S32x18432 .bf16) (harg12 : arg12.IsWhole) (arg13 : Memref sig .tc .vmem S32x18432 .f32) (harg13 : arg13.IsWhole) (arg14 : Memref sig .tc .vmem S8x18432 .i32) (harg14 : arg14.IsWhole) (v9 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (k : Fin k0_t1_loop.trips) (acc : FVec F S32x128 .f32) : FVec F S32x128 .f32 :=
  (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v9 X_arg1 X_arg2 X_arg3 X_arg4 k).1 acc

/-- The trip's piece lists (plain projections of `trip_…`, for the recursion below to cite without
   its proof), at the carried value. -/
abbrev tripL_k0_t1 (𝒱 : Variants) (c : Dev nD) (bd : Option 𝒱.V) (i : grid0.Coords) (arg1 : Memref sig .tc .vmem S32x18432 .bf16) (harg1 : arg1.IsWhole) (arg2 : Memref sig .tc .vmem S32x18432 .bf16) (harg2 : arg2.IsWhole) (arg3 : Memref sig .tc .vmem S1x18432 .f32) (harg3 : arg3.IsWhole) (arg4 : Memref sig .tc .vmem S32x18432 .i32) (harg4 : arg4.IsWhole) (arg5 : Memref sig .tc .vmem S1x18432 .f32) (harg5 : arg5.IsWhole) (arg6 : Memref sig .tc .vmem S1x18432 .f32) (harg6 : arg6.IsWhole) (arg7 : Memref sig .tc .vmem S32x18432 .fp8e4m3) (harg7 : arg7.IsWhole) (arg8 : Memref sig .tc .vmem S2x2048 .f32) (harg8 : arg8.IsWhole) (arg9 : Memref sig .tc .vmem S32x18432 .i8) (harg9 : arg9.IsWhole) (arg10 : Memref sig .tc .vmem S2x2048 .f32) (harg10 : arg10.IsWhole) (arg11 : Memref sig .tc .vmem S2x2048 .f32) (harg11 : arg11.IsWhole) (arg12 : Memref sig .tc .vmem S32x18432 .bf16) (harg12 : arg12.IsWhole) (arg13 : Memref sig .tc .vmem S32x18432 .f32) (harg13 : arg13.IsWhole) (arg14 : Memref sig .tc .vmem S8x18432 .i32) (harg14 : arg14.IsWhole) (v9 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (k : Fin k0_t1_loop.trips) (acc : FVec F S32x128 .f32) : List (View.Piece (Elt F) S32x18432 .bf16) × List (View.Piece (Elt F) S8x18432 .i32) :=
  ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v9 X_arg1 X_arg2 X_arg3 X_arg4 k).2.1 acc, (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v9 X_arg1 X_arg2 X_arg3 X_arg4 k).2.2.1 acc)

/-- Trip `k`'s contribution to the state the recursion `st_k0_t1` below carries (`prev`): its result
   as the new carried value and its pieces in front, per written memref; past the last trip, `prev`
   itself. -/
@[irreducible] def st_k0_t1Step (𝒱 : Variants) (c : Dev nD) (bd : Option 𝒱.V) (i : grid0.Coords) (arg1 : Memref sig .tc .vmem S32x18432 .bf16) (harg1 : arg1.IsWhole) (arg2 : Memref sig .tc .vmem S32x18432 .bf16) (harg2 : arg2.IsWhole) (arg3 : Memref sig .tc .vmem S1x18432 .f32) (harg3 : arg3.IsWhole) (arg4 : Memref sig .tc .vmem S32x18432 .i32) (harg4 : arg4.IsWhole) (arg5 : Memref sig .tc .vmem S1x18432 .f32) (harg5 : arg5.IsWhole) (arg6 : Memref sig .tc .vmem S1x18432 .f32) (harg6 : arg6.IsWhole) (arg7 : Memref sig .tc .vmem S32x18432 .fp8e4m3) (harg7 : arg7.IsWhole) (arg8 : Memref sig .tc .vmem S2x2048 .f32) (harg8 : arg8.IsWhole) (arg9 : Memref sig .tc .vmem S32x18432 .i8) (harg9 : arg9.IsWhole) (arg10 : Memref sig .tc .vmem S2x2048 .f32) (harg10 : arg10.IsWhole) (arg11 : Memref sig .tc .vmem S2x2048 .f32) (harg11 : arg11.IsWhole) (arg12 : Memref sig .tc .vmem S32x18432 .bf16) (harg12 : arg12.IsWhole) (arg13 : Memref sig .tc .vmem S32x18432 .f32) (harg13 : arg13.IsWhole) (arg14 : Memref sig .tc .vmem S8x18432 .i32) (harg14 : arg14.IsWhole) (v9 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (init : FVec F S32x128 .f32) (k : ℕ) (prev : (FVec F S32x128 .f32) × List (View.Piece (Elt F) S32x18432 .bf16) × List (View.Piece (Elt F) S8x18432 .i32)) : (FVec F S32x128 .f32) × List (View.Piece (Elt F) S32x18432 .bf16) × List (View.Piece (Elt F) S8x18432 .i32) :=
  if h : k < k0_t1_loop.trips then
    (tripR_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v9 X_arg1 X_arg2 X_arg3 X_arg4 ⟨k, h⟩ prev.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v9 X_arg1 X_arg2 X_arg3 X_arg4 ⟨k, h⟩ prev.1).1 ++ prev.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v9 X_arg1 X_arg2 X_arg3 X_arg4 ⟨k, h⟩ prev.1).2 ++ prev.2.2)
  else prev

/-- The STATE before trip `k`: the carried value and, per written memref, the pieces of the trips
   before (last first), from the loop's initial value `init`. -/
def st_k0_t1 (𝒱 : Variants) (c : Dev nD) (bd : Option 𝒱.V) (i : grid0.Coords) (arg1 : Memref sig .tc .vmem S32x18432 .bf16) (harg1 : arg1.IsWhole) (arg2 : Memref sig .tc .vmem S32x18432 .bf16) (harg2 : arg2.IsWhole) (arg3 : Memref sig .tc .vmem S1x18432 .f32) (harg3 : arg3.IsWhole) (arg4 : Memref sig .tc .vmem S32x18432 .i32) (harg4 : arg4.IsWhole) (arg5 : Memref sig .tc .vmem S1x18432 .f32) (harg5 : arg5.IsWhole) (arg6 : Memref sig .tc .vmem S1x18432 .f32) (harg6 : arg6.IsWhole) (arg7 : Memref sig .tc .vmem S32x18432 .fp8e4m3) (harg7 : arg7.IsWhole) (arg8 : Memref sig .tc .vmem S2x2048 .f32) (harg8 : arg8.IsWhole) (arg9 : Memref sig .tc .vmem S32x18432 .i8) (harg9 : arg9.IsWhole) (arg10 : Memref sig .tc .vmem S2x2048 .f32) (harg10 : arg10.IsWhole) (arg11 : Memref sig .tc .vmem S2x2048 .f32) (harg11 : arg11.IsWhole) (arg12 : Memref sig .tc .vmem S32x18432 .bf16) (harg12 : arg12.IsWhole) (arg13 : Memref sig .tc .vmem S32x18432 .f32) (harg13 : arg13.IsWhole) (arg14 : Memref sig .tc .vmem S8x18432 .i32) (harg14 : arg14.IsWhole) (v9 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (init : FVec F S32x128 .f32) : ℕ → (FVec F S32x128 .f32) × List (View.Piece (Elt F) S32x18432 .bf16) × List (View.Piece (Elt F) S8x18432 .i32)
  | 0 => (init, [], [])
  | k + 1 => st_k0_t1Step 𝒱 c bd i arg1 harg1 arg2 harg2 arg3 harg3 arg4 harg4 arg5 harg5 arg6 harg6 arg7 harg7 arg8 harg8 arg9 harg9 arg10 harg10 arg11 harg11 arg12 harg12 arg13 harg13 arg14 harg14 v9 X_arg1 X_arg2 X_arg3 X_arg4 init k (st_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 v9 X_arg1 X_arg2 X_arg3 X_arg4 init k)

theorem st_k0_t1_succ (𝒱 : Variants) (c : Dev nD) (bd : Option 𝒱.V) (i : grid0.Coords) (arg1 : Memref sig .tc .vmem S32x18432 .bf16) (harg1 : arg1.IsWhole) (arg2 : Memref sig .tc .vmem S32x18432 .bf16) (harg2 : arg2.IsWhole) (arg3 : Memref sig .tc .vmem S1x18432 .f32) (harg3 : arg3.IsWhole) (arg4 : Memref sig .tc .vmem S32x18432 .i32) (harg4 : arg4.IsWhole) (arg5 : Memref sig .tc .vmem S1x18432 .f32) (harg5 : arg5.IsWhole) (arg6 : Memref sig .tc .vmem S1x18432 .f32) (harg6 : arg6.IsWhole) (arg7 : Memref sig .tc .vmem S32x18432 .fp8e4m3) (harg7 : arg7.IsWhole) (arg8 : Memref sig .tc .vmem S2x2048 .f32) (harg8 : arg8.IsWhole) (arg9 : Memref sig .tc .vmem S32x18432 .i8) (harg9 : arg9.IsWhole) (arg10 : Memref sig .tc .vmem S2x2048 .f32) (harg10 : arg10.IsWhole) (arg11 : Memref sig .tc .vmem S2x2048 .f32) (harg11 : arg11.IsWhole) (arg12 : Memref sig .tc .vmem S32x18432 .bf16) (harg12 : arg12.IsWhole) (arg13 : Memref sig .tc .vmem S32x18432 .f32) (harg13 : arg13.IsWhole) (arg14 : Memref sig .tc .vmem S8x18432 .i32) (harg14 : arg14.IsWhole) (v9 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (init : FVec F S32x128 .f32) (k : Fin k0_t1_loop.trips) :
    st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v9 X_arg1 X_arg2 X_arg3 X_arg4 init (k.val + 1)
      = ((tripR_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v9 X_arg1 X_arg2 X_arg3 X_arg4 k (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v9 X_arg1 X_arg2 X_arg3 X_arg4 init k.val).1), (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v9 X_arg1 X_arg2 X_arg3 X_arg4 k (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v9 X_arg1 X_arg2 X_arg3 X_arg4 init k.val).1).1 ++ (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v9 X_arg1 X_arg2 X_arg3 X_arg4 init k.val).2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v9 X_arg1 X_arg2 X_arg3 X_arg4 k (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v9 X_arg1 X_arg2 X_arg3 X_arg4 init k.val).1).2 ++ (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v9 X_arg1 X_arg2 X_arg3 X_arg4 init k.val).2.2) := by
  rw [st_k0_t1.eq_2]; unfold st_k0_t1Step; exact dif_pos k.isLt

/-- The carried value before trip 0 is the initial one: the invariant's equation at loop entry,
   which the run closes by this (`sl_pure`) without unfolding the value it holds. -/
theorem st_k0_t1_zero (𝒱 : Variants) (c : Dev nD) (bd : Option 𝒱.V) (i : grid0.Coords) (arg1 : Memref sig .tc .vmem S32x18432 .bf16) (harg1 : arg1.IsWhole) (arg2 : Memref sig .tc .vmem S32x18432 .bf16) (harg2 : arg2.IsWhole) (arg3 : Memref sig .tc .vmem S1x18432 .f32) (harg3 : arg3.IsWhole) (arg4 : Memref sig .tc .vmem S32x18432 .i32) (harg4 : arg4.IsWhole) (arg5 : Memref sig .tc .vmem S1x18432 .f32) (harg5 : arg5.IsWhole) (arg6 : Memref sig .tc .vmem S1x18432 .f32) (harg6 : arg6.IsWhole) (arg7 : Memref sig .tc .vmem S32x18432 .fp8e4m3) (harg7 : arg7.IsWhole) (arg8 : Memref sig .tc .vmem S2x2048 .f32) (harg8 : arg8.IsWhole) (arg9 : Memref sig .tc .vmem S32x18432 .i8) (harg9 : arg9.IsWhole) (arg10 : Memref sig .tc .vmem S2x2048 .f32) (harg10 : arg10.IsWhole) (arg11 : Memref sig .tc .vmem S2x2048 .f32) (harg11 : arg11.IsWhole) (arg12 : Memref sig .tc .vmem S32x18432 .bf16) (harg12 : arg12.IsWhole) (arg13 : Memref sig .tc .vmem S32x18432 .f32) (harg13 : arg13.IsWhole) (arg14 : Memref sig .tc .vmem S8x18432 .i32) (harg14 : arg14.IsWhole) (v9 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (init : FVec F S32x128 .f32) :
    (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v9 X_arg1 X_arg2 X_arg3 X_arg4 init 0).1 = init := rfl

/-- THE INVARIANT before trip `k`: arg1, arg2, arg3, arg4 read at `X_·`; arg12, arg14 holding the
   pieces of the trips before `k` written over the contents at loop entry `G_·` (stated `∃ f, … ∗ ⌜f
   = …⌝`, so that a hypothesis of any contents matches and the equation is what is proved); and
   `acc` equal to the state's carried value (an equation the run substitutes after the loop). -/
abbrev inv_k0_t1 (𝒱 : Variants) (c : Dev nD) (bd : Option 𝒱.V) (i : grid0.Coords) (arg1 : Memref sig .tc .vmem S32x18432 .bf16) (harg1 : arg1.IsWhole) (arg2 : Memref sig .tc .vmem S32x18432 .bf16) (harg2 : arg2.IsWhole) (arg3 : Memref sig .tc .vmem S1x18432 .f32) (harg3 : arg3.IsWhole) (arg4 : Memref sig .tc .vmem S32x18432 .i32) (harg4 : arg4.IsWhole) (arg5 : Memref sig .tc .vmem S1x18432 .f32) (harg5 : arg5.IsWhole) (arg6 : Memref sig .tc .vmem S1x18432 .f32) (harg6 : arg6.IsWhole) (arg7 : Memref sig .tc .vmem S32x18432 .fp8e4m3) (harg7 : arg7.IsWhole) (arg8 : Memref sig .tc .vmem S2x2048 .f32) (harg8 : arg8.IsWhole) (arg9 : Memref sig .tc .vmem S32x18432 .i8) (harg9 : arg9.IsWhole) (arg10 : Memref sig .tc .vmem S2x2048 .f32) (harg10 : arg10.IsWhole) (arg11 : Memref sig .tc .vmem S2x2048 .f32) (harg11 : arg11.IsWhole) (arg12 : Memref sig .tc .vmem S32x18432 .bf16) (harg12 : arg12.IsWhole) (arg13 : Memref sig .tc .vmem S32x18432 .f32) (harg13 : arg13.IsWhole) (arg14 : Memref sig .tc .vmem S8x18432 .i32) (harg14 : arg14.IsWhole) (v9 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (G_arg12 : BufTy.Contents (Elt F) arg12.view.ty) (G_arg14 : BufTy.Contents (Elt F) arg14.view.ty) (init : FVec F S32x128 .f32) (k : ℕ) (acc : FVec F S32x128 .f32) : sProp 𝕄G :=
  iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (∃ f, (arg12.view.loc (c : Thread nD τ) ↦[arg12.view.set]{fullShare} f) ∗ ⌜f = arg12.view.writes (Elt F) G_arg12 (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v9 X_arg1 X_arg2 X_arg3 X_arg4 init k).2.1⌝) ∗ (∃ f, (arg14.view.loc (c : Thread nD τ) ↦[arg14.view.set]{fullShare} f) ∗ ⌜f = arg14.view.writes (Elt F) G_arg14 (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v9 X_arg1 X_arg2 X_arg3 X_arg4 init k).2.2⌝) ∗ ⌜acc = (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v9 X_arg1 X_arg2 X_arg3 X_arg4 init k).1⌝)

set_option warn.classDefReducibility false in
/-- THE LOOP BY ITS INVARIANT — generated (`@[sl_loop]`: `sl_exec` finds it meeting `k0_t1_loop`,
   fixing `X_· G_·` and `init` against the context; after the loop each written memref holds `writes
   G (st … trips).2` and what it yields is `(st … trips).1`). -/
@[sl_loop] def loopInv_k0_t1 (𝒱 : Variants) (c : Dev nD) (bd : Option 𝒱.V) (E : Set ℕ) (i : grid0.Coords) (arg1 : Memref sig .tc .vmem S32x18432 .bf16) (harg1 : arg1.IsWhole) (arg2 : Memref sig .tc .vmem S32x18432 .bf16) (harg2 : arg2.IsWhole) (arg3 : Memref sig .tc .vmem S1x18432 .f32) (harg3 : arg3.IsWhole) (arg4 : Memref sig .tc .vmem S32x18432 .i32) (harg4 : arg4.IsWhole) (arg5 : Memref sig .tc .vmem S1x18432 .f32) (harg5 : arg5.IsWhole) (arg6 : Memref sig .tc .vmem S1x18432 .f32) (harg6 : arg6.IsWhole) (arg7 : Memref sig .tc .vmem S32x18432 .fp8e4m3) (harg7 : arg7.IsWhole) (arg8 : Memref sig .tc .vmem S2x2048 .f32) (harg8 : arg8.IsWhole) (arg9 : Memref sig .tc .vmem S32x18432 .i8) (harg9 : arg9.IsWhole) (arg10 : Memref sig .tc .vmem S2x2048 .f32) (harg10 : arg10.IsWhole) (arg11 : Memref sig .tc .vmem S2x2048 .f32) (harg11 : arg11.IsWhole) (arg12 : Memref sig .tc .vmem S32x18432 .bf16) (harg12 : arg12.IsWhole) (arg13 : Memref sig .tc .vmem S32x18432 .f32) (harg13 : arg13.IsWhole) (arg14 : Memref sig .tc .vmem S8x18432 .i32) (harg14 : arg14.IsWhole) (v9 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (G_arg12 : BufTy.Contents (Elt F) arg12.view.ty) (G_arg14 : BufTy.Contents (Elt F) arg14.view.ty) (init : FVec F S32x128 .f32) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 v9 init where
  inv := inv_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v9 X_arg1 X_arg2 X_arg3 X_arg4 G_arg12 G_arg14 init
  step k acc := by
    iintro ⟨HR_arg1, HR_arg2, HR_arg3, HR_arg4, ⟨%f_arg12, HW_arg12, %h_arg12⟩, ⟨%f_arg14, HW_arg14, %h_arg14⟩, %h_acc⟩
    subst h_acc
    iapply (wp_wand_r Idealize.ShloMosaic.frame (wpE (defs₀ (F := F)) 𝒱 (c : Thread nD τ) bd) E)
    isplitl [HR_arg1 HR_arg2 HR_arg3 HR_arg4 HW_arg12 HW_arg14]
    · iapply ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v9 X_arg1 X_arg2 X_arg3 X_arg4 k).2.2.2 E (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v9 X_arg1 X_arg2 X_arg3 X_arg4 init k).1 f_arg12 f_arg14)
      isplitl [HR_arg1]; · iexact HR_arg1
      isplitl [HR_arg2]; · iexact HR_arg2
      isplitl [HR_arg3]; · iexact HR_arg3
      isplitl [HR_arg4]; · iexact HR_arg4
      isplitl [HW_arg12]; · iexact HW_arg12
      iexact HW_arg14
    · iintro %yld ⟨%h_res, HR_arg1, HR_arg2, HR_arg3, HR_arg4, HW_arg12, HW_arg14⟩
      isplitl [HR_arg1]; · iexact HR_arg1
      isplitl [HR_arg2]; · iexact HR_arg2
      isplitl [HR_arg3]; · iexact HR_arg3
      isplitl [HR_arg4]; · iexact HR_arg4
      simp only [st_k0_t1_succ]
      isplitl [HW_arg12]
      · iexists _; isplitl [HW_arg12]; · iexact HW_arg12
        ipureintro; rw [h_arg12, ← View.writes_append]
      isplitl [HW_arg14]
      · iexists _; isplitl [HW_arg14]; · iexact HW_arg14
        ipureintro; rw [h_arg14, ← View.writes_append]
      ipureintro; rw [h_res]

end Cert.KernelIdeal.Run

end
-- ==== Proof.KernelIdeal.Body.lean ====
/- The kernel body run once, at any step: nothing is said of what it leaves in its outputs. -/
module

public import proofs.«01_k».proof.Proof.KernelIdeal.Loop1
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers the host lines after the kernel write (the reshaped results). -/
def T0 : Finset (Ref sig .tc) := {main_v7, main_v8, main_v9}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-! ## The arguments end unchanged -/

/-- A run that keeps every input array keeps @main's arguments. -/
theorem unchanged_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c)⟩) h

/-- The step is the last of a block of mask words: the block is stored. -/
abbrev cond0_0 (i : grid0.Coords) : Prop := k0_cond1 i = 1#1
/-- The step is the first: the statistics are zeroed. -/
abbrev cond0_1 (i : grid0.Coords) : Prop := (Scalar.cmpi .ne (Scalar.extui (Scalar.cmpi .eq (BitVec.ofNat 32 (i 0).val) 0#32)) 0#32) = 1#1

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S32x18432 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x18432 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x18432 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x18432 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x18432 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x18432 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S32x18432 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S32x18432 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2x2048 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2x2048 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S32x18432 .bf16 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S32x18432 .f32 := Memref.whole cc0_scratch0
abbrev scM0_1 : Memref sig .tc .vmem S8x18432 .i32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

set_option maxHeartbeats 2000000 in
/-- The body at any step, on whole staging memrefs: the inputs at their contents, the outputs and the scratch at
    anything; it runs, the inputs end as they were, the outputs and the scratch at some contents. -/
theorem body_run (c : Dev nD) (i : grid0.Coords) (arg1 : Memref sig .tc .vmem S32x18432 .bf16) (harg1 : arg1.IsWhole) (arg2 : Memref sig .tc .vmem S32x18432 .bf16) (harg2 : arg2.IsWhole) (arg3 : Memref sig .tc .vmem S1x18432 .f32) (harg3 : arg3.IsWhole) (arg4 : Memref sig .tc .vmem S32x18432 .i32) (harg4 : arg4.IsWhole) (arg5 : Memref sig .tc .vmem S1x18432 .f32) (harg5 : arg5.IsWhole) (arg6 : Memref sig .tc .vmem S1x18432 .f32) (harg6 : arg6.IsWhole) (arg7 : Memref sig .tc .vmem S32x18432 .fp8e4m3) (harg7 : arg7.IsWhole) (arg8 : Memref sig .tc .vmem S2x2048 .f32) (harg8 : arg8.IsWhole) (arg9 : Memref sig .tc .vmem S32x18432 .i8) (harg9 : arg9.IsWhole) (arg10 : Memref sig .tc .vmem S2x2048 .f32) (harg10 : arg10.IsWhole) (arg11 : Memref sig .tc .vmem S2x2048 .f32) (harg11 : arg11.IsWhole) (arg12 : Memref sig .tc .vmem S32x18432 .bf16) (harg12 : arg12.IsWhole) (arg13 : Memref sig .tc .vmem S32x18432 .f32) (harg13 : arg13.IsWhole) (arg14 : Memref sig .tc .vmem S8x18432 .i32) (harg14 : arg14.IsWhole)
    (x0 : Vec F S32x18432 .bf16) (x1 : Vec F S32x18432 .bf16) (x2 : Vec F S1x18432 .f32) (x3 : Vec F S32x18432 .i32) (x4 : Vec F S1x18432 .f32) (x5 : Vec F S1x18432 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_dropout_ln_fp8 i arg1 harg1 arg2 harg2 arg3 harg3 arg4 harg4 arg5 harg5 arg6 harg6 arg7 harg7 arg8 harg8 arg9 harg9 arg10 harg10 arg11 harg11 arg12 harg12 arg13 harg13 arg14 harg14) K := by
    intro E K
    simp only [cc0_dropout_ln_fp8_eq_skeleton]; unfold cc0_dropout_ln_fp8_skel
    simp only [k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    by_cases hc0 : cond0_0 i <;> by_cases hc1 : cond0_1 i
    all_goals
      sl_exec (disch := first | sl_exact hc0 | sl_exact hc1)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _, _; isplitr; swap; · iexact H6
        ipureintro; rfl
      isplitl [H7]
      · iexists _, _; isplitr; swap; · iexact H7
        ipureintro; rfl
      isplitl [H8]
      · iexists _, _; isplitr; swap; · iexact H8
        ipureintro; rfl
      isplitl [H9]
      · iexists _, _; isplitr; swap; · iexact H9
        ipureintro; rfl
      isplitl [H10]
      · iexists _, _; isplitr; swap; · iexact H10
        ipureintro; rfl
      isplitl [H11]
      · iexists _, _; isplitr; swap; · iexact H11
        ipureintro; rfl
      isplitl [HS0]
      · iexists _, _; isplitr; swap; · iexact HS0
        ipureintro; rfl
      iexists _, _; isplitr; swap; · iexact HS1
      ipureintro; rfl

end Cert.KernelIdeal.Run

end
-- ==== Proof.KernelIdeal.Frame.lean ====
/- The frame of the kernel: from any memory it runs to the end, its arguments unchanged and every semaphore counter at
   zero. Nothing is said here of the results. -/
module

public import proofs.«01_k».proof.Proof.KernelIdeal.Body
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The pipeline's proof data -/

/-- The output windows this certificate FORGETS (6, 7, 8, 9, 10, 11): nothing reads what the kernel leaves in them, so nothing
    of it is named (Lib/Pipeline/Dat.lean `Dat.toRForget`). -/
def forgets0 : Fin 12 → Bool := fun w => w.val == 6 || w.val == 7 || w.val == 8 || w.val == 9 || w.val == 10 || w.val == 11

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

set_option maxHeartbeats 3600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [show (dats m 0 c).leavesExact 0 t = owns (c : Thread nD τ) (ms0_0 t) fullShare ((dats m 0 c).after 0 t) from by unfold Dat.leavesExact; rw [liveAt0_0 t], after0_0]
  rw [show (dats m 0 c).leavesExact 1 t = owns (c : Thread nD τ) (ms0_1 t) fullShare ((dats m 0 c).after 1 t) from by unfold Dat.leavesExact; rw [liveAt0_1 t], after0_1]
  rw [show (dats m 0 c).leavesExact 2 t = owns (c : Thread nD τ) (ms0_2 t) fullShare ((dats m 0 c).after 2 t) from by unfold Dat.leavesExact; rw [liveAt0_2 t], after0_2]
  rw [show (dats m 0 c).leavesExact 3 t = owns (c : Thread nD τ) (ms0_3 t) fullShare ((dats m 0 c).after 3 t) from by unfold Dat.leavesExact; rw [liveAt0_3 t], after0_3]
  rw [show (dats m 0 c).leavesExact 4 t = owns (c : Thread nD τ) (ms0_4 t) fullShare ((dats m 0 c).after 4 t) from by unfold Dat.leavesExact; rw [liveAt0_4 t], after0_4]
  rw [show (dats m 0 c).leavesExact 5 t = owns (c : Thread nD τ) (ms0_5 t) fullShare ((dats m 0 c).after 5 t) from by unfold Dat.leavesExact; rw [liveAt0_5 t], after0_5]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((body_run c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  iintro ⟨H0, H1, H2, H3, H4, H5, H6, H7, H8, H9, H10, H11, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 6, 7, 8, 9, 10, 11) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  unchanged_of m ρ (fun c => (dats m 0 c).toRForget forgets0) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Run

end
-- ==== Proof.Tile.lean ====
/- Rectangles of unit stride in a two-dimensional block: which element a place of the rectangle is, and which
   elements it holds. -/
module

public import Idealize.ShloMosaic.Lib.Pointwise
public import Idealize.ShloMosaic.Lib.Pipeline.Value
public import Idealize.ShloMosaic.Lib.Writes

@[expose] public section

noncomputable section

namespace Cert.Tile

open Idealize.ShloMosaic

variable {R C r w o0 o1 : ℕ} {off : Fin 2 → ℕ}

/-- A rectangle in bounds ends within the array. -/
theorem bound (h : off = ![o0, o1]) (inb : ∀ a, off a + (![r, w] : Fin 2 → ℕ) a ≤ (⟨2, ![R, C]⟩ : Shape).size a) :
    o0 + r ≤ R ∧ o1 + w ≤ C := by
  subst h; exact ⟨inb 0, inb 1⟩

/-- A row of the rectangle is a row of the array. -/
theorem lt0 (h : off = ![o0, o1]) (inb : ∀ a, off a + (![r, w] : Fin 2 → ℕ) a ≤ (⟨2, ![R, C]⟩ : Shape).size a) (a : Fin r) :
    o0 + a.val < R := by have := (bound h inb).1; omega

/-- A column of the rectangle is a column of the array. -/
theorem lt1 (h : off = ![o0, o1]) (inb : ∀ a, off a + (![r, w] : Fin 2 → ℕ) a ≤ (⟨2, ![R, C]⟩ : Shape).size a) (b : Fin w) :
    o1 + b.val < C := by have := (bound h inb).2; omega

/-- Place `(a, b)` of the rectangle at `(o0, o1)` is element `(o0 + a, o1 + b)`. -/
theorem emb_eq (h : off = ![o0, o1]) (inb : ∀ a, off a + (![r, w] : Fin 2 → ℕ) a ≤ (⟨2, ![R, C]⟩ : Shape).size a)
    (a : Fin r) (b : Fin w) :
    (Rect.unit (s := ⟨2, ![R, C]⟩) off ![r, w] inb).emb (ix2 a b) = ix2 ⟨o0 + a, lt0 h inb a⟩ ⟨o1 + b, lt1 h inb b⟩ := by
  subst h
  refine funext fun x => Fin.ext ?_
  match x with
  | ⟨0, _⟩ => show o0 + 1 * (a : ℕ) = o0 + a; omega
  | ⟨1, _⟩ => show o1 + 1 * (b : ℕ) = o1 + b; omega

/-- A load of the rectangle at `(o0, o1)` reads, at place `(a, b)`, element `(o0 + a, o1 + b)`. -/
theorem ld_eq {Val : EltTy → Type} {e : EltTy} (X : (⟨2, ![R, C]⟩ : Shape).Idx → Val e) (h : off = ![o0, o1])
    (inb : ∀ a, off a + (![r, w] : Fin 2 → ℕ) a ≤ (⟨2, ![R, C]⟩ : Shape).size a) (a : Fin r) (b : Fin w) :
    View.ld X (Rect.unit (s := ⟨2, ![R, C]⟩) off ![r, w] inb) (ix2 a b)
      = X (ix2 ⟨o0 + a, lt0 h inb a⟩ ⟨o1 + b, lt1 h inb b⟩) :=
  congrArg X (emb_eq h inb a b)

/-- The rectangle at `(o0, o1)` holds an element exactly when both its coordinates lie within. -/
theorem mem_iff (h : off = ![o0, o1]) (inb : ∀ a, off a + (![r, w] : Fin 2 → ℕ) a ≤ (⟨2, ![R, C]⟩ : Shape).size a)
    (a : Fin R) (b : Fin C) :
    (ix2 a b : (⟨2, ![R, C]⟩ : Shape).Idx) ∈ (Rect.unit (s := ⟨2, ![R, C]⟩) off ![r, w] inb).set
      ↔ (o0 ≤ a.val ∧ a.val < o0 + r) ∧ (o1 ≤ b.val ∧ b.val < o1 + w) := by
  subst h
  rw [Rect.mem_set_unit]
  constructor
  · intro H; exact ⟨H 0, H 1⟩
  · intro H x
    match x with
    | ⟨0, _⟩ => exact H.1
    | ⟨1, _⟩ => exact H.2

end Cert.Tile

end
-- ==== Proof.Lanes.lean ====
/- Sums and maxima of a row of 18432 columns taken lane by lane: lane `l` holds the columns `128 j + l`. -/
module

public import Idealize.ShloMosaic.Lib.Pointwise

@[expose] public section

noncomputable section

namespace Cert.Lanes

/-- The sum over the columns is the sum over the lanes of the sums over a lane's columns. -/
theorem sum_lanes (V : ℕ → EReal) : ∀ n : ℕ, ∑ c ∈ Finset.range (128 * n), V c = ∑ l ∈ Finset.range 128, ∑ j ∈ Finset.range n, V (128 * j + l)
  | 0 => by simp
  | n + 1 => by
    rw [Nat.mul_succ, Finset.sum_range_add, sum_lanes V n, ← Finset.sum_add_distrib]
    exact Finset.sum_congr rfl fun l _ => (Finset.sum_range_succ _ _).symm

/-- A row's sum, column by column, is the sum of its 128 lane sums. -/
theorem sum_row (V : ℕ → EReal) : ∑ l : Fin 128, ∑ j ∈ Finset.range 144, V (128 * j + l.val) = ∑ c : Fin 18432, V c.val := by
  rw [Fin.sum_univ_eq_sum_range (fun l => ∑ j ∈ Finset.range 144, V (128 * j + l)) 128, Fin.sum_univ_eq_sum_range V 18432]
  exact (sum_lanes V 144).symm

/-- Twelve columns more. -/
theorem sum_trip (W : ℕ → EReal) (k : ℕ) : ∑ j ∈ Finset.range (12 * (k + 1)), W j
    = (((((∑ j ∈ Finset.range (12 * k), W j) + (W (12 * k) + W (12 * k + 1))) + (W (12 * k + 2) + W (12 * k + 3))) + (W (12 * k + 4) + W (12 * k + 5))) + (W (12 * k + 6) + W (12 * k + 7)) + (W (12 * k + 8) + W (12 * k + 9))) + (W (12 * k + 10) + W (12 * k + 11)) := by
  rw [Nat.mul_succ, Finset.sum_range_add]
  simp only [Finset.sum_range_succ, Finset.sum_range_zero, zero_add, add_zero]
  ac_rfl

/-- The greatest over the columns is the greatest over the lanes of the greatest over a lane's columns. -/
theorem sup_lanes (V : ℕ → EReal) (n : ℕ) : (Finset.range 128).sup (fun l => (Finset.range n).sup fun j => V (128 * j + l)) = (Finset.range (128 * n)).sup V := by
  refine le_antisymm (Finset.sup_le fun l hl => Finset.sup_le fun j hj => ?_) (Finset.sup_le fun c hc => ?_)
  · have := Finset.mem_range.mp hl; have := Finset.mem_range.mp hj
    exact Finset.le_sup (f := V) (Finset.mem_range.mpr (by omega))
  · have := Finset.mem_range.mp hc
    have h1 := Finset.le_sup (s := Finset.range n) (f := fun j => V (128 * j + c % 128)) (b := c / 128) (Finset.mem_range.mpr (by omega))
    have h2 := Finset.le_sup (s := Finset.range 128) (f := fun l => (Finset.range n).sup fun j => V (128 * j + l)) (b := c % 128) (Finset.mem_range.mpr (by omega))
    refine le_trans (le_of_eq ?_) (le_trans h1 h2)
    show V c = V (128 * (c / 128) + c % 128)
    rw [Nat.div_add_mod]

/-- Twelve columns more. -/
theorem sup_trip (W : ℕ → EReal) (z : EReal) (k : ℕ) : max z ((Finset.range (12 * (k + 1))).sup W)
    = max (max (max (max (max (max (max z ((Finset.range (12 * k)).sup W)) (max (W (12 * k)) (W (12 * k + 1)))) (max (W (12 * k + 2)) (W (12 * k + 3)))) (max (W (12 * k + 4)) (W (12 * k + 5)))) (max (W (12 * k + 6)) (W (12 * k + 7)))) (max (W (12 * k + 8)) (W (12 * k + 9)))) (max (W (12 * k + 10)) (W (12 * k + 11))) := by
  rw [show 12 * (k + 1) = 12 * k + 11 + 1 from by omega]
  simp only [Finset.range_add_one, Finset.sup_insert]
  ac_rfl

/-- The columns as the places of the row. -/
theorem sup_row (V : ℕ → EReal) (n : ℕ) : (Finset.range n).sup V = (Finset.univ : Finset (Fin n)).sup fun c => V c.val := by
  refine le_antisymm (Finset.sup_le fun c hc => ?_) (Finset.sup_le fun c _ => Finset.le_sup (f := V) (Finset.mem_range.mpr c.isLt))
  exact Finset.le_sup (s := Finset.univ) (f := fun c : Fin n => V c.val) (b := ⟨c, Finset.mem_range.mp hc⟩) (Finset.mem_univ _)

/-- A row of a block of 32 rows as a function of the column's number, 0 past the last column. -/
def col (f : (⟨2, ![32, 18432]⟩ : Idealize.ShloMosaic.Shape).Idx → EReal) (a : Fin 32) (n : ℕ) : EReal :=
  if hn : n < 18432 then f (Idealize.ShloMosaic.ix2 a ⟨n, hn⟩) else 0

/-- A column by its number, in range. -/
theorem col_at (f : (⟨2, ![32, 18432]⟩ : Idealize.ShloMosaic.Shape).Idx → EReal) (a : Fin 32) {n m : ℕ} (e : n = m) (hm : m < 18432) :
    col f a n = f (Idealize.ShloMosaic.ix2 a ⟨m, hm⟩) := by subst e; exact dif_pos hm

end Cert.Lanes

end
-- ==== Proof.KernelIdeal.Loop2.lean ====
/- The second pass over the reals: what the loop leaves in the scratch (each element less its row's mean) and what it
   yields (in each lane, the sum of the squares of the columns that fall on that lane). -/
module

public import proofs.«01_k».proof.Proof.KernelIdeal.Body
public import proofs.«01_k».proof.Proof.Tile
public import proofs.«01_k».proof.Proof.Lanes

@[expose] public section

set_option maxRecDepth 16384
set_option maxHeartbeats 2000000

noncomputable section

namespace Cert.KernelIdeal.Run

open Cert.KernelIdeal Cert.KernelIdeal.Gen Cert.Tile Cert.Lanes
open Idealize.ShloMosaic Idealize.ShloMosaic.TcCoe Idealize.ShloMosaic.Tactic

variable (c : Dev nD) (bd : Option Variants.none.V) (i : grid0.Coords) (arg1 : Memref sig .tc .vmem S32x18432 .bf16) (harg1 : arg1.IsWhole) (arg2 : Memref sig .tc .vmem S32x18432 .bf16) (harg2 : arg2.IsWhole) (arg3 : Memref sig .tc .vmem S1x18432 .f32) (harg3 : arg3.IsWhole) (arg4 : Memref sig .tc .vmem S32x18432 .i32) (harg4 : arg4.IsWhole) (arg5 : Memref sig .tc .vmem S1x18432 .f32) (harg5 : arg5.IsWhole) (arg6 : Memref sig .tc .vmem S1x18432 .f32) (harg6 : arg6.IsWhole) (arg7 : Memref sig .tc .vmem S32x18432 .fp8e4m3) (harg7 : arg7.IsWhole) (arg8 : Memref sig .tc .vmem S2x2048 .f32) (harg8 : arg8.IsWhole) (arg9 : Memref sig .tc .vmem S32x18432 .i8) (harg9 : arg9.IsWhole) (arg10 : Memref sig .tc .vmem S2x2048 .f32) (harg10 : arg10.IsWhole) (arg11 : Memref sig .tc .vmem S2x2048 .f32) (harg11 : arg11.IsWhole) (arg12 : Memref sig .tc .vmem S32x18432 .bf16) (harg12 : arg12.IsWhole) (arg13 : Memref sig .tc .vmem S32x18432 .f32) (harg13 : arg13.IsWhole) (arg14 : Memref sig .tc .vmem S8x18432 .i32) (harg14 : arg14.IsWhole)

/-- Where the six units of a trip lie: unit `u` of trip `k` starts at column `1536 k + 256 u`. -/
theorem off4 (k : Fin k0_t2_loop.trips) : k0_off4 k 0#32 = ![0, 1536 * k.val] ∧ k0_off4 k 256#32 = ![0, 1536 * k.val + 256]
    ∧ k0_off4 k 512#32 = ![0, 1536 * k.val + 512] ∧ k0_off4 k 768#32 = ![0, 1536 * k.val + 768]
    ∧ k0_off4 k 1024#32 = ![0, 1536 * k.val + 1024] ∧ k0_off4 k 1280#32 = ![0, 1536 * k.val + 1280] :=
  ⟨k0_off4_eq k 0, k0_off4_eq k 1, k0_off4_eq k 2, k0_off4_eq k 3, k0_off4_eq k 4, k0_off4_eq k 5⟩

/-- The pass has twelve trips. -/
theorem trips2 : k0_t2_loop.trips = 12 := by decide

section Pass2
variable (v33 : FVec Ideal S32x1 .f32) (v34 : FVec Ideal S32x128 .f32) (c0 c12 : BitVec 32) (X : BufTy.Contents (Elt Ideal) arg12.view.ty)
  (h : Vec Ideal S32x18432 .bf16) (hX : arg12.view.read (Elt Ideal) X = h)

/-- An element less its row's mean. -/
def centred (v33 : FVec Ideal S32x1 .f32) (h : Vec Ideal S32x18432 .bf16) : Vec Ideal S32x18432 .f32 := fun j => h j - v33 (ix2 (j 0) 0)

include hX in
/-- Every piece a trip of the second pass stores is of the centred rows. -/
theorem t2_pieces (k : Fin k0_t2_loop.trips) (acc : FVec Ideal S32x128 .f32) :
    ∀ p ∈ tripL_k0_t2 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 v33 v34 c0 c12 X k acc, ∀ x : p.1.shape.Idx, p.2 x = centred v33 h (p.1.emb x) := by
  obtain ⟨e0, e1, e2, e3, e4, e5⟩ := off4 k
  unfold tripL_k0_t2 trip_k0_t2
  dsimp only
  sl_unfold_run_names
  simp only [List.forall_mem_cons, List.not_mem_nil, false_imp_iff, implies_true, and_true, View.readAt_eq_ld, hX]
  refine ⟨?_, ?_, ?_, ?_, ?_, ?_⟩ <;> intro x <;> idx_vars x
  all_goals
    first | rw [emb_eq e0] | rw [emb_eq e1] | rw [emb_eq e2] | rw [emb_eq e3] | rw [emb_eq e4] | rw [emb_eq e5]
    unfold_payloads
    pointwise [centred, e0, e1, e2, e3, e4, e5]

/-- A trip's pieces cover its 1536 columns. -/
theorem t2_cover (k : Fin k0_t2_loop.trips) (acc : FVec Ideal S32x128 .f32) (a : Fin 32) (b : Fin 18432)
    (hb : 1536 * k.val ≤ b.val ∧ b.val < 1536 * (k.val + 1)) :
    ∃ p ∈ tripL_k0_t2 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 v33 v34 c0 c12 X k acc, ix2 a b ∈ p.1.set := by
  obtain ⟨e0, e1, e2, e3, e4, e5⟩ := off4 k
  unfold tripL_k0_t2 trip_k0_t2
  dsimp only
  simp only [List.exists_mem_cons_iff, List.not_mem_nil, false_and, exists_false, or_false]
  rw [mem_iff e0, mem_iff e1, mem_iff e2, mem_iff e3, mem_iff e4, mem_iff e5]
  have := a.isLt
  omega

include hX in
/-- After a trip the lanes hold the sums of the squares of the columns so far. -/
theorem t2_yield (k : Fin k0_t2_loop.trips) (acc : FVec Ideal S32x128 .f32) (a : Fin 32) (l : Fin 128)
    (hacc : acc (ix2 a l) = ∑ j ∈ Finset.range (12 * k.val), col (fun j => centred v33 h j * centred v33 h j) a (128 * j + l.val)) :
    tripR_k0_t2 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 v33 v34 c0 c12 X k acc (ix2 a l)
      = ∑ j ∈ Finset.range (12 * (k.val + 1)), col (fun j => centred v33 h j * centred v33 h j) a (128 * j + l.val) := by
  obtain ⟨e0, e1, e2, e3, e4, e5⟩ := off4 k
  have hk : k.val < 12 := Nat.lt_of_lt_of_le k.isLt k0_t2_abs.2.1
  have hl := l.isLt
  rw [sum_trip, ← hacc]
  unfold tripR_k0_t2 trip_k0_t2
  dsimp only
  sl_unfold_run_names
  unfold_payloads
  simp only [View.readAt_eq_ld, hX]
  pointwise [e0, e1, e2, e3, e4, e5]
  refine congrArg₂ (· + ·) (congrArg₂ (· + ·) (congrArg₂ (· + ·) (congrArg₂ (· + ·) (congrArg₂ (· + ·) (congrArg₂ (· + ·) rfl
    (congrArg₂ (· + ·) ?_ ?_)) (congrArg₂ (· + ·) ?_ ?_)) (congrArg₂ (· + ·) ?_ ?_)) (congrArg₂ (· + ·) ?_ ?_)) (congrArg₂ (· + ·) ?_ ?_)) (congrArg₂ (· + ·) ?_ ?_)
  all_goals
    refine Eq.symm (col_at _ _ ?_ _)
    omega

/-- Before trip `k`: every piece written agrees with the centred block, the pieces cover the columns below `1536 k`, and
    the carried value's lane `l` is the sum of the squares of the columns `128 j + l`, `j < 12 k`. -/
theorem t2_before (v36 : FVec Ideal S32x128 .f32) (hz : ∀ j, v36 j = 0) (hX : arg12.view.read (Elt Ideal) X = h) : ∀ k : ℕ, k ≤ 12 →
    (∀ p ∈ (st_k0_t2 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 v33 v34 c0 c12 X v36 k).2, ∀ x : p.1.shape.Idx, p.2 x = centred v33 h (p.1.emb x))
    ∧ (∀ (a : Fin 32) (b : Fin 18432), b.val < 1536 * k → ∃ p ∈ (st_k0_t2 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 v33 v34 c0 c12 X v36 k).2, ix2 a b ∈ p.1.set)
    ∧ ∀ (a : Fin 32) (l : Fin 128), (st_k0_t2 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 v33 v34 c0 c12 X v36 k).1 (ix2 a l)
        = ∑ j ∈ Finset.range (12 * k), col (fun j => centred v33 h j * centred v33 h j) a (128 * j + l.val)
  | 0, _ => ⟨fun p hp => absurd hp List.not_mem_nil, fun a b hb => absurd hb (by omega), fun a l => (hz _).trans (by simp)⟩
  | k + 1, hk => by
    have ht : k < k0_t2_loop.trips := Nat.lt_of_lt_of_eq (by omega) trips2.symm
    obtain ⟨h1, h2, h3⟩ := t2_before v36 hz hX k (by omega)
    rw [st_k0_t2_succ (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 v33 v34 c0 c12 X v36 ⟨k, ht⟩]
    dsimp only
    refine ⟨fun p hp => ?_, fun a b hb => ?_, fun a l => ?_⟩
    · rcases List.mem_append.mp hp with hp | hp
      · exact t2_pieces c bd i arg1 harg1 arg2 harg2 arg3 harg3 arg4 harg4 arg5 harg5 arg6 harg6 arg7 harg7 arg8 harg8 arg9 harg9 arg10 harg10 arg11 harg11 arg12 harg12 arg13 harg13 arg14 harg14 v33 v34 c0 c12 X h hX ⟨k, ht⟩ _ p hp
      · exact h1 p hp
    · by_cases hbk : b.val < 1536 * k
      · obtain ⟨p, hp, hm⟩ := h2 a b hbk
        exact ⟨p, List.mem_append.mpr (.inr hp), hm⟩
      · obtain ⟨p, hp, hm⟩ := t2_cover c bd i arg1 harg1 arg2 harg2 arg3 harg3 arg4 harg4 arg5 harg5 arg6 harg6 arg7 harg7 arg8 harg8 arg9 harg9 arg10 harg10 arg11 harg11 arg12 harg12 arg13 harg13 arg14 harg14 v33 v34 c0 c12 X ⟨k, ht⟩ _ a b ⟨by simpa using hbk, hb⟩
        exact ⟨p, List.mem_append.mpr (.inl hp), hm⟩
    · exact t2_yield c bd i arg1 harg1 arg2 harg2 arg3 harg3 arg4 harg4 arg5 harg5 arg6 harg6 arg7 harg7 arg8 harg8 arg9 harg9 arg10 harg10 arg11 harg11 arg12 harg12 arg13 harg13 arg14 harg14 v33 v34 c0 c12 X h hX ⟨k, ht⟩ _ a l (h3 a l)

/-- After the pass the scratch holds the centred block. -/
theorem t2_read (v36 : FVec Ideal S32x128 .f32) (hz : ∀ j, v36 j = 0) (hX : arg12.view.read (Elt Ideal) X = h) (G : BufTy.Contents (Elt Ideal) arg13.view.ty) :
    arg13.view.read (Elt Ideal) (arg13.view.writes (Elt Ideal) G (st_k0_t2 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 v33 v34 c0 c12 X v36 k0_t2_loop.trips).2) = centred v33 h := by
  rw [trips2]
  obtain ⟨h1, h2, _⟩ := t2_before c bd i arg1 harg1 arg2 harg2 arg3 harg3 arg4 harg4 arg5 harg5 arg6 harg6 arg7 harg7 arg8 harg8 arg9 harg9 arg10 harg10 arg11 harg11 arg12 harg12 arg13 harg13 arg14 harg14 v33 v34 c0 c12 X h v36 hz hX 12 le_rfl
  funext y
  idx_vars y
  exact View.read_writes_apply_of_pieces _ _ _ _ h1 _ (h2 y0 y1 (by have := y1.isLt; omega))

/-- What the pass yields, summed over the lanes, is the sum of the squares along the row. -/
theorem t2_sum (v36 : FVec Ideal S32x128 .f32) (hz : ∀ j, v36 j = 0) (hX : arg12.view.read (Elt Ideal) X = h) (a : Fin 32) :
    ∑ l : Fin 128, (st_k0_t2 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 v33 v34 c0 c12 X v36 k0_t2_loop.trips).1 (ix2 a l)
      = ∑ n : Fin 18432, centred v33 h (ix2 a n) * centred v33 h (ix2 a n) := by
  rw [trips2]
  obtain ⟨_, _, h3⟩ := t2_before c bd i arg1 harg1 arg2 harg2 arg3 harg3 arg4 harg4 arg5 harg5 arg6 harg6 arg7 harg7 arg8 harg8 arg9 harg9 arg10 harg10 arg11 harg11 arg12 harg12 arg13 harg13 arg14 harg14 v33 v34 c0 c12 X h v36 hz hX 12 le_rfl
  simp only [h3]
  rw [show 12 * 12 = 144 from rfl, sum_row]
  exact Finset.sum_congr rfl fun n _ => col_at _ _ rfl n.isLt

end Pass2
end Cert.KernelIdeal.Run
end
-- ==== Proof.KernelIdeal.Loop3.lean ====
/- The third pass over the reals: what the loop leaves in the scratch (the normalised row, scaled and shifted) and what
   it yields (in each lane, the greatest magnitude of the columns that fall on that lane). -/
module

public import proofs.«01_k».proof.Proof.KernelIdeal.Loop2

@[expose] public section

set_option maxRecDepth 16384
set_option maxHeartbeats 2000000

noncomputable section

namespace Cert.KernelIdeal.Run

open Cert.KernelIdeal Cert.KernelIdeal.Gen Cert.Tile Cert.Lanes
open Idealize.ShloMosaic Idealize.ShloMosaic.TcCoe Idealize.ShloMosaic.Tactic

variable (c : Dev nD) (bd : Option Variants.none.V) (i : grid0.Coords) (arg1 : Memref sig .tc .vmem S32x18432 .bf16) (harg1 : arg1.IsWhole) (arg2 : Memref sig .tc .vmem S32x18432 .bf16) (harg2 : arg2.IsWhole) (arg3 : Memref sig .tc .vmem S1x18432 .f32) (harg3 : arg3.IsWhole) (arg4 : Memref sig .tc .vmem S32x18432 .i32) (harg4 : arg4.IsWhole) (arg5 : Memref sig .tc .vmem S1x18432 .f32) (harg5 : arg5.IsWhole) (arg6 : Memref sig .tc .vmem S1x18432 .f32) (harg6 : arg6.IsWhole) (arg7 : Memref sig .tc .vmem S32x18432 .fp8e4m3) (harg7 : arg7.IsWhole) (arg8 : Memref sig .tc .vmem S2x2048 .f32) (harg8 : arg8.IsWhole) (arg9 : Memref sig .tc .vmem S32x18432 .i8) (harg9 : arg9.IsWhole) (arg10 : Memref sig .tc .vmem S2x2048 .f32) (harg10 : arg10.IsWhole) (arg11 : Memref sig .tc .vmem S2x2048 .f32) (harg11 : arg11.IsWhole) (arg12 : Memref sig .tc .vmem S32x18432 .bf16) (harg12 : arg12.IsWhole) (arg13 : Memref sig .tc .vmem S32x18432 .f32) (harg13 : arg13.IsWhole) (arg14 : Memref sig .tc .vmem S8x18432 .i32) (harg14 : arg14.IsWhole)

/-- The pass has twelve trips. -/
theorem trips3 : k0_t3_loop.trips = 12 := by decide

/-- Where the six units of a trip lie: unit `u` of trip `k` starts at column `1536 k + 256 u`. -/
theorem off5 (k : Fin k0_t3_loop.trips) : k0_off5 k 0#32 = ![0, 1536 * k.val] ∧ k0_off5 k 256#32 = ![0, 1536 * k.val + 256]
    ∧ k0_off5 k 512#32 = ![0, 1536 * k.val + 512] ∧ k0_off5 k 768#32 = ![0, 1536 * k.val + 768]
    ∧ k0_off5 k 1024#32 = ![0, 1536 * k.val + 1024] ∧ k0_off5 k 1280#32 = ![0, 1536 * k.val + 1280] :=
  ⟨k0_off5_eq k 0, k0_off5_eq k 1, k0_off5_eq k 2, k0_off5_eq k 3, k0_off5_eq k 4, k0_off5_eq k 5⟩

/-- The same of the scale and the shift. -/
theorem off6 (k : Fin k0_t3_loop.trips) : k0_off6 k 0#32 = ![0, 1536 * k.val] ∧ k0_off6 k 256#32 = ![0, 1536 * k.val + 256]
    ∧ k0_off6 k 512#32 = ![0, 1536 * k.val + 512] ∧ k0_off6 k 768#32 = ![0, 1536 * k.val + 768]
    ∧ k0_off6 k 1024#32 = ![0, 1536 * k.val + 1024] ∧ k0_off6 k 1280#32 = ![0, 1536 * k.val + 1280] :=
  ⟨k0_off6_eq k 0, k0_off6_eq k 1, k0_off6_eq k 2, k0_off6_eq k 3, k0_off6_eq k 4, k0_off6_eq k 5⟩

/-- An element times its row's reciprocal deviation, times the column's scale, plus the column's shift. -/
def affine (v43 : FVec Ideal S32x1 .f32) (z : Vec Ideal S32x18432 .f32) (g b : Vec Ideal S1x18432 .f32) : Vec Ideal S32x18432 .f32 :=
  fun j => z j * v43 (ix2 (j 0) 0) * g (ix2 0 (j 1)) + b (ix2 0 (j 1))

/-- The magnitude of each element. -/
def mag (y : (⟨2, ![32, 18432]⟩ : Shape).Idx → EReal) : (⟨2, ![32, 18432]⟩ : Shape).Idx → EReal := fun j => max (y j) (-(y j))

section Pass3
variable (v33 : FVec Ideal S32x1 .f32) (v34 : FVec Ideal S32x128 .f32) (c0 c12 : BitVec 32) (v36 : FVec Ideal S32x128 .f32)
  (X5 : BufTy.Contents (Elt Ideal) arg5.view.ty) (X6 : BufTy.Contents (Elt Ideal) arg6.view.ty) (f : BufTy.Contents (Elt Ideal) arg13.view.ty)
  (z : Vec Ideal S32x18432 .f32) (g b : Vec Ideal S1x18432 .f32)

/-- Trip `k`, where the columns it reads still hold `z`: every piece it writes agrees with the affine image of `z`. -/
theorem t3_pieces (hX5 : arg5.view.read (Elt Ideal) X5 = g) (hX6 : arg6.view.read (Elt Ideal) X6 = b) (k : Fin k0_t3_loop.trips) (acc : FVec Ideal S32x128 .f32)
    (hf : ∀ (r : Fin 32) (n : Fin 18432), 1536 * k.val ≤ n.val → arg13.view.read (Elt Ideal) f (ix2 r n) = z (ix2 r n)) :
    ∀ p ∈ tripL_k0_t3 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 v33 v34 c0 c12 v36 X5 X6 k acc f, ∀ x : p.1.shape.Idx, p.2 x = affine (k0_pay83 v36) z g b (p.1.emb x) := by
  obtain ⟨e0, e1, e2, e3, e4, e5⟩ := off5 k
  obtain ⟨d0, d1, d2, d3, d4, d5⟩ := off6 k
  unfold tripL_k0_t3 trip_k0_t3
  dsimp only
  sl_unfold_run_names
  simp only [List.forall_mem_cons, List.not_mem_nil, false_imp_iff, implies_true, and_true, View.readAt_eq_ld, hX5, hX6]
  generalize k0_pay83 v36 = v43
  refine ⟨?_, ?_, ?_, ?_, ?_, ?_⟩ <;> intro x <;> idx_vars x
  all_goals
    first | rw [emb_eq e0] | rw [emb_eq e1] | rw [emb_eq e2] | rw [emb_eq e3] | rw [emb_eq e4] | rw [emb_eq e5]
    unfold_payloads
    pointwise [affine, e0, e1, e2, e3, e4, e5, d0, d1, d2, d3, d4, d5]
    rw [hf _ _ (by dsimp only; omega)]

/-- A trip's pieces cover its 1536 columns. -/
theorem t3_cover (k : Fin k0_t3_loop.trips) (acc : FVec Ideal S32x128 .f32) (r : Fin 32) (n : Fin 18432)
    (hb : 1536 * k.val ≤ n.val ∧ n.val < 1536 * (k.val + 1)) :
    ∃ p ∈ tripL_k0_t3 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 v33 v34 c0 c12 v36 X5 X6 k acc f, ix2 r n ∈ p.1.set := by
  obtain ⟨e0, e1, e2, e3, e4, e5⟩ := off5 k
  unfold tripL_k0_t3 trip_k0_t3
  dsimp only
  simp only [List.exists_mem_cons_iff, List.not_mem_nil, false_and, exists_false, or_false]
  rw [mem_iff e0, mem_iff e1, mem_iff e2, mem_iff e3, mem_iff e4, mem_iff e5]
  have := r.isLt
  omega

/-- A trip stores nothing in the columns of later trips. -/
theorem t3_off (k : Fin k0_t3_loop.trips) (acc : FVec Ideal S32x128 .f32) (r : Fin 32) (n : Fin 18432) (hb : 1536 * (k.val + 1) ≤ n.val) :
    ∀ p ∈ tripL_k0_t3 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 v33 v34 c0 c12 v36 X5 X6 k acc f, ix2 r n ∉ p.1.set := by
  obtain ⟨e0, e1, e2, e3, e4, e5⟩ := off5 k
  unfold tripL_k0_t3 trip_k0_t3
  dsimp only
  simp only [List.forall_mem_cons, List.not_mem_nil, false_imp_iff, implies_true, and_true]
  rw [mem_iff e0, mem_iff e1, mem_iff e2, mem_iff e3, mem_iff e4, mem_iff e5]
  omega

/-- After a trip the lanes hold the largest magnitudes of the columns so far. -/
theorem t3_yield (hX5 : arg5.view.read (Elt Ideal) X5 = g) (hX6 : arg6.view.read (Elt Ideal) X6 = b) (k : Fin k0_t3_loop.trips) (acc : FVec Ideal S32x128 .f32)
    (hf : ∀ (r : Fin 32) (n : Fin 18432), 1536 * k.val ≤ n.val → arg13.view.read (Elt Ideal) f (ix2 r n) = z (ix2 r n)) (r : Fin 32) (l : Fin 128)
    (hacc : acc (ix2 r l) = max 0 ((Finset.range (12 * k.val)).sup fun j => col (mag (affine (k0_pay83 v36) z g b)) r (128 * j + l.val))) :
    tripR_k0_t3 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 v33 v34 c0 c12 v36 X5 X6 k acc f (ix2 r l)
      = max 0 ((Finset.range (12 * (k.val + 1))).sup fun j => col (mag (affine (k0_pay83 v36) z g b)) r (128 * j + l.val)) := by
  obtain ⟨e0, e1, e2, e3, e4, e5⟩ := off5 k
  obtain ⟨d0, d1, d2, d3, d4, d5⟩ := off6 k
  have hk : k.val < 12 := Nat.lt_of_lt_of_le k.isLt k0_t3_abs.2.1
  have hl := l.isLt
  rw [sup_trip, ← hacc]
  unfold tripR_k0_t3 trip_k0_t3
  dsimp only
  sl_unfold_run_names
  generalize k0_pay83 v36 = v43
  unfold_payloads
  simp only [View.readAt_eq_ld, hX5, hX6]
  pointwise [e0, e1, e2, e3, e4, e5, d0, d1, d2, d3, d4, d5]
  refine congrArg₂ max (congrArg₂ max (congrArg₂ max (congrArg₂ max (congrArg₂ max (congrArg₂ max rfl
    (congrArg₂ max ?_ ?_)) (congrArg₂ max ?_ ?_)) (congrArg₂ max ?_ ?_)) (congrArg₂ max ?_ ?_)) (congrArg₂ max ?_ ?_)) (congrArg₂ max ?_ ?_)
  all_goals
    rw [hf _ _ (by dsimp only; omega)]
    refine Eq.symm (col_at _ _ ?_ _)
    omega

/-- Before trip `k`: the pieces written agree with the affine image, they cover the columns below `1536 k` and no others,
    and the carried value's lane `l` is the greatest magnitude of the columns `128 j + l`, `j < 12 k`. -/
theorem t3_before (hX5 : arg5.view.read (Elt Ideal) X5 = g) (hX6 : arg6.view.read (Elt Ideal) X6 = b) (hX13 : arg13.view.read (Elt Ideal) f = z)
    (v46 : FVec Ideal S32x128 .f32) (hz : ∀ j, v46 j = 0) : ∀ k : ℕ, k ≤ 12 →
    (∀ p ∈ (st_k0_t3 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 v33 v34 c0 c12 v36 X5 X6 f v46 k).2, ∀ x : p.1.shape.Idx, p.2 x = affine (k0_pay83 v36) z g b (p.1.emb x))
    ∧ (∀ (r : Fin 32) (n : Fin 18432), n.val < 1536 * k → ∃ p ∈ (st_k0_t3 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 v33 v34 c0 c12 v36 X5 X6 f v46 k).2, ix2 r n ∈ p.1.set)
    ∧ (∀ (r : Fin 32) (n : Fin 18432), 1536 * k ≤ n.val → ∀ p ∈ (st_k0_t3 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 v33 v34 c0 c12 v36 X5 X6 f v46 k).2, ix2 r n ∉ p.1.set)
    ∧ ∀ (r : Fin 32) (l : Fin 128), (st_k0_t3 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 v33 v34 c0 c12 v36 X5 X6 f v46 k).1 (ix2 r l)
        = max 0 ((Finset.range (12 * k)).sup fun j => col (mag (affine (k0_pay83 v36) z g b)) r (128 * j + l.val))
  | 0, _ => ⟨fun p hp => absurd hp List.not_mem_nil, fun a b hb => absurd hb (by omega), fun _ _ _ p hp => absurd hp List.not_mem_nil, fun a l => (hz _).trans (by simp)⟩
  | k + 1, hk => by
    have ht : k < k0_t3_loop.trips := Nat.lt_of_lt_of_eq (by omega) trips3.symm
    obtain ⟨h1, h2, h3, h4⟩ := t3_before hX5 hX6 hX13 v46 hz k (by omega)
    have hf : ∀ (r : Fin 32) (n : Fin 18432), 1536 * k ≤ n.val →
        arg13.view.read (Elt Ideal) (arg13.view.writes (Elt Ideal) f (st_k0_t3 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 v33 v34 c0 c12 v36 X5 X6 f v46 k).2) (ix2 r n) = z (ix2 r n) :=
      fun r n hn => (View.read_writes_apply_of_forall_not_mem _ _ _ _ (h3 r n hn)).trans (congrFun hX13 _)
    rw [st_k0_t3_succ (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 v33 v34 c0 c12 v36 X5 X6 f v46 ⟨k, ht⟩]
    dsimp only
    refine ⟨fun p hp => ?_, fun a b' hb => ?_, fun a b' hb p hp => ?_, fun a l => ?_⟩
    · rcases List.mem_append.mp hp with hp | hp
      · exact t3_pieces c bd i arg1 harg1 arg2 harg2 arg3 harg3 arg4 harg4 arg5 harg5 arg6 harg6 arg7 harg7 arg8 harg8 arg9 harg9 arg10 harg10 arg11 harg11 arg12 harg12 arg13 harg13 arg14 harg14 v33 v34 c0 c12 v36 X5 X6 _ z g b hX5 hX6 ⟨k, ht⟩ _ hf p hp
      · exact h1 p hp
    · by_cases hbk : b'.val < 1536 * k
      · obtain ⟨p, hp, hm⟩ := h2 a b' hbk
        exact ⟨p, List.mem_append.mpr (.inr hp), hm⟩
      · obtain ⟨p, hp, hm⟩ := t3_cover c bd i arg1 harg1 arg2 harg2 arg3 harg3 arg4 harg4 arg5 harg5 arg6 harg6 arg7 harg7 arg8 harg8 arg9 harg9 arg10 harg10 arg11 harg11 arg12 harg12 arg13 harg13 arg14 harg14 v33 v34 c0 c12 v36 X5 X6 _ ⟨k, ht⟩ _ a b' ⟨by simpa using hbk, hb⟩
        exact ⟨p, List.mem_append.mpr (.inl hp), hm⟩
    · rcases List.mem_append.mp hp with hp | hp
      · exact t3_off c bd i arg1 harg1 arg2 harg2 arg3 harg3 arg4 harg4 arg5 harg5 arg6 harg6 arg7 harg7 arg8 harg8 arg9 harg9 arg10 harg10 arg11 harg11 arg12 harg12 arg13 harg13 arg14 harg14 v33 v34 c0 c12 v36 X5 X6 _ ⟨k, ht⟩ _ a b' hb p hp
      · exact h3 a b' (by omega) p hp
    · exact t3_yield c bd i arg1 harg1 arg2 harg2 arg3 harg3 arg4 harg4 arg5 harg5 arg6 harg6 arg7 harg7 arg8 harg8 arg9 harg9 arg10 harg10 arg11 harg11 arg12 harg12 arg13 harg13 arg14 harg14 v33 v34 c0 c12 v36 X5 X6 _ z g b hX5 hX6 ⟨k, ht⟩ _ hf a l (h4 a l)

/-- After the pass the scratch holds the affine image. -/
theorem t3_read (hX5 : arg5.view.read (Elt Ideal) X5 = g) (hX6 : arg6.view.read (Elt Ideal) X6 = b) (hX13 : arg13.view.read (Elt Ideal) f = z)
    (v46 : FVec Ideal S32x128 .f32) (hz : ∀ j, v46 j = 0) :
    arg13.view.read (Elt Ideal) (arg13.view.writes (Elt Ideal) f (st_k0_t3 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 v33 v34 c0 c12 v36 X5 X6 f v46 k0_t3_loop.trips).2) = affine (k0_pay83 v36) z g b := by
  rw [trips3]
  obtain ⟨h1, h2, _⟩ := t3_before c bd i arg1 harg1 arg2 harg2 arg3 harg3 arg4 harg4 arg5 harg5 arg6 harg6 arg7 harg7 arg8 harg8 arg9 harg9 arg10 harg10 arg11 harg11 arg12 harg12 arg13 harg13 arg14 harg14 v33 v34 c0 c12 v36 X5 X6 f z g b hX5 hX6 hX13 v46 hz 12 le_rfl
  funext y
  idx_vars y
  exact View.read_writes_apply_of_pieces _ _ _ _ h1 _ (h2 y0 y1 (by have := y1.isLt; omega))

/-- What the pass yields: the greatest over the lanes, from −∞, is the greatest magnitude along the row. -/
theorem t3_max (hX5 : arg5.view.read (Elt Ideal) X5 = g) (hX6 : arg6.view.read (Elt Ideal) X6 = b) (hX13 : arg13.view.read (Elt Ideal) f = z)
    (v46 : FVec Ideal S32x128 .f32) (hz : ∀ j, v46 j = 0) (r : Fin 32) :
    (Finset.univ : Finset (Fin 128)).sup (fun l => (st_k0_t3 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 v33 v34 c0 c12 v36 X5 X6 f v46 k0_t3_loop.trips).1 (ix2 r l))
      = max 0 ((Finset.univ : Finset (Fin 18432)).sup fun n => mag (affine (k0_pay83 v36) z g b) (ix2 r n)) := by
  rw [trips3]
  obtain ⟨_, _, _, h4⟩ := t3_before c bd i arg1 harg1 arg2 harg2 arg3 harg3 arg4 harg4 arg5 harg5 arg6 harg6 arg7 harg7 arg8 harg8 arg9 harg9 arg10 harg10 arg11 harg11 arg12 harg12 arg13 harg13 arg14 harg14 v33 v34 c0 c12 v36 X5 X6 f z g b hX5 hX6 hX13 v46 hz 12 le_rfl
  simp only [h4]
  refine (Finset.sup_sup (s := (Finset.univ : Finset (Fin 128))) (f := fun _ => (0 : EReal))
    (g := fun l => (Finset.range 144).sup fun j => col (mag (affine (k0_pay83 v36) z g b)) r (128 * j + l.val))).trans ?_
  rw [Finset.sup_const Finset.univ_nonempty, ← sup_row (fun l => (Finset.range 144).sup fun j => col (mag (affine (k0_pay83 v36) z g b)) r (128 * j + l)) 128, sup_lanes, sup_row]
  exact congrArg (max 0) (Finset.sup_congr rfl fun n _ => col_at _ _ rfl n.isLt)

end Pass3
end Cert.KernelIdeal.Run
end
-- ==== Proof.KernelIdeal.Loop4.lean ====
/- The fourth pass over the reals: what the loop leaves in the block of codes (each element times its row's reciprocal
   scale, clipped). -/
module

public import proofs.«01_k».proof.Proof.KernelIdeal.Loop3

@[expose] public section

set_option maxRecDepth 16384
set_option maxHeartbeats 2000000

noncomputable section

namespace Cert.KernelIdeal.Run

open Cert.KernelIdeal Cert.KernelIdeal.Gen Cert.Tile Cert.Lanes
open Idealize.ShloMosaic Idealize.ShloMosaic.TcCoe Idealize.ShloMosaic.Tactic

variable (c : Dev nD) (bd : Option Variants.none.V) (i : grid0.Coords) (arg1 : Memref sig .tc .vmem S32x18432 .bf16) (harg1 : arg1.IsWhole) (arg2 : Memref sig .tc .vmem S32x18432 .bf16) (harg2 : arg2.IsWhole) (arg3 : Memref sig .tc .vmem S1x18432 .f32) (harg3 : arg3.IsWhole) (arg4 : Memref sig .tc .vmem S32x18432 .i32) (harg4 : arg4.IsWhole) (arg5 : Memref sig .tc .vmem S1x18432 .f32) (harg5 : arg5.IsWhole) (arg6 : Memref sig .tc .vmem S1x18432 .f32) (harg6 : arg6.IsWhole) (arg7 : Memref sig .tc .vmem S32x18432 .fp8e4m3) (harg7 : arg7.IsWhole) (arg8 : Memref sig .tc .vmem S2x2048 .f32) (harg8 : arg8.IsWhole) (arg9 : Memref sig .tc .vmem S32x18432 .i8) (harg9 : arg9.IsWhole) (arg10 : Memref sig .tc .vmem S2x2048 .f32) (harg10 : arg10.IsWhole) (arg11 : Memref sig .tc .vmem S2x2048 .f32) (harg11 : arg11.IsWhole) (arg12 : Memref sig .tc .vmem S32x18432 .bf16) (harg12 : arg12.IsWhole) (arg13 : Memref sig .tc .vmem S32x18432 .f32) (harg13 : arg13.IsWhole) (arg14 : Memref sig .tc .vmem S8x18432 .i32) (harg14 : arg14.IsWhole)

/-- The pass has twelve trips. -/
theorem trips4 : k0_t4_loop.trips = 12 := by decide

/-- Where the six units of a trip lie: unit `u` of trip `k` starts at column `1536 k + 256 u`. -/
theorem off7 (k : Fin k0_t4_loop.trips) : k0_off7 k 0#32 = ![0, 1536 * k.val] ∧ k0_off7 k 256#32 = ![0, 1536 * k.val + 256]
    ∧ k0_off7 k 512#32 = ![0, 1536 * k.val + 512] ∧ k0_off7 k 768#32 = ![0, 1536 * k.val + 768]
    ∧ k0_off7 k 1024#32 = ![0, 1536 * k.val + 1024] ∧ k0_off7 k 1280#32 = ![0, 1536 * k.val + 1280] :=
  ⟨k0_off7_eq k 0, k0_off7_eq k 1, k0_off7_eq k 2, k0_off7_eq k 3, k0_off7_eq k 4, k0_off7_eq k 5⟩

/-- An element times its row's reciprocal scale, clipped to the codes' range. -/
def clipped (v145 : FVec Ideal S32x1 .f32) (y : Vec Ideal S32x18432 .f32) : Vec Ideal S32x18432 .fp8e4m3 :=
  fun j => min (max (y j * v145 (ix2 (j 0) 0)) (Ideal.ofBits .f32 0xC3E00000#32)) (Ideal.ofBits .f32 0x43E00000#32)

section Pass4
variable (arg0 : BitVec 32) (v9 : BitVec 32) (v52 : FVec Ideal S32x128 .f32) (v116 : IVec S32x128 32) (v118 : IVec S32x128 32) (c23 : BitVec 32)
  (X : BufTy.Contents (Elt Ideal) arg13.view.ty) (y : Vec Ideal S32x18432 .f32)

/-- Every piece a trip of the fourth pass stores is of the codes. -/
theorem t4_pieces (hX : arg13.view.read (Elt Ideal) X = y) (k : Fin k0_t4_loop.trips) :
    ∀ p ∈ tripL_k0_t4 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 arg0 v9 v52 v116 v118 c23 X k, ∀ x : p.1.shape.Idx,
      p.2 x = clipped (k0_pay95 v52 v116 v118 c23) y (p.1.emb x) := by
  obtain ⟨e0, e1, e2, e3, e4, e5⟩ := off7 k
  unfold tripL_k0_t4 trip_k0_t4
  dsimp only
  sl_unfold_run_names
  simp only [List.forall_mem_cons, List.not_mem_nil, false_imp_iff, implies_true, and_true, View.readAt_eq_ld, hX]
  generalize k0_pay95 v52 v116 v118 c23 = v145
  refine ⟨?_, ?_, ?_, ?_, ?_, ?_⟩ <;> intro x <;> idx_vars x
  all_goals
    first | rw [emb_eq e0] | rw [emb_eq e1] | rw [emb_eq e2] | rw [emb_eq e3] | rw [emb_eq e4] | rw [emb_eq e5]
    unfold_payloads
    pointwise [clipped, e0, e1, e2, e3, e4, e5]

/-- A trip's pieces cover its 1536 columns. -/
theorem t4_cover (k : Fin k0_t4_loop.trips) (r : Fin 32) (n : Fin 18432)
    (hb : 1536 * k.val ≤ n.val ∧ n.val < 1536 * (k.val + 1)) :
    ∃ p ∈ tripL_k0_t4 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 arg0 v9 v52 v116 v118 c23 X k, ix2 r n ∈ p.1.set := by
  obtain ⟨e0, e1, e2, e3, e4, e5⟩ := off7 k
  unfold tripL_k0_t4 trip_k0_t4
  dsimp only
  simp only [List.exists_mem_cons_iff, List.not_mem_nil, false_and, exists_false, or_false]
  rw [mem_iff e0, mem_iff e1, mem_iff e2, mem_iff e3, mem_iff e4, mem_iff e5]
  have := r.isLt
  omega

/-- Before trip `k`: the pieces written agree with the clipped block and cover the columns below `1536 k`. -/
theorem t4_before (hX : arg13.view.read (Elt Ideal) X = y) : ∀ k : ℕ, k ≤ 12 →
    (∀ p ∈ pb_k0_t4 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 arg0 v9 v52 v116 v118 c23 X k, ∀ x : p.1.shape.Idx, p.2 x = clipped (k0_pay95 v52 v116 v118 c23) y (p.1.emb x))
    ∧ (∀ (r : Fin 32) (n : Fin 18432), n.val < 1536 * k → ∃ p ∈ pb_k0_t4 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 arg0 v9 v52 v116 v118 c23 X k, ix2 r n ∈ p.1.set)
  | 0, _ => ⟨fun p hp => absurd hp List.not_mem_nil, fun a b hb => absurd hb (by omega)⟩
  | k + 1, hk => by
    have ht : k < k0_t4_loop.trips := Nat.lt_of_lt_of_eq (by omega) trips4.symm
    obtain ⟨h1, h2⟩ := t4_before hX k (by omega)
    rw [pb_k0_t4_succ (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 arg0 v9 v52 v116 v118 c23 X ⟨k, ht⟩]
    refine ⟨fun p hp => ?_, fun a b hb => ?_⟩
    · rcases List.mem_append.mp hp with hp | hp
      · exact t4_pieces c bd i arg1 harg1 arg2 harg2 arg3 harg3 arg4 harg4 arg5 harg5 arg6 harg6 arg7 harg7 arg8 harg8 arg9 harg9 arg10 harg10 arg11 harg11 arg12 harg12 arg13 harg13 arg14 harg14 arg0 v9 v52 v116 v118 c23 X y hX ⟨k, ht⟩ p hp
      · exact h1 p hp
    · by_cases hbk : b.val < 1536 * k
      · obtain ⟨p, hp, hm⟩ := h2 a b hbk
        exact ⟨p, List.mem_append.mpr (.inr hp), hm⟩
      · obtain ⟨p, hp, hm⟩ := t4_cover c bd i arg1 harg1 arg2 harg2 arg3 harg3 arg4 harg4 arg5 harg5 arg6 harg6 arg7 harg7 arg8 harg8 arg9 harg9 arg10 harg10 arg11 harg11 arg12 harg12 arg13 harg13 arg14 harg14 arg0 v9 v52 v116 v118 c23 X ⟨k, ht⟩ a b ⟨by simpa using hbk, hb⟩
        exact ⟨p, List.mem_append.mpr (.inl hp), hm⟩

/-- After the pass the block of codes holds the clipped block. -/
theorem t4_read (hX : arg13.view.read (Elt Ideal) X = y) (G : BufTy.Contents (Elt Ideal) arg7.view.ty) :
    arg7.view.read (Elt Ideal) (arg7.view.writes (Elt Ideal) G (pb_k0_t4 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 arg0 v9 v52 v116 v118 c23 X k0_t4_loop.trips)) = clipped (k0_pay95 v52 v116 v118 c23) y := by
  rw [trips4]
  obtain ⟨h1, h2⟩ := t4_before c bd i arg1 harg1 arg2 harg2 arg3 harg3 arg4 harg4 arg5 harg5 arg6 harg6 arg7 harg7 arg8 harg8 arg9 harg9 arg10 harg10 arg11 harg11 arg12 harg12 arg13 harg13 arg14 harg14 arg0 v9 v52 v116 v118 c23 X y hX 12 le_rfl
  funext j
  idx_vars j
  exact View.read_writes_apply_of_pieces _ _ _ _ h1 _ (h2 j0 j1 (by have := j1.isLt; omega))

end Pass4
end Cert.KernelIdeal.Run
end
-- ==== Proof.Word.lean ====
/- Thirty-two keep-bits packed into one 32-bit word, bit `r` of the word being row `r`'s keep-bit. -/
module

public import Idealize.ShloMosaic.Lib.Tactic
public import Idealize.ShloMosaic.Lib.Pointwise
public import Mathlib.Algebra.BigOperators.Fin

@[expose] public section

namespace Cert.Word

open Idealize.ShloMosaic

/-- One row's contribution: its bit at position `s + g`, or nothing. -/
def unit (b : BitVec 1) (s g : BitVec 32) : BitVec 32 := Scalar.select b (IntOp.shli .vector 1#32 (IntOp.addi s g)) 0#32

/-- The keep-bits of 32 rows in one word: for each of eight positions the bits of the rows eight apart added up, then the
    eight sums added. -/
def packed (bit : Fin 32 → BitVec 1) : BitVec 32 :=
  Finset.univ.fold IntOp.addi 0#32 fun r : Fin 8 =>
    IntOp.addi (IntOp.addi (IntOp.addi (IntOp.addi 0#32
      (unit (bit ⟨r.val, by omega⟩) (BitVec.ofNat 32 r.val) 0#32))
      (unit (bit ⟨8 + r.val, by omega⟩) (BitVec.ofNat 32 r.val) 8#32))
      (unit (bit ⟨16 + r.val, by omega⟩) (BitVec.ofNat 32 r.val) 16#32))
      (unit (bit ⟨24 + r.val, by omega⟩) (BitVec.ofNat 32 r.val) 24#32)

end Cert.Word
-- ==== Proof.KernelIdeal.Pass1.lean ====
/- The first pass over the reals: what the loop leaves in the block of `h`, what it yields (in each lane, the sum of the
   columns that fall on that lane), and the mask words it leaves in its row of the scratch. -/
module

public import proofs.«01_k».proof.Proof.KernelIdeal.Loop2
public import proofs.«01_k».proof.Proof.Word

@[expose] public section

set_option maxRecDepth 16384
set_option maxHeartbeats 2000000

noncomputable section

namespace Cert.KernelIdeal.Run

open Cert.KernelIdeal Cert.KernelIdeal.Gen Cert.Tile Cert.Lanes
open Idealize.ShloMosaic Idealize.ShloMosaic.TcCoe Idealize.ShloMosaic.Tactic

variable (c : Dev nD) (bd : Option Variants.none.V) (i : grid0.Coords) (arg1 : Memref sig .tc .vmem S32x18432 .bf16) (harg1 : arg1.IsWhole) (arg2 : Memref sig .tc .vmem S32x18432 .bf16) (harg2 : arg2.IsWhole) (arg3 : Memref sig .tc .vmem S1x18432 .f32) (harg3 : arg3.IsWhole) (arg4 : Memref sig .tc .vmem S32x18432 .i32) (harg4 : arg4.IsWhole) (arg5 : Memref sig .tc .vmem S1x18432 .f32) (harg5 : arg5.IsWhole) (arg6 : Memref sig .tc .vmem S1x18432 .f32) (harg6 : arg6.IsWhole) (arg7 : Memref sig .tc .vmem S32x18432 .fp8e4m3) (harg7 : arg7.IsWhole) (arg8 : Memref sig .tc .vmem S2x2048 .f32) (harg8 : arg8.IsWhole) (arg9 : Memref sig .tc .vmem S32x18432 .i8) (harg9 : arg9.IsWhole) (arg10 : Memref sig .tc .vmem S2x2048 .f32) (harg10 : arg10.IsWhole) (arg11 : Memref sig .tc .vmem S2x2048 .f32) (harg11 : arg11.IsWhole) (arg12 : Memref sig .tc .vmem S32x18432 .bf16) (harg12 : arg12.IsWhole) (arg13 : Memref sig .tc .vmem S32x18432 .f32) (harg13 : arg13.IsWhole) (arg14 : Memref sig .tc .vmem S8x18432 .i32) (harg14 : arg14.IsWhole)

/-- The pass has twelve trips. -/
theorem trips1 : k0_t1_loop.trips = 12 := by decide

/-- Where the six units of a trip lie: unit `u` of trip `k` starts at column `1536 k + 256 u`. -/
theorem off1 (k : Fin k0_t1_loop.trips) : k0_off1 k 0#32 = ![0, 1536 * k.val] ∧ k0_off1 k 256#32 = ![0, 1536 * k.val + 256]
    ∧ k0_off1 k 512#32 = ![0, 1536 * k.val + 512] ∧ k0_off1 k 768#32 = ![0, 1536 * k.val + 768]
    ∧ k0_off1 k 1024#32 = ![0, 1536 * k.val + 1024] ∧ k0_off1 k 1280#32 = ![0, 1536 * k.val + 1280] :=
  ⟨k0_off1_eq k 0, k0_off1_eq k 1, k0_off1_eq k 2, k0_off1_eq k 3, k0_off1_eq k 4, k0_off1_eq k 5⟩

/-- The same of the bias. -/
theorem off2 (k : Fin k0_t1_loop.trips) : k0_off2 k 0#32 = ![0, 1536 * k.val] ∧ k0_off2 k 256#32 = ![0, 1536 * k.val + 256]
    ∧ k0_off2 k 512#32 = ![0, 1536 * k.val + 512] ∧ k0_off2 k 768#32 = ![0, 1536 * k.val + 768]
    ∧ k0_off2 k 1024#32 = ![0, 1536 * k.val + 1024] ∧ k0_off2 k 1280#32 = ![0, 1536 * k.val + 1280] :=
  ⟨k0_off2_eq k 0, k0_off2_eq k 1, k0_off2_eq k 2, k0_off2_eq k 3, k0_off2_eq k 4, k0_off2_eq k 5⟩

/-- The same of the mask words, in the step's row of the scratch. -/
theorem off3 (k : Fin k0_t1_loop.trips) : k0_off3 i k 0#32 = ![(i 0).val % 8, 1536 * k.val] ∧ k0_off3 i k 256#32 = ![(i 0).val % 8, 1536 * k.val + 256]
    ∧ k0_off3 i k 512#32 = ![(i 0).val % 8, 1536 * k.val + 512] ∧ k0_off3 i k 768#32 = ![(i 0).val % 8, 1536 * k.val + 768]
    ∧ k0_off3 i k 1024#32 = ![(i 0).val % 8, 1536 * k.val + 1024] ∧ k0_off3 i k 1280#32 = ![(i 0).val % 8, 1536 * k.val + 1280] :=
  ⟨k0_off3_eq i k 0, k0_off3_eq i k 1, k0_off3_eq i k 2, k0_off3_eq i k 3, k0_off3_eq i k 4, k0_off3_eq i k 5⟩

/-- Whether a draw keeps its element. -/
def keeps (w : BitVec 32) : BitVec 1 := IntOp.cmpi .uge w 429496730#32

/-- The residual stream plus the dropped-out sum of the activation and the bias. -/
def hidden (x a : Vec Ideal S32x18432 .bf16) (b : Vec Ideal S1x18432 .f32) (w : Vec Ideal S32x18432 .i32) : Vec Ideal S32x18432 .bf16 :=
  fun j => x j + Scalar.select (keeps (w j)) ((a j + b (ix2 0 (j 1))) * Ideal.ofBits .f32 0x3F8E38E4#32) 0

/-- The word of a column: bit `r` says whether row `r`'s element is kept. -/
def maskWord (w : Vec Ideal S32x18432 .i32) (n : Fin 18432) : BitVec 32 := Word.packed fun r => keeps (w (ix2 r n))

section Pass1
variable (v9 : BitVec 32) (X1 : BufTy.Contents (Elt Ideal) arg1.view.ty) (X2 : BufTy.Contents (Elt Ideal) arg2.view.ty) (X3 : BufTy.Contents (Elt Ideal) arg3.view.ty) (X4 : BufTy.Contents (Elt Ideal) arg4.view.ty)
  (x a : Vec Ideal S32x18432 .bf16) (b : Vec Ideal S1x18432 .f32) (w : Vec Ideal S32x18432 .i32)

/-- Every piece a trip of the first pass stores is of the hidden rows. -/
theorem t1_pieces (h1 : arg1.view.read (Elt Ideal) X1 = x) (h2 : arg2.view.read (Elt Ideal) X2 = a) (h3 : arg3.view.read (Elt Ideal) X3 = b) (h4 : arg4.view.read (Elt Ideal) X4 = w)
    (k : Fin k0_t1_loop.trips) (acc : FVec Ideal S32x128 .f32) :
    ∀ p ∈ (tripL_k0_t1 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 v9 X1 X2 X3 X4 k acc).1, ∀ j : p.1.shape.Idx, p.2 j = hidden x a b w (p.1.emb j) := by
  obtain ⟨e0, e1, e2, e3, e4, e5⟩ := off1 k
  obtain ⟨d0, d1, d2, d3, d4, d5⟩ := off2 k
  unfold tripL_k0_t1 trip_k0_t1
  dsimp only
  sl_unfold_run_names
  simp only [List.forall_mem_cons, List.not_mem_nil, false_imp_iff, implies_true, and_true, View.readAt_eq_ld, h1, h2, h3, h4]
  refine ⟨?_, ?_, ?_, ?_, ?_, ?_⟩ <;> intro j <;> idx_vars j
  all_goals
    first | rw [emb_eq e0] | rw [emb_eq e1] | rw [emb_eq e2] | rw [emb_eq e3] | rw [emb_eq e4] | rw [emb_eq e5]
    unfold_payloads
    pointwise [hidden, keeps, e0, e1, e2, e3, e4, e5, d0, d1, d2, d3, d4, d5]

/-- Every piece a trip of the first pass stores of the words is of the step's mask words. -/
theorem t1_mask (h4 : arg4.view.read (Elt Ideal) X4 = w) (k : Fin k0_t1_loop.trips) (acc : FVec Ideal S32x128 .f32) :
    ∀ p ∈ (tripL_k0_t1 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 v9 X1 X2 X3 X4 k acc).2, ∀ j : p.1.shape.Idx, p.2 j = (fun y : S8x18432.Idx => maskWord w (y 1)) (p.1.emb j) := by
  obtain ⟨e0, e1, e2, e3, e4, e5⟩ := off1 k
  obtain ⟨d0, d1, d2, d3, d4, d5⟩ := off3 i k
  unfold tripL_k0_t1 trip_k0_t1
  dsimp only
  sl_unfold_run_names
  simp only [List.forall_mem_cons, List.not_mem_nil, false_imp_iff, implies_true, and_true, View.readAt_eq_ld, h4]
  refine ⟨?_, ?_, ?_, ?_, ?_, ?_⟩ <;> intro j <;> idx_vars j
  · refine Eq.trans ?_ (congrArg (fun y : S8x18432.Idx => maskWord w (y 1)) (emb_eq d5 _ _ _)).symm
    unfold_payloads
    pointwise [e0, e1, e2, e3, e4, e5, maskWord, keeps, Word.packed, Word.unit]
  · refine Eq.trans ?_ (congrArg (fun y : S8x18432.Idx => maskWord w (y 1)) (emb_eq d4 _ _ _)).symm
    unfold_payloads
    pointwise [e0, e1, e2, e3, e4, e5, maskWord, keeps, Word.packed, Word.unit]
  · refine Eq.trans ?_ (congrArg (fun y : S8x18432.Idx => maskWord w (y 1)) (emb_eq d3 _ _ _)).symm
    unfold_payloads
    pointwise [e0, e1, e2, e3, e4, e5, maskWord, keeps, Word.packed, Word.unit]
  · refine Eq.trans ?_ (congrArg (fun y : S8x18432.Idx => maskWord w (y 1)) (emb_eq d2 _ _ _)).symm
    unfold_payloads
    pointwise [e0, e1, e2, e3, e4, e5, maskWord, keeps, Word.packed, Word.unit]
  · refine Eq.trans ?_ (congrArg (fun y : S8x18432.Idx => maskWord w (y 1)) (emb_eq d1 _ _ _)).symm
    unfold_payloads
    pointwise [e0, e1, e2, e3, e4, e5, maskWord, keeps, Word.packed, Word.unit]
  · refine Eq.trans ?_ (congrArg (fun y : S8x18432.Idx => maskWord w (y 1)) (emb_eq d0 _ _ _)).symm
    unfold_payloads
    pointwise [e0, e1, e2, e3, e4, e5, maskWord, keeps, Word.packed, Word.unit]

/-- A trip writes its columns of the block of `h`. -/
theorem t1_cover (k : Fin k0_t1_loop.trips) (acc : FVec Ideal S32x128 .f32) (r : Fin 32) (n : Fin 18432)
    (hb : 1536 * k.val ≤ n.val ∧ n.val < 1536 * (k.val + 1)) :
    ∃ p ∈ (tripL_k0_t1 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 v9 X1 X2 X3 X4 k acc).1, ix2 r n ∈ p.1.set := by
  obtain ⟨e0, e1, e2, e3, e4, e5⟩ := off1 k
  unfold tripL_k0_t1 trip_k0_t1
  dsimp only
  simp only [List.exists_mem_cons_iff, List.not_mem_nil, false_and, exists_false, or_false]
  rw [mem_iff e0, mem_iff e1, mem_iff e2, mem_iff e3, mem_iff e4, mem_iff e5]
  have := r.isLt
  omega

/-- A trip writes its columns of the step's row of the mask words. -/
theorem t1_mask_cover (k : Fin k0_t1_loop.trips) (acc : FVec Ideal S32x128 .f32) (n : Fin 18432)
    (hb : 1536 * k.val ≤ n.val ∧ n.val < 1536 * (k.val + 1)) (q : Fin 8) (hq : q.val = (i 0).val % 8) :
    ∃ p ∈ (tripL_k0_t1 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 v9 X1 X2 X3 X4 k acc).2, ix2 q n ∈ p.1.set := by
  obtain ⟨e0, e1, e2, e3, e4, e5⟩ := off3 i k
  unfold tripL_k0_t1 trip_k0_t1
  dsimp only
  simp only [List.exists_mem_cons_iff, List.not_mem_nil, false_and, exists_false, or_false]
  rw [mem_iff e0, mem_iff e1, mem_iff e2, mem_iff e3, mem_iff e4, mem_iff e5]
  omega

/-- A trip writes no other row of the mask words. -/
theorem t1_mask_row (k : Fin k0_t1_loop.trips) (acc : FVec Ideal S32x128 .f32) (n : Fin 18432) (q : Fin 8) (hq : q.val ≠ (i 0).val % 8) :
    ∀ p ∈ (tripL_k0_t1 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 v9 X1 X2 X3 X4 k acc).2, ix2 q n ∉ p.1.set := by
  obtain ⟨e0, e1, e2, e3, e4, e5⟩ := off3 i k
  unfold tripL_k0_t1 trip_k0_t1
  dsimp only
  simp only [List.forall_mem_cons, List.not_mem_nil, false_imp_iff, implies_true, and_true]
  rw [mem_iff e0, mem_iff e1, mem_iff e2, mem_iff e3, mem_iff e4, mem_iff e5]
  omega

/-- A trip adds to a lane the twelve columns of its that fall on the lane. -/
theorem t1_yield (h1 : arg1.view.read (Elt Ideal) X1 = x) (h2 : arg2.view.read (Elt Ideal) X2 = a) (h3 : arg3.view.read (Elt Ideal) X3 = b) (h4 : arg4.view.read (Elt Ideal) X4 = w)
    (k : Fin k0_t1_loop.trips) (acc : FVec Ideal S32x128 .f32) (r : Fin 32) (l : Fin 128)
    (hacc : acc (ix2 r l) = ∑ j ∈ Finset.range (12 * k.val), col (hidden x a b w) r (128 * j + l.val)) :
    tripR_k0_t1 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 v9 X1 X2 X3 X4 k acc (ix2 r l)
      = ∑ j ∈ Finset.range (12 * (k.val + 1)), col (hidden x a b w) r (128 * j + l.val) := by
  obtain ⟨e0, e1, e2, e3, e4, e5⟩ := off1 k
  obtain ⟨d0, d1, d2, d3, d4, d5⟩ := off2 k
  have hk : k.val < 12 := Nat.lt_of_lt_of_eq k.isLt trips1
  have hl := l.isLt
  rw [sum_trip, ← hacc]
  unfold tripR_k0_t1 trip_k0_t1
  dsimp only
  sl_unfold_run_names
  unfold_payloads
  simp only [View.readAt_eq_ld, h1, h2, h3, h4]
  pointwise [e0, e1, e2, e3, e4, e5, d0, d1, d2, d3, d4, d5]
  refine congrArg₂ (· + ·) (congrArg₂ (· + ·) (congrArg₂ (· + ·) (congrArg₂ (· + ·) (congrArg₂ (· + ·) (congrArg₂ (· + ·) rfl
    (congrArg₂ (· + ·) ?_ ?_)) (congrArg₂ (· + ·) ?_ ?_)) (congrArg₂ (· + ·) ?_ ?_)) (congrArg₂ (· + ·) ?_ ?_)) (congrArg₂ (· + ·) ?_ ?_)) (congrArg₂ (· + ·) ?_ ?_)
  all_goals
    refine Eq.symm (col_at (hidden x a b w) _ ?_ ?_)
  all_goals omega

/-- Before trip `k`: the pieces of `h` agree with the block and cover the columns below `1536 k`; the pieces of mask words
    agree with the columns' words, cover the step's row below `1536 k` and touch no other row; the carried value's lane `l`
    is the sum of the columns `128 j + l`, `j < 12 k`. -/
theorem t1_before (init : FVec Ideal S32x128 .f32) (hz : ∀ j, init j = 0) (h1 : arg1.view.read (Elt Ideal) X1 = x) (h2 : arg2.view.read (Elt Ideal) X2 = a) (h3 : arg3.view.read (Elt Ideal) X3 = b) (h4 : arg4.view.read (Elt Ideal) X4 = w) : ∀ k : ℕ, k ≤ 12 →
    ((∀ p ∈ (st_k0_t1 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 v9 X1 X2 X3 X4 init k).2.1, ∀ j : p.1.shape.Idx, p.2 j = hidden x a b w (p.1.emb j))
    ∧ (∀ (r : Fin 32) (n : Fin 18432), n.val < 1536 * k → ∃ p ∈ (st_k0_t1 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 v9 X1 X2 X3 X4 init k).2.1, ix2 r n ∈ p.1.set))
    ∧ ((∀ p ∈ (st_k0_t1 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 v9 X1 X2 X3 X4 init k).2.2, ∀ j : p.1.shape.Idx, p.2 j = (fun y : S8x18432.Idx => maskWord w (y 1)) (p.1.emb j))
    ∧ (∀ (q : Fin 8) (n : Fin 18432), q.val = (i 0).val % 8 → n.val < 1536 * k → ∃ p ∈ (st_k0_t1 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 v9 X1 X2 X3 X4 init k).2.2, ix2 q n ∈ p.1.set)
    ∧ ∀ (q : Fin 8) (n : Fin 18432), q.val ≠ (i 0).val % 8 → ∀ p ∈ (st_k0_t1 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 v9 X1 X2 X3 X4 init k).2.2, ix2 q n ∉ p.1.set)
    ∧ ∀ (r : Fin 32) (l : Fin 128), (st_k0_t1 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 v9 X1 X2 X3 X4 init k).1 (ix2 r l)
        = ∑ j ∈ Finset.range (12 * k), col (hidden x a b w) r (128 * j + l.val)
  | 0, _ => ⟨⟨fun p hp => absurd hp List.not_mem_nil, fun r n hb => absurd hb (by omega)⟩,
      ⟨fun p hp => absurd hp List.not_mem_nil, fun q n _ hb => absurd hb (by omega), fun q n _ p hp => absurd hp List.not_mem_nil⟩,
      fun r l => (hz _).trans (by simp)⟩
  | k + 1, hk => by
    have ht : k < k0_t1_loop.trips := Nat.lt_of_lt_of_eq (by omega) trips1.symm
    obtain ⟨⟨g1, g2⟩, ⟨g3, g4, g5⟩, g6⟩ := t1_before init hz h1 h2 h3 h4 k (by omega)
    rw [st_k0_t1_succ (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 v9 X1 X2 X3 X4 init ⟨k, ht⟩]
    dsimp only
    refine ⟨⟨fun p hp => ?_, fun r n hb => ?_⟩, ⟨fun p hp => ?_, fun q n hq hb => ?_, fun q n hq p hp => ?_⟩, fun r l => ?_⟩
    · rcases List.mem_append.mp hp with hp | hp
      · exact t1_pieces c bd i arg1 harg1 arg2 harg2 arg3 harg3 arg4 harg4 arg5 harg5 arg6 harg6 arg7 harg7 arg8 harg8 arg9 harg9 arg10 harg10 arg11 harg11 arg12 harg12 arg13 harg13 arg14 harg14 v9 X1 X2 X3 X4 x a b w h1 h2 h3 h4 ⟨k, ht⟩ _ p hp
      · exact g1 p hp
    · by_cases hbk : n.val < 1536 * k
      · obtain ⟨p, hp, hm⟩ := g2 r n hbk
        exact ⟨p, List.mem_append.mpr (.inr hp), hm⟩
      · obtain ⟨p, hp, hm⟩ := t1_cover c bd i arg1 harg1 arg2 harg2 arg3 harg3 arg4 harg4 arg5 harg5 arg6 harg6 arg7 harg7 arg8 harg8 arg9 harg9 arg10 harg10 arg11 harg11 arg12 harg12 arg13 harg13 arg14 harg14 v9 X1 X2 X3 X4 ⟨k, ht⟩ _ r n ⟨by simpa using hbk, hb⟩
        exact ⟨p, List.mem_append.mpr (.inl hp), hm⟩
    · rcases List.mem_append.mp hp with hp | hp
      · exact t1_mask c bd i arg1 harg1 arg2 harg2 arg3 harg3 arg4 harg4 arg5 harg5 arg6 harg6 arg7 harg7 arg8 harg8 arg9 harg9 arg10 harg10 arg11 harg11 arg12 harg12 arg13 harg13 arg14 harg14 v9 X1 X2 X3 X4 w h4 ⟨k, ht⟩ _ p hp
      · exact g3 p hp
    · by_cases hbk : n.val < 1536 * k
      · obtain ⟨p, hp, hm⟩ := g4 q n hq hbk
        exact ⟨p, List.mem_append.mpr (.inr hp), hm⟩
      · obtain ⟨p, hp, hm⟩ := t1_mask_cover c bd i arg1 harg1 arg2 harg2 arg3 harg3 arg4 harg4 arg5 harg5 arg6 harg6 arg7 harg7 arg8 harg8 arg9 harg9 arg10 harg10 arg11 harg11 arg12 harg12 arg13 harg13 arg14 harg14 v9 X1 X2 X3 X4 ⟨k, ht⟩ _ n ⟨by simpa using hbk, hb⟩ q hq
        exact ⟨p, List.mem_append.mpr (.inl hp), hm⟩
    · rcases List.mem_append.mp hp with hp | hp
      · exact t1_mask_row c bd i arg1 harg1 arg2 harg2 arg3 harg3 arg4 harg4 arg5 harg5 arg6 harg6 arg7 harg7 arg8 harg8 arg9 harg9 arg10 harg10 arg11 harg11 arg12 harg12 arg13 harg13 arg14 harg14 v9 X1 X2 X3 X4 ⟨k, ht⟩ _ n q hq p hp
      · exact g5 q n hq p hp
    · exact t1_yield c bd i arg1 harg1 arg2 harg2 arg3 harg3 arg4 harg4 arg5 harg5 arg6 harg6 arg7 harg7 arg8 harg8 arg9 harg9 arg10 harg10 arg11 harg11 arg12 harg12 arg13 harg13 arg14 harg14 v9 X1 X2 X3 X4 x a b w h1 h2 h3 h4 ⟨k, ht⟩ _ r l (g6 r l)

/-- After the pass the block of `h` holds the hidden state. -/
theorem t1_read (init : FVec Ideal S32x128 .f32) (hz : ∀ j, init j = 0) (h1 : arg1.view.read (Elt Ideal) X1 = x) (h2 : arg2.view.read (Elt Ideal) X2 = a) (h3 : arg3.view.read (Elt Ideal) X3 = b) (h4 : arg4.view.read (Elt Ideal) X4 = w)
    (G : BufTy.Contents (Elt Ideal) arg12.view.ty) :
    arg12.view.read (Elt Ideal) (arg12.view.writes (Elt Ideal) G (st_k0_t1 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 v9 X1 X2 X3 X4 init k0_t1_loop.trips).2.1) = hidden x a b w := by
  rw [trips1]
  obtain ⟨⟨g1, g2⟩, _⟩ := t1_before c bd i arg1 harg1 arg2 harg2 arg3 harg3 arg4 harg4 arg5 harg5 arg6 harg6 arg7 harg7 arg8 harg8 arg9 harg9 arg10 harg10 arg11 harg11 arg12 harg12 arg13 harg13 arg14 harg14 v9 X1 X2 X3 X4 x a b w init hz h1 h2 h3 h4 12 le_rfl
  funext y
  idx_vars y
  exact View.read_writes_apply_of_pieces _ _ _ _ g1 _ (g2 y0 y1 (by have := y1.isLt; omega))

/-- After the pass the scratch of mask words holds, in the step's row, the columns' words, and elsewhere what it held. -/
theorem t1_words (init : FVec Ideal S32x128 .f32) (hz : ∀ j, init j = 0) (h1 : arg1.view.read (Elt Ideal) X1 = x) (h2 : arg2.view.read (Elt Ideal) X2 = a) (h3 : arg3.view.read (Elt Ideal) X3 = b) (h4 : arg4.view.read (Elt Ideal) X4 = w)
    (G : BufTy.Contents (Elt Ideal) arg14.view.ty) :
    arg14.view.read (Elt Ideal) (arg14.view.writes (Elt Ideal) G (st_k0_t1 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 v9 X1 X2 X3 X4 init k0_t1_loop.trips).2.2)
      = fun y : S8x18432.Idx => if (y 0).val = (i 0).val % 8 then maskWord w (y 1) else arg14.view.read (Elt Ideal) G y := by
  rw [trips1]
  obtain ⟨_, ⟨g3, g4, g5⟩, _⟩ := t1_before c bd i arg1 harg1 arg2 harg2 arg3 harg3 arg4 harg4 arg5 harg5 arg6 harg6 arg7 harg7 arg8 harg8 arg9 harg9 arg10 harg10 arg11 harg11 arg12 harg12 arg13 harg13 arg14 harg14 v9 X1 X2 X3 X4 x a b w init hz h1 h2 h3 h4 12 le_rfl
  funext y
  idx_vars y
  by_cases hq : y0.val = (i 0).val % 8
  · refine Eq.trans ?_ (if_pos hq).symm
    exact View.read_writes_apply_of_pieces _ _ (fun y : S8x18432.Idx => maskWord w (y 1)) _ g3 _ (g4 y0 y1 hq (by have := y1.isLt; omega))
  · refine Eq.trans ?_ (if_neg hq).symm
    exact View.read_writes_apply_of_forall_not_mem _ _ _ _ (g5 y0 y1 hq)

/-- What the pass yields, summed over the lanes, is the sum of the hidden state along the row. -/
theorem t1_sum (init : FVec Ideal S32x128 .f32) (hz : ∀ j, init j = 0) (h1 : arg1.view.read (Elt Ideal) X1 = x) (h2 : arg2.view.read (Elt Ideal) X2 = a) (h3 : arg3.view.read (Elt Ideal) X3 = b) (h4 : arg4.view.read (Elt Ideal) X4 = w) (r : Fin 32) :
    ∑ l : Fin 128, (st_k0_t1 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 v9 X1 X2 X3 X4 init k0_t1_loop.trips).1 (ix2 r l)
      = ∑ n : Fin 18432, hidden x a b w (ix2 r n) := by
  rw [trips1]
  obtain ⟨_, _, g6⟩ := t1_before c bd i arg1 harg1 arg2 harg2 arg3 harg3 arg4 harg4 arg5 harg5 arg6 harg6 arg7 harg7 arg8 harg8 arg9 harg9 arg10 harg10 arg11 harg11 arg12 harg12 arg13 harg13 arg14 harg14 v9 X1 X2 X3 X4 x a b w init hz h1 h2 h3 h4 12 le_rfl
  simp only [g6]
  rw [show 12 * 12 = 144 from rfl, sum_row]
  exact Finset.sum_congr rfl fun n _ => col_at _ _ rfl n.isLt

end Pass1
end Cert.KernelIdeal.Run
end
-- ==== Proof.KernelIdeal.Step.lean ====
/- What one step of the grid computes from its blocks, as functions: the row means, the reciprocal standard deviations, the
   normalised block, the row's largest magnitude over 448, and the power of two the search finds for it. -/
module

public import proofs.«01_k».proof.Proof.KernelIdeal.Loop4
public import proofs.«01_k».proof.Proof.KernelIdeal.Pass1

@[expose] public section

set_option maxRecDepth 16384
set_option maxHeartbeats 2000000

noncomputable section

namespace Cert.KernelIdeal.Run

open Cert.KernelIdeal Cert.KernelIdeal.Gen Cert.Tile Cert.Lanes
open Idealize.ShloMosaic Idealize.ShloMosaic.TcCoe Idealize.ShloMosaic.Tactic

/-- The named constant: one over the row's length. -/
def invD : Ideal .f32 := Named.named κ "inv_d_model" 0x38638E39#32

/-- A row's mean. -/
def rowMean (h : Vec Ideal S32x18432 .bf16) : FVec Ideal S32x1 .f32 :=
  fun j => (∑ n : Fin 18432, h (ix2 (j 0) n)) * invD

/-- One over the square root of a row's mean square plus epsilon. -/
def rowRstd (z : Vec Ideal S32x18432 .f32) : FVec Ideal S32x1 .f32 :=
  fun j => Ideal.rsqrt ((∑ n : Fin 18432, z (ix2 (j 0) n) * z (ix2 (j 0) n)) * invD + Ideal.ofBits .f32 0x3727C5AC#32)

/-- A row's largest magnitude times the constant of one over 448, in each of 128 lanes. -/
def rowBound (y : Vec Ideal S32x18432 .f32) : FVec Ideal S32x128 .f32 :=
  fun j => max 0 (Finset.univ.sup fun n : Fin 18432 => mag y (ix2 (j 0) n)) * Ideal.ofBits .f32 0x3B124925#32

/-- One comparison of the search: the exponent field `e` grows by `d` if the power of two of the grown field is at most `v`. -/
def probe (v : EReal) (e d : BitVec 32) : BitVec 32 :=
  if Ideal.ofBits .f32 (IntOp.shli .vector (IntOp.addi e d) 23#32) ≤ v then IntOp.addi e d else e

/-- The exponent field of `v`, by eight comparisons. -/
def field (v : EReal) : BitVec 32 :=
  probe v (probe v (probe v (probe v (probe v (probe v (probe v (probe v 0#32 128#32) 64#32) 32#32) 16#32) 8#32) 4#32) 2#32) 1#32

/-- The exponent of the scale: one above `v`'s, or zero where `v`'s field is the lowest or the highest. -/
def scaleExp (v : EReal) : BitVec 32 :=
  Scalar.select (IntOp.ori (IntOp.cmpi .eq (field v) 0#32) (IntOp.cmpi .eq (field v) 255#32)) 0#32 (IntOp.subi (field v) 126#32)

/-- The scale of a row whose bound is `v`. -/
def scaleOf (v : EReal) : EReal := Ideal.ofBits .f32 (IntOp.shli .vector (IntOp.addi 127#32 (scaleExp v)) 23#32)

/-- The reciprocal scale of a row whose bound is `v`. -/
def invOf (v : EReal) : EReal := Ideal.ofBits .f32 (IntOp.shli .vector (IntOp.subi 127#32 (scaleExp v)) 23#32)

/-- The mean from the lanes' sums. -/
theorem pay78_eq (v : FVec Ideal S32x128 .f32) (h : Vec Ideal S32x18432 .bf16)
    (hs : ∀ a : Fin 32, ∑ l : Fin 128, v (ix2 a l) = ∑ n : Fin 18432, h (ix2 a n)) : k0_pay78 v = rowMean h := by
  funext j
  idx_vars j
  unfold_payloads
  pointwise [rowMean, invD]
  rw [hs]

/-- The reciprocal standard deviation from the lanes' sums of squares. -/
theorem pay83_eq (v : FVec Ideal S32x128 .f32) (z : Vec Ideal S32x18432 .f32)
    (hs : ∀ a : Fin 32, ∑ l : Fin 128, v (ix2 a l) = ∑ n : Fin 18432, z (ix2 a n) * z (ix2 a n)) : k0_pay83 v = rowRstd z := by
  funext j
  idx_vars j
  unfold_payloads
  pointwise [rowRstd, invD]
  rw [hs]

/-- The pattern of minus infinity is the bottom of the extended reals. -/
theorem bot_bits : Ideal.ofBits .f32 0xFF800000#32 = ⊥ := by
  simp [Ideal.ofBits, Ideal.ieee]

/-- The bound from the lanes' maxima. -/
theorem pay88_eq (v : FVec Ideal S32x128 .f32) (y : Vec Ideal S32x18432 .f32)
    (hs : ∀ a : Fin 32, (Finset.univ.sup fun l : Fin 128 => v (ix2 a l)) = max 0 (Finset.univ.sup fun n : Fin 18432 => mag y (ix2 a n))) :
    k0_pay88 v = rowBound y := by
  funext j
  idx_vars j
  unfold_payloads
  pointwise [rowBound]
  rw [← hs, bot_bits]
  rfl

/-- The scale of a row, in each lane. -/
theorem pay94_at (v46 : FVec Ideal S32x128 .f32) (a : Fin 32) (l : Fin 128) :
    k0_pay94 (k0_pay88 v46) (k0_pay91 (k0_pay88 v46) (k0_pay89 v46) (k0_pay90 v46) 23#32)
      (k0_pay92 (k0_pay88 v46) (k0_pay89 v46) (k0_pay90 v46) 23#32) 23#32 (ix2 a l) = scaleOf (k0_pay88 v46 (ix2 a l)) := by
  unfold k0_pay94 k0_pay93 k0_pay92 k0_pay91 k0_pay90 k0_pay89
  generalize k0_pay88 v46 = v
  pointwise []
  rfl

/-- The reciprocal scale of a row. -/
theorem pay95_at (v46 : FVec Ideal S32x128 .f32) (a : Fin 32) (l : Fin 1) :
    k0_pay95 (k0_pay88 v46) (k0_pay91 (k0_pay88 v46) (k0_pay89 v46) (k0_pay90 v46) 23#32)
      (k0_pay92 (k0_pay88 v46) (k0_pay89 v46) (k0_pay90 v46) 23#32) 23#32 (ix2 a l) = invOf (k0_pay88 v46 (ix2 a 0)) := by
  unfold k0_pay95 k0_pay93 k0_pay92 k0_pay91 k0_pay90 k0_pay89
  generalize k0_pay88 v46 = v
  pointwise []
  rfl

/-! ## A step's blocks -/

section Blocks
variable (x a : Vec Ideal S32x18432 .bf16) (b : Vec Ideal S1x18432 .f32) (w : Vec Ideal S32x18432 .i32) (g t : Vec Ideal S1x18432 .f32)

/-- The means of the step's rows. -/
def stepMean : FVec Ideal S32x1 .f32 := rowMean (hidden x a b w)
/-- The centred block. -/
def stepCentred : Vec Ideal S32x18432 .f32 := centred (stepMean x a b w) (hidden x a b w)
/-- The reciprocal standard deviations of the step's rows. -/
def stepRstd : FVec Ideal S32x1 .f32 := rowRstd (stepCentred x a b w)
/-- The normalised block. -/
def stepNorm : Vec Ideal S32x18432 .f32 := affine (stepRstd x a b w) (stepCentred x a b w) g t
/-- The scales of the step's rows. -/
def stepScale : FVec Ideal S32x1 .f32 := fun j => scaleOf (rowBound (stepNorm x a b w g t) (ix2 (j 0) 0))
/-- The reciprocal scales of the step's rows. -/
def stepInv : FVec Ideal S32x1 .f32 := fun j => invOf (rowBound (stepNorm x a b w g t) (ix2 (j 0) 0))
/-- The step's block of codes. -/
def stepCodes : Vec Ideal S32x18432 .fp8e4m3 := clipped (stepInv x a b w g t) (stepNorm x a b w g t)
/-- The mask words after step `n`: the step's words in row `n mod 8`, the rest as it was. -/
def stepWords (n : ℕ) (old : Vec Ideal S8x18432 .i32) : Vec Ideal S8x18432 .i32 :=
  fun y => if (y 0).val = n % 8 then maskWord w (y 1) else old y

end Blocks

end Cert.KernelIdeal.Run
end
-- ==== Proof.KernelIdeal.Stats.lean ====
/- The per-row statistics of a step, stored into a `2 × 2048` array held whole across the grid: step `i` puts its 32 rows'
   values at the 32 places `32 i … 32 i + 31` of the array read row by row, and leaves the rest. -/
module

public import proofs.«01_k».proof.Proof.KernelIdeal.Step

@[expose] public section

set_option maxRecDepth 16384
set_option maxHeartbeats 2000000

noncomputable section

namespace Cert.KernelIdeal.Run

open Cert.KernelIdeal Cert.KernelIdeal.Gen Cert.Tile Cert.Lanes
open Idealize.ShloMosaic Idealize.ShloMosaic.TcCoe Idealize.ShloMosaic.Tactic

/-- The step's number is below 128. -/
theorem step_lt (i : grid0.Coords) : (i 0).val < 128 := (i 0).isLt

/-- The group of 128 lanes the step's statistics lie in. -/
theorem off8 (i : grid0.Coords) : k0_off8 i = ![0, 128 * ((i 0).val % 64 / 4)] := by
  have h := step_lt i
  unfold k0_off8
  dsimp only
  generalize (i 0).val = n at h ⊢
  revert n
  decide +kernel

/-- The first lane of the step's statistics within their group, as the kernel computes it. -/
def baseWord (arg0 : BitVec 32) : BitVec 32 :=
  Scalar.muli (Scalar.select (Scalar.andi (Scalar.xori
      (Scalar.cmpi .slt (Scalar.remsi arg0 (Scalar.select (Scalar.cmpi .eq 4#32 0#32) 1#32 4#32)) 0#32)
      (Scalar.cmpi .slt (Scalar.select (Scalar.cmpi .eq 4#32 0#32) 1#32 4#32) 0#32))
      (Scalar.cmpi .ne (Scalar.remsi arg0 (Scalar.select (Scalar.cmpi .eq 4#32 0#32) 1#32 4#32)) 0#32))
    (Scalar.addi (Scalar.remsi arg0 (Scalar.select (Scalar.cmpi .eq 4#32 0#32) 1#32 4#32)) (Scalar.select (Scalar.cmpi .eq 4#32 0#32) 1#32 4#32))
    (Scalar.remsi arg0 (Scalar.select (Scalar.cmpi .eq 4#32 0#32) 1#32 4#32))) 32#32

/-- The first lane of step `n` within its group of 128. -/
theorem baseWord_eq (n : ℕ) (h : n < 128) : baseWord (BitVec.ofNat 32 n) = BitVec.ofNat 32 (32 * (n % 4)) := by
  revert n
  decide +kernel

/-- Which lanes of which row the step writes, as the kernel computes it. -/
theorem here_at (n : ℕ) (hn : n < 128) (r : Fin 2) (l : Fin 128) :
    k0_pay101 (BitVec.ofNat 32 n) (BitVec.ofNat 32 (n / 64)) (ix2 r l)
      = if r.val = n / 64 ∧ 32 * (n % 4) ≤ l.val ∧ l.val < 32 * (n % 4) + 32 then 1#1 else 0#1 := by
  have e : k0_pay101 (BitVec.ofNat 32 n) (BitVec.ofNat 32 (n / 64)) (ix2 r l)
      = IntOp.andi (IntOp.andi (IntOp.cmpi .eq (BitVec.ofNat 32 r.val) (BitVec.ofNat 32 (n / 64)))
          (IntOp.cmpi .sge (BitVec.ofNat 32 l.val) (baseWord (BitVec.ofNat 32 n))))
          (IntOp.cmpi .slt (BitVec.ofNat 32 l.val) (Scalar.addi (baseWord (BitVec.ofNat 32 n)) 32#32)) := by
    unfold_payloads
    pointwise [baseWord]
  rw [e, baseWord_eq n hn]
  have a1 : ∀ (r q : Fin 2), IntOp.cmpi .eq (BitVec.ofNat 32 r.val) (BitVec.ofNat 32 q.val) = if r.val = q.val then 1#1 else 0#1 := by decide
  have a2 : ∀ (l : Fin 128) (q : Fin 4), IntOp.cmpi .sge (BitVec.ofNat 32 l.val) (BitVec.ofNat 32 (32 * q.val)) = if 32 * q.val ≤ l.val then 1#1 else 0#1 := by decide +kernel
  have a3 : ∀ (l : Fin 128) (q : Fin 4), IntOp.cmpi .slt (BitVec.ofNat 32 l.val) (Scalar.addi (BitVec.ofNat 32 (32 * q.val)) 32#32) = if l.val < 32 * q.val + 32 then 1#1 else 0#1 := by decide +kernel
  rw [a1 r ⟨n / 64, by omega⟩, a2 l ⟨n % 4, by omega⟩, a3 l ⟨n % 4, by omega⟩]
  dsimp only
  by_cases c1 : r.val = n / 64 <;> by_cases c2 : 32 * (n % 4) ≤ l.val <;> by_cases c3 : l.val < 32 * (n % 4) + 32 <;> simp [c1, c2, c3, IntOp.andi]

/-- A column put on a diagonal and added up along the rows: lane `l` gets the value of the row whose diagonal element lies in it. -/
theorem diag_sum (v : FVec Ideal S32x1 .f32) (n : ℕ) (hn : n < 128) (l : Fin 128) (hl : 32 * (n % 4) ≤ l.val ∧ l.val < 32 * (n % 4) + 32) :
    (∑ x : Fin 32, Scalar.select (IntOp.cmpi .eq (BitVec.ofNat 32 l.val) (IntOp.addi (BitVec.ofNat 32 x.val) (baseWord (BitVec.ofNat 32 n)))) (v (ix2 x 0)) (0 : EReal))
      = v (ix2 ⟨l.val % 32, Nat.mod_lt _ (by decide)⟩ 0) := by
  rw [baseWord_eq n hn]
  have e : ∀ x : Fin 32, IntOp.cmpi .eq (BitVec.ofNat 32 l.val) (IntOp.addi (BitVec.ofNat 32 x.val) (BitVec.ofNat 32 (32 * (n % 4))))
      = if x = ⟨l.val % 32, Nat.mod_lt _ (by decide)⟩ then 1#1 else 0#1 := by
    intro x
    have hx := x.isLt
    have hl' := l.isLt
    have : (BitVec.ofNat 32 l.val = BitVec.ofNat 32 x.val + BitVec.ofNat 32 (32 * (n % 4))) ↔ x = ⟨l.val % 32, Nat.mod_lt _ (by decide)⟩ := by
      rw [← BitVec.toNat_inj, Fin.ext_iff]
      simp only [BitVec.toNat_add, BitVec.toNat_ofNat]
      omega
    by_cases hc : x = ⟨l.val % 32, Nat.mod_lt _ (by decide)⟩
    · rw [if_pos hc]
      exact congrArg BitVec.ofBool (beq_iff_eq.mpr (this.mpr hc))
    · rw [if_neg hc]
      exact congrArg BitVec.ofBool (beq_eq_false_iff_ne.mpr (mt this.mp hc))
  rw [Finset.sum_eq_single (⟨l.val % 32, Nat.mod_lt _ (by decide)⟩ : Fin 32)]
  · rw [e, if_pos rfl]; rfl
  · intro x _ hx
    rw [e, if_neg hx]; rfl
  · intro h; exact absurd (Finset.mem_univ _) h

/-- The stored group of lanes: the step's 32 values in their lanes of their row, the old contents elsewhere. -/
def group (n : ℕ) (v : FVec Ideal S32x1 .f32) (old : Vec Ideal S2x128 .f32) (r : Fin 2) (l : Fin 128) : EReal :=
  if r.val = n / 64 ∧ 32 * (n % 4) ≤ l.val ∧ l.val < 32 * (n % 4) + 32 then v (ix2 ⟨l.val % 32, Nat.mod_lt _ (by decide)⟩ 0) else old (ix2 r l)

/-- A masked sum over the rows, selected in the step's lanes, is the step's group. -/
theorem group_of (v : FVec Ideal S32x1 .f32) (old : Vec Ideal S2x128 .f32) (n : ℕ) (hn : n < 128) (r : Fin 2) (l : Fin 128) :
    Scalar.select (k0_pay101 (BitVec.ofNat 32 n) (BitVec.ofNat 32 (n / 64)) (ix2 r l))
      (∑ x : Fin 32, Scalar.select (IntOp.cmpi .eq (BitVec.ofNat 32 l.val) (IntOp.addi (BitVec.ofNat 32 x.val) (baseWord (BitVec.ofNat 32 n)))) (v (ix2 x 0)) (0 : EReal))
      (old (ix2 r l)) = group n v old r l := by
  rw [here_at n hn]
  unfold group
  by_cases hc : r.val = n / 64 ∧ 32 * (n % 4) ≤ l.val ∧ l.val < 32 * (n % 4) + 32
  · rw [if_pos hc, if_pos hc, diag_sum v n hn l hc.2]; rfl
  · rw [if_neg hc, if_neg hc]; rfl

/-- The three stored groups: the scales. -/
theorem pay1_at (v : FVec Ideal S32x1 .f32) (old : Vec Ideal S2x128 .f32) (n : ℕ) (hn : n < 128) (r : Fin 2) (l : Fin 128) :
    k0_pay1 (BitVec.ofNat 32 n) (k0_pay101 (BitVec.ofNat 32 n) (BitVec.ofNat 32 (n / 64))) v 4#32 0#32 old (ix2 r l) = group n v old r l := by
  refine Eq.trans ?_ (group_of v old n hn r l)
  generalize k0_pay101 (BitVec.ofNat 32 n) (BitVec.ofNat 32 (n / 64)) = here
  unfold_payloads
  pointwise [baseWord]

/-- The means. -/
theorem pay105_at (v : FVec Ideal S32x1 .f32) (old : Vec Ideal S2x128 .f32) (n : ℕ) (hn : n < 128) (r : Fin 2) (l : Fin 128) :
    k0_pay105 (k0_pay101 (BitVec.ofNat 32 n) (BitVec.ofNat 32 (n / 64))) (k0_pay103 (BitVec.ofNat 32 n)) (k0_pay104 v) (Scalar.ofBits .f32 0x00000000#32) old (ix2 r l) = group n v old r l := by
  refine Eq.trans ?_ (group_of v old n hn r l)
  generalize k0_pay101 (BitVec.ofNat 32 n) (BitVec.ofNat 32 (n / 64)) = here
  unfold_payloads
  pointwise [baseWord]

/-- The reciprocal standard deviations. -/
theorem pay106_at (v : FVec Ideal S32x1 .f32) (old : Vec Ideal S2x128 .f32) (n : ℕ) (hn : n < 128) (r : Fin 2) (l : Fin 128) :
    k0_pay106 (BitVec.ofNat 32 n) v (k0_pay101 (BitVec.ofNat 32 n) (BitVec.ofNat 32 (n / 64))) old (ix2 r l) = group n v old r l := by
  refine Eq.trans ?_ (group_of v old n hn r l)
  generalize k0_pay101 (BitVec.ofNat 32 n) (BitVec.ofNat 32 (n / 64)) = here
  unfold_payloads
  pointwise [baseWord]

/-- The array of statistics after step `n`: the step's 32 values at the places `32 n … 32 n + 31`, the rest as it was. -/
def stored (n : ℕ) (v : FVec Ideal S32x1 .f32) (old : Vec Ideal S2x2048 .f32) : Vec Ideal S2x2048 .f32 :=
  fun y => if (2048 * (y 0).val + (y 1).val) / 32 = n then v (ix2 ⟨(y 1).val % 32, Nat.mod_lt _ (by decide)⟩ 0) else old y

/-- Writing the step's group over the array leaves the array updated. -/
theorem stored_read (i : grid0.Coords) (arg : Memref sig .tc .vmem S2x2048 .f32) (v : FVec Ideal S32x1 .f32)
    (G : BufTy.Contents (Elt Ideal) arg.view.ty) (old : Vec Ideal S2x2048 .f32) (hG : arg.view.read (Elt Ideal) G = old)
    (inb : ∀ a, k0_off8 i a + S2x128.size a ≤ S2x2048.size a) (pay : Vec Ideal S2x128 .f32)
    (hp : ∀ r l, pay (ix2 r l) = group (i 0).val v (View.ld old (Rect.unit (s := S2x2048) (k0_off8 i) S2x128.size inb)) r l) :
    arg.view.read (Elt Ideal) (arg.view.writes (Elt Ideal) G [⟨Rect.unit (s := S2x2048) (k0_off8 i) S2x128.size inb, pay⟩]) = stored (i 0).val v old := by
  have hi := step_lt i
  have e := off8 i
  funext y
  idx_vars y
  have h0 := y0.isLt
  have h1 := y1.isLt
  by_cases hm : (ix2 y0 y1 : S2x2048.Idx) ∈ (Rect.unit (s := S2x2048) (k0_off8 i) S2x128.size inb).set
  · have hm' := (mem_iff e inb y0 y1).mp hm
    refine View.read_writes_apply_of_pieces _ _ (stored (i 0).val v old) _ ?_ _ ⟨_, List.mem_singleton.mpr rfl, hm⟩
    intro p hpm x
    rw [List.mem_singleton] at hpm
    subst hpm
    obtain ⟨x, rfl⟩ : ∃ z : S2x128.Idx, z = x := ⟨x, rfl⟩
    idx_vars x
    refine (hp x0 x1).trans ?_
    have hx0 := x0.isLt
    have hx1 := x1.isLt
    refine Eq.trans ?_ (congrArg (stored (i 0).val v old) (emb_eq e inb x0 x1)).symm
    unfold group stored
    dsimp only
    by_cases hc : x0.val = (i 0).val / 64 ∧ 32 * ((i 0).val % 4) ≤ x1.val ∧ x1.val < 32 * ((i 0).val % 4) + 32
    · rw [if_pos hc, if_pos (by simp only [ix2_0, ix2_1]; omega)]
      congr 2
      exact Fin.ext (by simp only [ix2_1]; omega)
    · rw [if_neg hc, if_neg (by simp only [ix2_0, ix2_1]; omega)]
      exact ld_eq old e inb x0 x1
  · rw [View.read_writes_apply_of_forall_not_mem _ _ _ _ (fun p hpm => by rw [List.mem_singleton] at hpm; subst hpm; exact hm), hG]
    rw [mem_iff e inb y0 y1] at hm
    unfold stored
    rw [if_neg]
    simp only [ix2_0, ix2_1]
    omega

end Cert.KernelIdeal.Run
end
-- ==== Proof.KernelIdeal.Chain.lean ====
/- The four passes of a step one after another, over the reals: each pass's result where the next starts from what the one
   before left. -/
module

public import proofs.«01_k».proof.Proof.KernelIdeal.Step

@[expose] public section

set_option maxRecDepth 16384
set_option maxHeartbeats 2000000

noncomputable section

namespace Cert.KernelIdeal.Run

open Cert.KernelIdeal Cert.KernelIdeal.Gen Cert.Tile Cert.Lanes
open Idealize.ShloMosaic Idealize.ShloMosaic.TcCoe Idealize.ShloMosaic.Tactic

/-- The first pass starts its lanes at zero. -/
theorem zero75 (j : S32x128.Idx) : k0_pay75 (F := Ideal) j = 0 := by
  idx_vars j
  unfold_payloads
  pointwise []
/-- The second pass starts its lanes at zero. -/
theorem zero79 (j : S32x128.Idx) : k0_pay79 (F := Ideal) j = 0 := by
  idx_vars j
  unfold_payloads
  pointwise []
/-- The third pass starts its lanes at zero. -/
theorem zero84 (j : S32x128.Idx) : k0_pay84 (F := Ideal) j = 0 := by
  idx_vars j
  unfold_payloads
  pointwise []

section Chain
variable (c : Dev nD) (i : grid0.Coords) (arg1 : Memref sig .tc .vmem S32x18432 .bf16) (harg1 : arg1.IsWhole) (arg2 : Memref sig .tc .vmem S32x18432 .bf16) (harg2 : arg2.IsWhole) (arg3 : Memref sig .tc .vmem S1x18432 .f32) (harg3 : arg3.IsWhole) (arg4 : Memref sig .tc .vmem S32x18432 .i32) (harg4 : arg4.IsWhole) (arg5 : Memref sig .tc .vmem S1x18432 .f32) (harg5 : arg5.IsWhole) (arg6 : Memref sig .tc .vmem S1x18432 .f32) (harg6 : arg6.IsWhole) (arg7 : Memref sig .tc .vmem S32x18432 .fp8e4m3) (harg7 : arg7.IsWhole) (arg8 : Memref sig .tc .vmem S2x2048 .f32) (harg8 : arg8.IsWhole) (arg9 : Memref sig .tc .vmem S32x18432 .i8) (harg9 : arg9.IsWhole) (arg10 : Memref sig .tc .vmem S2x2048 .f32) (harg10 : arg10.IsWhole) (arg11 : Memref sig .tc .vmem S2x2048 .f32) (harg11 : arg11.IsWhole) (arg12 : Memref sig .tc .vmem S32x18432 .bf16) (harg12 : arg12.IsWhole) (arg13 : Memref sig .tc .vmem S32x18432 .f32) (harg13 : arg13.IsWhole) (arg14 : Memref sig .tc .vmem S8x18432 .i32) (harg14 : arg14.IsWhole) (v9 : BitVec 32)
  (x a : Vec Ideal S32x18432 .bf16) (b : Vec Ideal S1x18432 .f32) (w : Vec Ideal S32x18432 .i32) (g t : Vec Ideal S1x18432 .f32)
  (f11 : BufTy.Contents (Elt Ideal) arg12.view.ty) (fs0 : BufTy.Contents (Elt Ideal) arg13.view.ty)

/-- The first pass: its lanes' sums, its pieces of `h` and its pieces of mask words. -/
abbrev pass1 := st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 v9 (harg1.unread x) (harg2.unread a) (harg3.unread b) (harg4.unread w) k0_pay75 k0_t1_loop.trips
/-- The block of `h` after the first pass. -/
abbrev left1 := arg12.view.writes (Elt Ideal) f11 (pass1 c i arg1 harg1 arg2 harg2 arg3 harg3 arg4 harg4 arg5 harg5 arg6 harg6 arg7 harg7 arg8 harg8 arg9 harg9 arg10 harg10 arg11 harg11 arg12 harg12 arg13 harg13 arg14 harg14 v9 x a b w).2.1
/-- The second pass: its lanes' sums and its pieces. -/
abbrev pass2 := st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (k0_pay78 (pass1 c i arg1 harg1 arg2 harg2 arg3 harg3 arg4 harg4 arg5 harg5 arg6 harg6 arg7 harg7 arg8 harg8 arg9 harg9 arg10 harg10 arg11 harg11 arg12 harg12 arg13 harg13 arg14 harg14 v9 x a b w).1) k0_pay79 0#32 12#32 (left1 c i arg1 harg1 arg2 harg2 arg3 harg3 arg4 harg4 arg5 harg5 arg6 harg6 arg7 harg7 arg8 harg8 arg9 harg9 arg10 harg10 arg11 harg11 arg12 harg12 arg13 harg13 arg14 harg14 v9 x a b w f11) k0_pay79 k0_t2_loop.trips
/-- The scratch after the second pass. -/
abbrev left2 := arg13.view.writes (Elt Ideal) fs0 (pass2 c i arg1 harg1 arg2 harg2 arg3 harg3 arg4 harg4 arg5 harg5 arg6 harg6 arg7 harg7 arg8 harg8 arg9 harg9 arg10 harg10 arg11 harg11 arg12 harg12 arg13 harg13 arg14 harg14 v9 x a b w f11).2
/-- The third pass: its lanes' maxima and its pieces. -/
abbrev pass3 := st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (k0_pay78 (pass1 c i arg1 harg1 arg2 harg2 arg3 harg3 arg4 harg4 arg5 harg5 arg6 harg6 arg7 harg7 arg8 harg8 arg9 harg9 arg10 harg10 arg11 harg11 arg12 harg12 arg13 harg13 arg14 harg14 v9 x a b w).1) k0_pay79 0#32 12#32 (pass2 c i arg1 harg1 arg2 harg2 arg3 harg3 arg4 harg4 arg5 harg5 arg6 harg6 arg7 harg7 arg8 harg8 arg9 harg9 arg10 harg10 arg11 harg11 arg12 harg12 arg13 harg13 arg14 harg14 v9 x a b w f11).1 (harg5.unread g) (harg6.unread t) (left2 c i arg1 harg1 arg2 harg2 arg3 harg3 arg4 harg4 arg5 harg5 arg6 harg6 arg7 harg7 arg8 harg8 arg9 harg9 arg10 harg10 arg11 harg11 arg12 harg12 arg13 harg13 arg14 harg14 v9 x a b w f11 fs0) k0_pay84 k0_t3_loop.trips
/-- The scratch after the third pass. -/
abbrev left3 := arg13.view.writes (Elt Ideal) fs0 ((pass3 c i arg1 harg1 arg2 harg2 arg3 harg3 arg4 harg4 arg5 harg5 arg6 harg6 arg7 harg7 arg8 harg8 arg9 harg9 arg10 harg10 arg11 harg11 arg12 harg12 arg13 harg13 arg14 harg14 v9 x a b w g t f11 fs0).2 ++ (pass2 c i arg1 harg1 arg2 harg2 arg3 harg3 arg4 harg4 arg5 harg5 arg6 harg6 arg7 harg7 arg8 harg8 arg9 harg9 arg10 harg10 arg11 harg11 arg12 harg12 arg13 harg13 arg14 harg14 v9 x a b w f11).2)

/-- After the first pass the block holds the hidden rows. -/
theorem chain_hidden : arg12.view.read (Elt Ideal) (left1 c i arg1 harg1 arg2 harg2 arg3 harg3 arg4 harg4 arg5 harg5 arg6 harg6 arg7 harg7 arg8 harg8 arg9 harg9 arg10 harg10 arg11 harg11 arg12 harg12 arg13 harg13 arg14 harg14 v9 x a b w f11) = hidden x a b w :=
  t1_read c none i arg1 harg1 arg2 harg2 arg3 harg3 arg4 harg4 arg5 harg5 arg6 harg6 arg7 harg7 arg8 harg8 arg9 harg9 arg10 harg10 arg11 harg11 arg12 harg12 arg13 harg13 arg14 harg14 v9 _ _ _ _ x a b w _ zero75 (harg1.read_unread _) (harg2.read_unread _) (harg3.read_unread _) (harg4.read_unread _) f11

/-- After the first pass the scratch of words holds the step's mask words in its row. -/
theorem chain_words (fs1 : BufTy.Contents (Elt Ideal) arg14.view.ty) :
    arg14.view.read (Elt Ideal) (arg14.view.writes (Elt Ideal) fs1 (pass1 c i arg1 harg1 arg2 harg2 arg3 harg3 arg4 harg4 arg5 harg5 arg6 harg6 arg7 harg7 arg8 harg8 arg9 harg9 arg10 harg10 arg11 harg11 arg12 harg12 arg13 harg13 arg14 harg14 v9 x a b w).2.2)
      = stepWords w (i 0).val (arg14.view.read (Elt Ideal) fs1) :=
  t1_words c none i arg1 harg1 arg2 harg2 arg3 harg3 arg4 harg4 arg5 harg5 arg6 harg6 arg7 harg7 arg8 harg8 arg9 harg9 arg10 harg10 arg11 harg11 arg12 harg12 arg13 harg13 arg14 harg14 v9 _ _ _ _ x a b w _ zero75 (harg1.read_unread _) (harg2.read_unread _) (harg3.read_unread _) (harg4.read_unread _) fs1

/-- The column computed after the first pass is the rows' means. -/
theorem chain_mean : k0_pay78 (pass1 c i arg1 harg1 arg2 harg2 arg3 harg3 arg4 harg4 arg5 harg5 arg6 harg6 arg7 harg7 arg8 harg8 arg9 harg9 arg10 harg10 arg11 harg11 arg12 harg12 arg13 harg13 arg14 harg14 v9 x a b w).1 = stepMean x a b w :=
  pay78_eq _ _ (t1_sum c none i arg1 harg1 arg2 harg2 arg3 harg3 arg4 harg4 arg5 harg5 arg6 harg6 arg7 harg7 arg8 harg8 arg9 harg9 arg10 harg10 arg11 harg11 arg12 harg12 arg13 harg13 arg14 harg14 v9 _ _ _ _ x a b w _ zero75 (harg1.read_unread _) (harg2.read_unread _) (harg3.read_unread _) (harg4.read_unread _))

/-- After the second pass the scratch holds the centred rows. -/
theorem chain_centred : arg13.view.read (Elt Ideal) (left2 c i arg1 harg1 arg2 harg2 arg3 harg3 arg4 harg4 arg5 harg5 arg6 harg6 arg7 harg7 arg8 harg8 arg9 harg9 arg10 harg10 arg11 harg11 arg12 harg12 arg13 harg13 arg14 harg14 v9 x a b w f11 fs0) = stepCentred x a b w := by
  refine (t2_read c none i arg1 harg1 arg2 harg2 arg3 harg3 arg4 harg4 arg5 harg5 arg6 harg6 arg7 harg7 arg8 harg8 arg9 harg9 arg10 harg10 arg11 harg11 arg12 harg12 arg13 harg13 arg14 harg14 _ _ _ _ _ (hidden x a b w) _ zero79 (chain_hidden c i arg1 harg1 arg2 harg2 arg3 harg3 arg4 harg4 arg5 harg5 arg6 harg6 arg7 harg7 arg8 harg8 arg9 harg9 arg10 harg10 arg11 harg11 arg12 harg12 arg13 harg13 arg14 harg14 v9 x a b w f11) fs0).trans ?_
  rw [chain_mean]
  rfl

/-- The column computed after the second pass is the rows' reciprocal standard deviations. -/
theorem chain_rstd : k0_pay83 (pass2 c i arg1 harg1 arg2 harg2 arg3 harg3 arg4 harg4 arg5 harg5 arg6 harg6 arg7 harg7 arg8 harg8 arg9 harg9 arg10 harg10 arg11 harg11 arg12 harg12 arg13 harg13 arg14 harg14 v9 x a b w f11).1 = stepRstd x a b w := by
  refine pay83_eq _ (stepCentred x a b w) fun r => ?_
  refine (t2_sum c none i arg1 harg1 arg2 harg2 arg3 harg3 arg4 harg4 arg5 harg5 arg6 harg6 arg7 harg7 arg8 harg8 arg9 harg9 arg10 harg10 arg11 harg11 arg12 harg12 arg13 harg13 arg14 harg14 _ _ _ _ _ (hidden x a b w) _ zero79 (chain_hidden c i arg1 harg1 arg2 harg2 arg3 harg3 arg4 harg4 arg5 harg5 arg6 harg6 arg7 harg7 arg8 harg8 arg9 harg9 arg10 harg10 arg11 harg11 arg12 harg12 arg13 harg13 arg14 harg14 v9 x a b w f11) r).trans ?_
  rw [chain_mean]
  rfl

/-- After the third pass the scratch holds the normalised rows. -/
theorem chain_norm : arg13.view.read (Elt Ideal) (left3 c i arg1 harg1 arg2 harg2 arg3 harg3 arg4 harg4 arg5 harg5 arg6 harg6 arg7 harg7 arg8 harg8 arg9 harg9 arg10 harg10 arg11 harg11 arg12 harg12 arg13 harg13 arg14 harg14 v9 x a b w g t f11 fs0) = stepNorm x a b w g t := by
  unfold left3
  rw [View.writes_append]
  refine (t3_read c none i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ _ _ (stepCentred x a b w) g t (harg5.read_unread _) (harg6.read_unread _)
    (chain_centred c i arg1 harg1 arg2 harg2 arg3 harg3 arg4 harg4 arg5 harg5 arg6 harg6 arg7 harg7 arg8 harg8 arg9 harg9 arg10 harg10 arg11 harg11 arg12 harg12 arg13 harg13 arg14 harg14 v9 x a b w f11 fs0) _ zero84).trans ?_
  rw [chain_rstd]
  rfl

/-- What is computed after the third pass: each row's largest magnitude times the constant. -/
theorem chain_bound : k0_pay88 (pass3 c i arg1 harg1 arg2 harg2 arg3 harg3 arg4 harg4 arg5 harg5 arg6 harg6 arg7 harg7 arg8 harg8 arg9 harg9 arg10 harg10 arg11 harg11 arg12 harg12 arg13 harg13 arg14 harg14 v9 x a b w g t f11 fs0).1 = rowBound (stepNorm x a b w g t) := by
  refine pay88_eq _ _ fun r => ?_
  refine (t3_max c none i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ _ _ (stepCentred x a b w) g t (harg5.read_unread _) (harg6.read_unread _)
    (chain_centred c i arg1 harg1 arg2 harg2 arg3 harg3 arg4 harg4 arg5 harg5 arg6 harg6 arg7 harg7 arg8 harg8 arg9 harg9 arg10 harg10 arg11 harg11 arg12 harg12 arg13 harg13 arg14 harg14 v9 x a b w f11 fs0) _ zero84 r).trans ?_
  rw [chain_rstd]
  rfl

/-- The scales computed from it. -/
theorem chain_scale (v46 : FVec Ideal S32x128 .f32) (h46 : k0_pay88 v46 = rowBound (stepNorm x a b w g t)) :
    k0_pay102 (k0_pay94 (k0_pay88 v46) (k0_pay91 (k0_pay88 v46) (k0_pay89 v46) (k0_pay90 v46) 23#32)
      (k0_pay92 (k0_pay88 v46) (k0_pay89 v46) (k0_pay90 v46) 23#32) 23#32) = stepScale x a b w g t := by
  funext j
  idx_vars j
  unfold k0_pay102
  generalize hv : k0_pay94 (k0_pay88 v46) _ _ _ = v139
  pointwise []
  rw [← hv, pay94_at, h46]
  rfl

/-- The reciprocal scales computed from it. -/
theorem chain_inv (v46 : FVec Ideal S32x128 .f32) (h46 : k0_pay88 v46 = rowBound (stepNorm x a b w g t)) :
    k0_pay95 (k0_pay88 v46) (k0_pay91 (k0_pay88 v46) (k0_pay89 v46) (k0_pay90 v46) 23#32)
      (k0_pay92 (k0_pay88 v46) (k0_pay89 v46) (k0_pay90 v46) 23#32) 23#32 = stepInv x a b w g t := by
  funext j
  idx_vars j
  rw [pay95_at, h46]
  rfl

/-- After the fourth pass the block of codes holds the step's codes. -/
theorem chain_codes (arg0 : BitVec 32) (G : BufTy.Contents (Elt Ideal) arg7.view.ty) (v46 : FVec Ideal S32x128 .f32) (h46 : k0_pay88 v46 = rowBound (stepNorm x a b w g t)) :
    arg7.view.read (Elt Ideal) (arg7.view.writes (Elt Ideal) G (pb_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg0 v9 (k0_pay88 v46)
      (k0_pay91 (k0_pay88 v46) (k0_pay89 v46) (k0_pay90 v46) 23#32) (k0_pay92 (k0_pay88 v46) (k0_pay89 v46) (k0_pay90 v46) 23#32) 23#32
      (left3 c i arg1 harg1 arg2 harg2 arg3 harg3 arg4 harg4 arg5 harg5 arg6 harg6 arg7 harg7 arg8 harg8 arg9 harg9 arg10 harg10 arg11 harg11 arg12 harg12 arg13 harg13 arg14 harg14 v9 x a b w g t f11 fs0) k0_t4_loop.trips)) = stepCodes x a b w g t := by
  refine (t4_read c none i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ _ (stepNorm x a b w g t) (chain_norm c i arg1 harg1 arg2 harg2 arg3 harg3 arg4 harg4 arg5 harg5 arg6 harg6 arg7 harg7 arg8 harg8 arg9 harg9 arg10 harg10 arg11 harg11 arg12 harg12 arg13 harg13 arg14 harg14 v9 x a b w g t f11 fs0) G).trans ?_
  rw [chain_inv x a b w g t v46 h46]
  rfl

end Chain
end Cert.KernelIdeal.Run
end
-- ==== Proof.KernelIdeal.BodyValue.lean ====
/- The kernel body run once, over the reals: what it leaves in each of its outputs and in the scratch of mask words, as
   functions of its blocks and of what those held before. -/
module

public import proofs.«01_k».proof.Proof.KernelIdeal.Stats
public import proofs.«01_k».proof.Proof.KernelIdeal.Chain
public import proofs.«01_k».proof.Proof.KernelIdeal.Body
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384
set_option maxHeartbeats 4000000

noncomputable section

namespace Cert.KernelIdeal.Run

open Cert.KernelIdeal Cert.KernelIdeal.Gen Cert.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The statistics the step starts from: zero at the first step, what the step before left at a later one. -/
def fresh (i : grid0.Coords) (p : Vec Ideal S2x2048 .f32) : Vec Ideal S2x2048 .f32 := if (i 0).val = 0 then fun _ => 0 else p

/-- Reading back one store over a whole rank-2 memref. -/
theorem whole_read {R C : ℕ} {e : EltTy} (arg : Memref sig .tc .vmem ⟨2, ![R, C]⟩ e) (G : BufTy.Contents (Elt Ideal) arg.view.ty) (z : Vec Ideal ⟨2, ![R, C]⟩ e)
    (inb : ∀ a, (![0, 0] : Fin 2 → ℕ) a + (![R, C] : Fin 2 → ℕ) a ≤ (⟨2, ![R, C]⟩ : Shape).size a) :
    arg.view.read (Elt Ideal) (arg.view.writes (Elt Ideal) G [⟨Rect.unit (s := ⟨2, ![R, C]⟩) ![0, 0] ![R, C] inb, z⟩]) = z := by
  have h0 : (![0, 0] : Fin 2 → ℕ) = fun _ => 0 := by funext a; fin_cases a <;> rfl
  funext y
  refine View.read_writes_apply_of_pieces _ _ _ _ (fun p hp x => ?_) _ ⟨_, List.mem_cons_self, ?_⟩
  · obtain rfl := List.mem_singleton.mp hp
    exact (congrFun (View.ld_unit_zero h0 inb z) x).symm
  · show y ∈ (Rect.unit (s := ⟨2, ![R, C]⟩) ![0, 0] ![R, C] inb).set
    rw [Rect.mem_set_unit]
    intro a
    fin_cases a
    · exact ⟨Nat.zero_le _, by have := (y 0).isLt; simpa using this⟩
    · exact ⟨Nat.zero_le _, by have := (y 1).isLt; simpa using this⟩

/-- Reading back what one store over the whole array of statistics left. -/
theorem zeroed (arg : Memref sig .tc .vmem S2x2048 .f32) (G : BufTy.Contents (Elt Ideal) arg.view.ty) (z : Vec Ideal S2x2048 .f32) (hz : ∀ j, z j = 0)
    (inb : ∀ a, (![0, 0] : Fin 2 → ℕ) a + S2x2048.size a ≤ S2x2048.size a) :
    arg.view.read (Elt Ideal) (arg.view.writes (Elt Ideal) G [⟨Rect.unit (s := S2x2048) ![0, 0] S2x2048.size inb, z⟩]) = fun _ => 0 :=
  (whole_read arg G z inb).trans (funext hz)

/-- The whole scratch of mask words loaded. -/
theorem words_load (arg14 : Memref sig .tc .vmem S8x18432 .i32) (G : BufTy.Contents (Elt Ideal) arg14.view.ty)
    (inb : ∀ a, (![0, 0] : Fin 2 → ℕ) a + S8x18432.size a ≤ S8x18432.size a) :
    View.readAt (Elt Ideal) arg14.view (Rect.unit (s := S8x18432) ![0, 0] S8x18432.size inb).toLoadRect G = arg14.view.read (Elt Ideal) G :=
  View.ld_unit_zero (by funext a; fin_cases a <;> rfl) inb _

/-- The first step clears the means. -/
theorem zero98 (j : S2x2048.Idx) : k0_pay98 (F := Ideal) j = 0 := by
  idx_vars j
  unfold_payloads
  pointwise []
/-- The first step clears the reciprocal standard deviations. -/
theorem zero99 (j : S2x2048.Idx) : k0_pay99 (F := Ideal) j = 0 := by
  idx_vars j
  unfold_payloads
  pointwise []
/-- The first step clears the scales. -/
theorem zero100 (j : S2x2048.Idx) : k0_pay100 (F := Ideal) j = 0 := by
  idx_vars j
  unfold_payloads
  pointwise []

section Stat
variable (i : grid0.Coords) (arg : Memref sig .tc .vmem S2x2048 .f32) (v : FVec Ideal S32x1 .f32)
  (P : Vec Ideal S2x128 .f32 → Vec Ideal S2x128 .f32) (hP : ∀ old r l, P old (ix2 r l) = group (i 0).val v old r l)
  (p : Vec Ideal S2x2048 .f32)
include hP

/-- The statistics after a step that is not the first. -/
theorem stat_later (h0 : (i 0).val ≠ 0) (f : BufTy.Contents (Elt Ideal) arg.view.ty) (hf : arg.view.read (Elt Ideal) f = p)
    (inb : ∀ a, k0_off8 i a + S2x128.size a ≤ S2x2048.size a) :
    arg.view.read (Elt Ideal) (arg.view.writes (Elt Ideal) f [⟨Rect.unit (s := S2x2048) (k0_off8 i) S2x128.size inb,
      P (View.readAt (Elt Ideal) arg.view (Rect.unit (s := S2x2048) (k0_off8 i) S2x128.size inb).toLoadRect f)⟩]) = stored (i 0).val v (fresh i p) := by
  rw [show fresh i p = p from if_neg h0]
  refine stored_read i arg v f p hf inb _ fun r l => ?_
  rw [hP, View.readAt_eq_ld, hf]

/-- The statistics after the first step. -/
theorem stat_first (h0 : (i 0).val = 0) (G : BufTy.Contents (Elt Ideal) arg.view.ty) (z : Vec Ideal S2x2048 .f32) (hz : ∀ j, z j = 0)
    (inb : ∀ a, k0_off8 i a + S2x128.size a ≤ S2x2048.size a) (inb0 : ∀ a, (![0, 0] : Fin 2 → ℕ) a + S2x2048.size a ≤ S2x2048.size a) :
    arg.view.read (Elt Ideal) (arg.view.writes (Elt Ideal) G [⟨Rect.unit (s := S2x2048) (k0_off8 i) S2x128.size inb,
      P (View.readAt (Elt Ideal) arg.view (Rect.unit (s := S2x2048) (k0_off8 i) S2x128.size inb).toLoadRect
        (arg.view.writes (Elt Ideal) G [⟨Rect.unit (s := S2x2048) ![0, 0] S2x2048.size inb0, z⟩]))⟩,
      ⟨Rect.unit (s := S2x2048) ![0, 0] S2x2048.size inb0, z⟩]) = stored (i 0).val v (fresh i p) := by
  rw [show fresh i p = fun _ => 0 from if_pos h0]
  have hG := zeroed arg G z hz inb0
  have h := stored_read i arg v _ _ hG inb (P (View.readAt (Elt Ideal) arg.view (Rect.unit (s := S2x2048) (k0_off8 i) S2x128.size inb).toLoadRect
        (arg.view.writes (Elt Ideal) G [⟨Rect.unit (s := S2x2048) ![0, 0] S2x2048.size inb0, z⟩]))) fun r l => by
    rw [hP, View.readAt_eq_ld, hG]
  rw [← View.writes_append] at h
  exact h

end Stat

/-- The batch a step's rows lie in, as the word the body computes. -/
abbrev rowWord (n : BitVec 32) : BitVec 32 :=
  Scalar.select
    (Scalar.andi
      (Scalar.cmpi .ne (Scalar.subi (Scalar.extui (Scalar.cmpi .sgt n 0#32)) (Scalar.extui (Scalar.cmpi .slt n 0#32))) 1#32)
      (Scalar.cmpi .ne (Scalar.remsi n 64#32) 0#32))
    (Scalar.subi (Scalar.divsi n 64#32) 1#32)
    (Scalar.divsi n 64#32)

/-- The batch of step `i` is `i / 64`. -/
theorem rowWord_eq (i : grid0.Coords) : rowWord (BitVec.ofNat 32 (i 0).val) = BitVec.ofNat 32 ((i 0).val / 64) :=
  (by decide +kernel : ∀ n : ℕ, n < 128 → rowWord (BitVec.ofNat 32 n) = BitVec.ofNat 32 (n / 64)) _ (step_lt i)

/-- What is stored of one array of statistics: the step's group. -/
theorem pay1_group (i : grid0.Coords) (v : FVec Ideal S32x1 .f32) (old : Vec Ideal S2x128 .f32) (r : Fin 2) (l : Fin 128) :
    k0_pay1 (BitVec.ofNat 32 (i 0).val) (k0_pay101 (BitVec.ofNat 32 (i 0).val) (rowWord (BitVec.ofNat 32 (i 0).val))) v 4#32 0#32 old (ix2 r l) = group (i 0).val v old r l := by
  rw [rowWord_eq]; exact pay1_at v old _ (step_lt i) r l
/-- What is stored of another array of statistics: the step's group. -/
theorem pay105_group (i : grid0.Coords) (v : FVec Ideal S32x1 .f32) (old : Vec Ideal S2x128 .f32) (r : Fin 2) (l : Fin 128) :
    k0_pay105 (k0_pay101 (BitVec.ofNat 32 (i 0).val) (rowWord (BitVec.ofNat 32 (i 0).val))) (k0_pay103 (BitVec.ofNat 32 (i 0).val)) (k0_pay104 v) (Scalar.ofBits .f32 0x00000000#32) old (ix2 r l) = group (i 0).val v old r l := by
  rw [rowWord_eq]; exact pay105_at v old _ (step_lt i) r l
/-- What is stored of the third array of statistics: the step's group. -/
theorem pay106_group (i : grid0.Coords) (v : FVec Ideal S32x1 .f32) (old : Vec Ideal S2x128 .f32) (r : Fin 2) (l : Fin 128) :
    k0_pay106 (BitVec.ofNat 32 (i 0).val) v (k0_pay101 (BitVec.ofNat 32 (i 0).val) (rowWord (BitVec.ofNat 32 (i 0).val))) old (ix2 r l) = group (i 0).val v old r l := by
  rw [rowWord_eq]; exact pay106_at v old _ (step_lt i) r l

/-- The clearing branch is taken at step 0 alone. -/
theorem first_iff (i : grid0.Coords) : cond0_1 i ↔ (i 0).val = 0 :=
  (by decide +kernel : ∀ n : ℕ, n < 128 → ((Scalar.cmpi .ne (Scalar.extui (Scalar.cmpi .eq (BitVec.ofNat 32 n) 0#32)) 0#32) = 1#1 ↔ n = 0)) _ (step_lt i)

/-- The body at step `i`, on whole staging memrefs: the inputs at their contents, the statistics, the block of the mask and
    the scratch of mask words at what they held; it runs, and every output ends at the value named. -/
theorem body_value (c : Dev nD) (i : grid0.Coords) (arg1 : Memref sig .tc .vmem S32x18432 .bf16) (harg1 : arg1.IsWhole) (arg2 : Memref sig .tc .vmem S32x18432 .bf16) (harg2 : arg2.IsWhole) (arg3 : Memref sig .tc .vmem S1x18432 .f32) (harg3 : arg3.IsWhole) (arg4 : Memref sig .tc .vmem S32x18432 .i32) (harg4 : arg4.IsWhole) (arg5 : Memref sig .tc .vmem S1x18432 .f32) (harg5 : arg5.IsWhole) (arg6 : Memref sig .tc .vmem S1x18432 .f32) (harg6 : arg6.IsWhole) (arg7 : Memref sig .tc .vmem S32x18432 .fp8e4m3) (harg7 : arg7.IsWhole) (arg8 : Memref sig .tc .vmem S2x2048 .f32) (harg8 : arg8.IsWhole) (arg9 : Memref sig .tc .vmem S32x18432 .i8) (harg9 : arg9.IsWhole) (arg10 : Memref sig .tc .vmem S2x2048 .f32) (harg10 : arg10.IsWhole) (arg11 : Memref sig .tc .vmem S2x2048 .f32) (harg11 : arg11.IsWhole) (arg12 : Memref sig .tc .vmem S32x18432 .bf16) (harg12 : arg12.IsWhole) (arg13 : Memref sig .tc .vmem S32x18432 .f32) (harg13 : arg13.IsWhole) (arg14 : Memref sig .tc .vmem S8x18432 .i32) (harg14 : arg14.IsWhole)
    (x0 : Vec Ideal S32x18432 .bf16) (x1 : Vec Ideal S32x18432 .bf16) (x2 : Vec Ideal S1x18432 .f32) (x3 : Vec Ideal S32x18432 .i32) (x4 : Vec Ideal S1x18432 .f32) (x5 : Vec Ideal S1x18432 .f32)
    (p7 : Vec Ideal S2x2048 .f32) (p8 : Vec Ideal S32x18432 .i8) (p9 p10 : Vec Ideal S2x2048 .f32) (s1 : Vec Ideal S8x18432 .i32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare p7 ∗ owns (c : Thread nD τ) arg9 fullShare p8 ∗ owns (c : Thread nD τ) arg10 fullShare p9 ∗ owns (c : Thread nD τ) arg11 fullShare p10 ∗ (∃ d, owns (c : Thread nD τ) arg12 fullShare d) ∗ (∃ d, owns (c : Thread nD τ) arg13 fullShare d) ∗ owns (c : Thread nD τ) arg14 fullShare s1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (stepCodes x0 x1 x2 x3 x4 x5) ∗ owns (c : Thread nD τ) arg8 fullShare (stored (i 0).val (stepScale x0 x1 x2 x3 x4 x5) (fresh i p7)) ∗ owns (c : Thread nD τ) arg9 fullShare (if cond0_0 i then k0_pay97 (F := Ideal) (stepWords x3 (i 0).val s1) else p8) ∗ owns (c : Thread nD τ) arg10 fullShare (stored (i 0).val (stepMean x0 x1 x2 x3) (fresh i p9)) ∗ owns (c : Thread nD τ) arg11 fullShare (stored (i 0).val (stepRstd x0 x1 x2 x3) (fresh i p10)) ∗ owns (c : Thread nD τ) arg12 fullShare (hidden x0 x1 x2 x3) ∗ (∃ d, owns (c : Thread nD τ) arg13 fullShare d) ∗ owns (c : Thread nD τ) arg14 fullShare (stepWords x3 (i 0).val s1)) -∗ K ⟨⟩))
          ⊢ wp frame (wpE (defs₀ (F := Ideal)) Variants.none c none) E (cc0_dropout_ln_fp8 i arg1 harg1 arg2 harg2 arg3 harg3 arg4 harg4 arg5 harg5 arg6 harg6 arg7 harg7 arg8 harg8 arg9 harg9 arg10 harg10 arg11 harg11 arg12 harg12 arg13 harg13 arg14 harg14) K := by
    intro E K
    simp only [cc0_dropout_ln_fp8_eq_skeleton]; unfold cc0_dropout_ln_fp8_skel
    simp only [k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, ⟨%d11, %f11, -, H11⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    by_cases hc0 : cond0_0 i <;> by_cases hc1 : cond0_1 i
    all_goals
      sl_exec (disch := first | sl_exact hc0 | sl_exact hc1)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr; swap; · iexact H6
        ipureintro; sl_unfold_run_names; exact chain_codes c i arg1 harg1 arg2 harg2 arg3 harg3 arg4 harg4 arg5 harg5 arg6 harg6 arg7 harg7 arg8 harg8 arg9 harg9 arg10 harg10 arg11 harg11 arg12 harg12 arg13 harg13 arg14 harg14 _ x0 x1 x2 x3 x4 x5 _ _ _ _ _ (chain_bound c i arg1 harg1 arg2 harg2 arg3 harg3 arg4 harg4 arg5 harg5 arg6 harg6 arg7 harg7 arg8 harg8 arg9 harg9 arg10 harg10 arg11 harg11 arg12 harg12 arg13 harg13 arg14 harg14 _ x0 x1 x2 x3 x4 x5 _ _)
      isplitl [H7]
      · iexists _; isplitr; swap; · iexact H7
        ipureintro
        sl_unfold_run_names
        first
        | exact (stat_first i arg8 _ _ (pay1_group i _) p7 ((first_iff i).mp hc1) _ _ zero100 _ _).trans (congrArg (fun v => stored (i 0).val v (fresh i p7)) (chain_scale x0 x1 x2 x3 x4 x5 _ (chain_bound c i arg1 harg1 arg2 harg2 arg3 harg3 arg4 harg4 arg5 harg5 arg6 harg6 arg7 harg7 arg8 harg8 arg9 harg9 arg10 harg10 arg11 harg11 arg12 harg12 arg13 harg13 arg14 harg14 _ x0 x1 x2 x3 x4 x5 _ _)))
        | exact (stat_later i arg8 _ _ (pay1_group i _) p7 (fun h => hc1 ((first_iff i).mpr h)) _ hf7 _).trans (congrArg (fun v => stored (i 0).val v (fresh i p7)) (chain_scale x0 x1 x2 x3 x4 x5 _ (chain_bound c i arg1 harg1 arg2 harg2 arg3 harg3 arg4 harg4 arg5 harg5 arg6 harg6 arg7 harg7 arg8 harg8 arg9 harg9 arg10 harg10 arg11 harg11 arg12 harg12 arg13 harg13 arg14 harg14 _ x0 x1 x2 x3 x4 x5 _ _)))
      isplitl [H8]
      · iexists _; isplitr; swap; · iexact H8
        ipureintro; sl_unfold_run_names
        first
        | exact (whole_read arg9 _ _ _).trans ((congrArg (k0_pay97 (F := Ideal)) ((words_load arg14 _ _).trans ((chain_words c i arg1 harg1 arg2 harg2 arg3 harg3 arg4 harg4 arg5 harg5 arg6 harg6 arg7 harg7 arg8 harg8 arg9 harg9 arg10 harg10 arg11 harg11 arg12 harg12 arg13 harg13 arg14 harg14 _ x0 x1 x2 x3 _).trans
            (congrArg (stepWords x3 (i 0).val) hfs1)))).trans (if_pos hc0).symm)
        | exact hf8.trans (if_neg hc0).symm
      isplitl [H9]
      · iexists _; isplitr; swap; · iexact H9
        ipureintro
        sl_unfold_run_names
        first
        | exact (stat_first i arg10 _ _ (pay105_group i _) p9 ((first_iff i).mp hc1) _ _ zero98 _ _).trans (congrArg (fun v => stored (i 0).val v (fresh i p9)) (chain_mean c i arg1 harg1 arg2 harg2 arg3 harg3 arg4 harg4 arg5 harg5 arg6 harg6 arg7 harg7 arg8 harg8 arg9 harg9 arg10 harg10 arg11 harg11 arg12 harg12 arg13 harg13 arg14 harg14 _ x0 x1 x2 x3))
        | exact (stat_later i arg10 _ _ (pay105_group i _) p9 (fun h => hc1 ((first_iff i).mpr h)) _ hf9 _).trans (congrArg (fun v => stored (i 0).val v (fresh i p9)) (chain_mean c i arg1 harg1 arg2 harg2 arg3 harg3 arg4 harg4 arg5 harg5 arg6 harg6 arg7 harg7 arg8 harg8 arg9 harg9 arg10 harg10 arg11 harg11 arg12 harg12 arg13 harg13 arg14 harg14 _ x0 x1 x2 x3))
      isplitl [H10]
      · iexists _; isplitr; swap; · iexact H10
        ipureintro
        sl_unfold_run_names
        first
        | exact (stat_first i arg11 _ _ (pay106_group i _) p10 ((first_iff i).mp hc1) _ _ zero99 _ _).trans (congrArg (fun v => stored (i 0).val v (fresh i p10)) (chain_rstd c i arg1 harg1 arg2 harg2 arg3 harg3 arg4 harg4 arg5 harg5 arg6 harg6 arg7 harg7 arg8 harg8 arg9 harg9 arg10 harg10 arg11 harg11 arg12 harg12 arg13 harg13 arg14 harg14 _ x0 x1 x2 x3 _))
        | exact (stat_later i arg11 _ _ (pay106_group i _) p10 (fun h => hc1 ((first_iff i).mpr h)) _ hf10 _).trans (congrArg (fun v => stored (i 0).val v (fresh i p10)) (chain_rstd c i arg1 harg1 arg2 harg2 arg3 harg3 arg4 harg4 arg5 harg5 arg6 harg6 arg7 harg7 arg8 harg8 arg9 harg9 arg10 harg10 arg11 harg11 arg12 harg12 arg13 harg13 arg14 harg14 _ x0 x1 x2 x3 _))
      isplitl [H11]
      · iexists _; isplitr; swap; · iexact H11
        ipureintro; sl_unfold_run_names; exact chain_hidden c i arg1 harg1 arg2 harg2 arg3 harg3 arg4 harg4 arg5 harg5 arg6 harg6 arg7 harg7 arg8 harg8 arg9 harg9 arg10 harg10 arg11 harg11 arg12 harg12 arg13 harg13 arg14 harg14 _ x0 x1 x2 x3 _
      isplitl [HS0]
      · iexists _, _; isplitr; swap; · iexact HS0
        ipureintro; rfl
      iexists _; isplitr; swap; · iexact HS1
      ipureintro; subst hfs1; sl_unfold_run_names; exact chain_words c i arg1 harg1 arg2 harg2 arg3 harg3 arg4 harg4 arg5 harg5 arg6 harg6 arg7 harg7 arg8 harg8 arg9 harg9 arg10 harg10 arg11 harg11 arg12 harg12 arg13 harg13 arg14 harg14 _ x0 x1 x2 x3 _

end Cert.KernelIdeal.Run

end
-- ==== Proof.KernelIdeal.ValueRun.lean ====
/- The whole run over the reals, block by block: what each output's staging buffer holds after every step, and from it the
   run of the whole program. -/
module

public import proofs.«01_k».proof.Proof.KernelIdeal.BodyValue
public import proofs.«01_k».proof.Proof.KernelIdeal.Frame
public import Idealize.ShloMosaic.Lib.Claim

@[expose] public section

set_option maxRecDepth 16384

noncomputable section

namespace Cert.KernelIdeal.Value

open Cert.KernelIdeal Cert.KernelIdeal.Gen Cert.KernelIdeal.Run Cert.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## What each step computes, from the arrays -/

/-- Step `n` (steps past the last read as if counted from the first again: none is ever asked for). -/
def pt (n : ℕ) : Fin cfg0.N := ⟨n % 128, Nat.mod_lt _ (by decide)⟩
/-- Point `t` is the point numbered `t`. -/
theorem pt_val (t : Fin cfg0.N) : pt t.val = t := Fin.ext (Nat.mod_eq_of_lt (show t.val < 128 from t.isLt))

section Steps
variable (c : Dev nD) (n : ℕ)

/-- The blocks of step `n`. -/
abbrev x0 : Vec Ideal S32x18432 .bf16 := iblk m c 0 (pt n)
abbrev x1 : Vec Ideal S32x18432 .bf16 := iblk m c 1 (pt n)
abbrev x2 : Vec Ideal S1x18432 .f32 := iblk m c 2 (pt n)
abbrev x3 : Vec Ideal S32x18432 .i32 := iblk m c 3 (pt n)
abbrev x4 : Vec Ideal S1x18432 .f32 := iblk m c 4 (pt n)
abbrev x5 : Vec Ideal S1x18432 .f32 := iblk m c 5 (pt n)

/-- What step `n` computes. -/
def hiddenAt : Vec Ideal S32x18432 .bf16 := hidden (x0 m c n) (x1 m c n) (x2 m c n) (x3 m c n)
/-- The means of step `n`. -/
def meanAt : FVec Ideal S32x1 .f32 := stepMean (x0 m c n) (x1 m c n) (x2 m c n) (x3 m c n)
/-- The reciprocal standard deviations of step `n`. -/
def rstdAt : FVec Ideal S32x1 .f32 := stepRstd (x0 m c n) (x1 m c n) (x2 m c n) (x3 m c n)
/-- The scales of step `n`. -/
def scaleAt : FVec Ideal S32x1 .f32 := stepScale (x0 m c n) (x1 m c n) (x2 m c n) (x3 m c n) (x4 m c n) (x5 m c n)
/-- The codes of step `n`. -/
def codesAt : Vec Ideal S32x18432 .fp8e4m3 := stepCodes (x0 m c n) (x1 m c n) (x2 m c n) (x3 m c n) (x4 m c n) (x5 m c n)
/-- The mask words of the eight steps from `8 n` on. -/
def wordsOf : Vec Ideal S8x18432 .i32 := fun y => maskWord (x3 m c (8 * n + (y 0).val)) (y 1)

end Steps

section At
variable (c : Dev nD) (t : Fin cfg0.N)
theorem x0_pt : x0 m c t.val = iblk m c 0 t := by unfold x0; rw [pt_val]
theorem x1_pt : x1 m c t.val = iblk m c 1 t := by unfold x1; rw [pt_val]
theorem x2_pt : x2 m c t.val = iblk m c 2 t := by unfold x2; rw [pt_val]
theorem x3_pt : x3 m c t.val = iblk m c 3 t := by unfold x3; rw [pt_val]
theorem x4_pt : x4 m c t.val = iblk m c 4 t := by unfold x4; rw [pt_val]
theorem x5_pt : x5 m c t.val = iblk m c 5 t := by unfold x5; rw [pt_val]
theorem hiddenAt_pt : hiddenAt m c t.val = hidden (iblk m c 0 t) (iblk m c 1 t) (iblk m c 2 t) (iblk m c 3 t) := by unfold hiddenAt; rw [x0_pt, x1_pt, x2_pt, x3_pt]
theorem meanAt_pt : meanAt m c t.val = stepMean (iblk m c 0 t) (iblk m c 1 t) (iblk m c 2 t) (iblk m c 3 t) := by unfold meanAt; rw [x0_pt, x1_pt, x2_pt, x3_pt]
theorem rstdAt_pt : rstdAt m c t.val = stepRstd (iblk m c 0 t) (iblk m c 1 t) (iblk m c 2 t) (iblk m c 3 t) := by unfold rstdAt; rw [x0_pt, x1_pt, x2_pt, x3_pt]
theorem scaleAt_pt : scaleAt m c t.val = stepScale (iblk m c 0 t) (iblk m c 1 t) (iblk m c 2 t) (iblk m c 3 t) (iblk m c 4 t) (iblk m c 5 t) := by unfold scaleAt; rw [x0_pt, x1_pt, x2_pt, x3_pt, x4_pt, x5_pt]
theorem codesAt_pt : codesAt m c t.val = stepCodes (iblk m c 0 t) (iblk m c 1 t) (iblk m c 2 t) (iblk m c 3 t) (iblk m c 4 t) (iblk m c 5 t) := by unfold codesAt; rw [x0_pt, x1_pt, x2_pt, x3_pt, x4_pt, x5_pt]
end At

/-- An array of statistics, its value for row `r` of step `n` at place `32 n + r`. -/
def stat (f : ℕ → FVec Ideal S32x1 .f32) : Vec Ideal S2x2048 .f32 :=
  fun y => f ((2048 * (y 0).val + (y 1).val) / 32) (ix2 ⟨(y 1).val % 32, Nat.mod_lt _ (by decide)⟩ 0)
/-- The array of statistics after `n` steps: zero where no step has been. -/
def statUpto (f : ℕ → FVec Ideal S32x1 .f32) (n : ℕ) : Vec Ideal S2x2048 .f32 :=
  fun y => if (2048 * (y 0).val + (y 1).val) / 32 < n then stat f y else 0

/-- A step's statistics stored over those before. -/
theorem stored_upto (f : ℕ → FVec Ideal S32x1 .f32) (n : ℕ) : stored n (f n) (statUpto f n) = statUpto f (n + 1) := by
  funext y
  unfold stored statUpto stat
  by_cases h : (2048 * (y 0).val + (y 1).val) / 32 = n
  · rw [if_pos h, if_pos (by omega), h]
  · rw [if_neg h]
    by_cases h' : (2048 * (y 0).val + (y 1).val) / 32 < n
    · rw [if_pos h', if_pos (by omega)]
    · rw [if_neg h', if_neg (by omega)]

/-- Before any step the statistics are zero. -/
theorem statUpto_zero (f : ℕ → FVec Ideal S32x1 .f32) : statUpto f 0 = fun _ => 0 := by
  funext y; unfold statUpto; rw [if_neg (Nat.not_lt_zero _)]

/-- After all steps the statistics are whole. -/
theorem statUpto_all (f : ℕ → FVec Ideal S32x1 .f32) : statUpto f 128 = stat f := by
  funext y
  unfold statUpto
  have h0 : (y 0).val < 2 := (y 0).isLt
  have h1 : (y 1).val < 2048 := (y 1).isLt
  rw [if_pos (by omega)]

/-- The rows of mask words kept before step `n`: those of the steps of `n`'s group of eight before it. -/
def kept (c : Dev nD) (n : ℕ) (s : Vec Ideal S8x18432 .i32) : Prop :=
  ∀ y : S8x18432.Idx, (y 0).val < n % 8 → s y = maskWord (x3 m c (n - n % 8 + (y 0).val)) (y 1)

/-- A step keeps the words of the steps before and adds its own. -/
theorem kept_step (c : Dev nD) (n : ℕ) (s : Vec Ideal S8x18432 .i32) (h : kept m c n s) : kept m c (n + 1) (stepWords (x3 m c n) n s) := by
  intro y hy
  unfold stepWords
  by_cases hr : (y 0).val = n % 8
  · rw [if_pos hr]
    congr 2
    omega
  · rw [if_neg hr, h y (by omega)]
    congr 2
    omega

/-- After the eighth step of a group the scratch holds the group's words. -/
theorem kept_full (c : Dev nD) (n : ℕ) (hn : n % 8 = 7) (s : Vec Ideal S8x18432 .i32) (h : kept m c n s) :
    stepWords (x3 m c n) n s = wordsOf m c (n / 8) := by
  funext y
  have hy : (y 0).val < 8 := (y 0).isLt
  unfold stepWords wordsOf
  by_cases hr : (y 0).val = n % 8
  · rw [if_pos hr]
    congr 2
    omega
  · rw [if_neg hr, h y (by omega)]
    congr 2
    omega

/-! ## The pipeline's proof data -/

/-- The proof data of the one pipeline on core `c`: after step `t` each input's buffer at its block, the codes and `h` at
    the step's, the statistics at those of the steps so far, the mask at the bytes of its eight steps' words; between steps
    the kernel's own scratch holds the mask words of the steps since the last multiple of eight. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => codesAt m c t.val
    | ⟨7, _⟩ => statUpto (scaleAt m c) (t.val + 1)
    | ⟨8, _⟩ => k0_pay97 (F := Ideal) (wordsOf m c (t.val / 8))
    | ⟨9, _⟩ => statUpto (meanAt m c) (t.val + 1)
    | ⟨10, _⟩ => statUpto (rstdAt m c) (t.val + 1)
    | ⟨11, _⟩ => hiddenAt m c t.val
  Φ t := iprop(iprop((∃ d, owns (c : Thread nD τ) scM0_0 fullShare d) ∗ (∃ d, ⌜kept m c t.val d⌝ ∗ owns (c : Thread nD τ) scM0_1 fullShare d)) ∗ (∃ r, prngReg c r))
  q _ := fullShare
  owed _ := 0

/-- The arrays are the ones the region is entered with. -/
theorem A_eq (c : Dev nD) (w : Fin cfg0.W) : (dats m 0 c).A w = V m c (Pipeline.arrRef spec0 w) := by
  dsimp only [dats]

/-- After a step an input's staging buffer holds its block, an output's what is computed up to the step. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = codesAt m c t.val := by dsimp only [dats]
theorem after0_7 (c : Dev nD) (t : Fin cfg0.N) : (dats m 0 c).after 7 t = statUpto (scaleAt m c) (t.val + 1) := by dsimp only [dats]
theorem after0_8 (c : Dev nD) (t : Fin cfg0.N) : (dats m 0 c).after 8 t = k0_pay97 (F := Ideal) (wordsOf m c (t.val / 8)) := by dsimp only [dats]
theorem after0_9 (c : Dev nD) (t : Fin cfg0.N) : (dats m 0 c).after 9 t = statUpto (meanAt m c) (t.val + 1) := by dsimp only [dats]
theorem after0_10 (c : Dev nD) (t : Fin cfg0.N) : (dats m 0 c).after 10 t = statUpto (rstdAt m c) (t.val + 1) := by dsimp only [dats]
theorem after0_11 (c : Dev nD) (t : Fin cfg0.N) : (dats m 0 c).after 11 t = hiddenAt m c t.val := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The coordinate of a point is its number. -/
theorem coords_val (t : Fin cfg0.N) : (grid0.coords t 0).val = t.val := (by decide +kernel : ∀ t : Fin grid0.N, (grid0.coords t 0).val = t.val) t

/-- The statistics the body finds: none at the first step, those of the steps before at a later one. -/
theorem found0_7 (c : Dev nD) (t : Fin cfg0.N) (d) : fresh (grid0.coords t) ((dats m 0 c).before 7 t d) = statUpto (scaleAt m c) t.val := by
  unfold fresh
  rw [coords_val]
  by_cases h : t.val = 0
  · rw [if_pos h, h, statUpto_zero]
  · rw [if_neg h, (dats m 0 c).before_out_kept 7 rfl t h (by
      have ht : t.val < 128 := t.isLt
      refine Bool.eq_false_iff.mpr fun hf => ?_
      have := (flush0_7 _).mp hf
      dsimp only at this
      omega) (fun _ => rfl) (fun _ _ => rfl), after0_7]
    dsimp only
    rw [show t.val - 1 + 1 = t.val by omega]
/-- The means the body finds. -/
theorem found0_9 (c : Dev nD) (t : Fin cfg0.N) (d) : fresh (grid0.coords t) ((dats m 0 c).before 9 t d) = statUpto (meanAt m c) t.val := by
  unfold fresh
  rw [coords_val]
  by_cases h : t.val = 0
  · rw [if_pos h, h, statUpto_zero]
  · rw [if_neg h, (dats m 0 c).before_out_kept 9 rfl t h (by
      have ht : t.val < 128 := t.isLt
      refine Bool.eq_false_iff.mpr fun hf => ?_
      have := (flush0_9 _).mp hf
      dsimp only at this
      omega) (fun _ => rfl) (fun _ _ => rfl), after0_9]
    dsimp only
    rw [show t.val - 1 + 1 = t.val by omega]
/-- The reciprocal standard deviations the body finds. -/
theorem found0_10 (c : Dev nD) (t : Fin cfg0.N) (d) : fresh (grid0.coords t) ((dats m 0 c).before 10 t d) = statUpto (rstdAt m c) t.val := by
  unfold fresh
  rw [coords_val]
  by_cases h : t.val = 0
  · rw [if_pos h, h, statUpto_zero]
  · rw [if_neg h, (dats m 0 c).before_out_kept 10 rfl t h (by
      have ht : t.val < 128 := t.isLt
      refine Bool.eq_false_iff.mpr fun hf => ?_
      have := (flush0_10 _).mp hf
      dsimp only at this
      omega) (fun _ => rfl) (fun _ _ => rfl), after0_10]
    dsimp only
    rw [show t.val - 1 + 1 = t.val by omega]

/-- The branch that writes the mask is taken at the eighth step of a group. -/
theorem last_iff (t : Fin cfg0.N) : cond0_0 (grid0.coords t) ↔ t.val % 8 = 7 :=
  (by decide +kernel : ∀ t : Fin grid0.N, k0_cond1 (grid0.coords t) = 1#1 ↔ t.val % 8 = 7) t
/-- The mask's window is idle at the other steps. -/
theorem idle_true (t : Fin cfg0.N) (h : ¬ t.val % 8 = 7) : cfg0.idle 8 (grid0.coords t) = true :=
  (by decide +kernel : ∀ t : Fin grid0.N, ¬ t.val % 8 = 7 → (!(k0_cond1 (grid0.coords t) == 1#1)) = true) t h
/-- The mask's window is not idle at the eighth step of a group. -/
theorem idle_false (t : Fin cfg0.N) (h : t.val % 8 = 7) : cfg0.idle 8 (grid0.coords t) = false :=
  (by decide +kernel : ∀ t : Fin grid0.N, t.val % 8 = 7 → (!(k0_cond1 (grid0.coords t) == 1#1)) = false) t h
/-- The mask's block is not written back at the other steps. -/
theorem flush_false (t : Fin cfg0.N) (h : ¬ t.val % 8 = 7) : (cfg0.win 8).flush t = false :=
  Bool.eq_false_iff.mpr fun hf => h ((flush0_8 t).mp hf)

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

/-- The mask's buffer after the body: written at the last step of a group of eight, handed back as found at the others. -/
theorem leaves8 (c : Dev nD) (t : Fin cfg0.N) (d) :
    owns (c : Thread nD τ) (ms0_8 t) fullShare (if cond0_0 (grid0.coords t) then k0_pay97 (F := Ideal) (wordsOf m c (t.val / 8)) else (dats m 0 c).before 8 t d)
      ⊢ ((dats m 0 c).leavesExact 8 t : sProp 𝕄) := by
  unfold Dat.leavesExact
  by_cases h : t.val % 8 = 7
  · rw [if_pos ((last_iff t).mpr h), idle_false t h, after0_8]
  · rw [if_neg (fun h' => h ((last_iff t).mp h')), idle_true t h]
    dsimp only
    rw [flush_false t h]
    dsimp only
    iintro H
    iexists d
    iexact H

set_option maxHeartbeats 3600000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = iprop(iprop((∃ d, owns (c : Thread nD τ) scM0_0 fullShare d) ∗ (∃ d, ⌜kept m c (t.val + 1) d⌝ ∗ owns (c : Thread nD τ) scM0_1 fullShare d)) ∗ (∃ r, prngReg c r)) from rfl]
  rw [show (dats m 0 c).Φ t.castSucc = iprop(iprop((∃ d, owns (c : Thread nD τ) scM0_0 fullShare d) ∗ (∃ d, ⌜kept m c t.val d⌝ ∗ owns (c : Thread nD τ) scM0_1 fullShare d)) ∗ (∃ r, prngReg c r)) from rfl]
  rw [show (dats m 0 c).leavesExact 0 t = owns (c : Thread nD τ) (ms0_0 t) fullShare ((dats m 0 c).after 0 t) from by unfold Dat.leavesExact; rw [liveAt0_0 t], after0_0]
  rw [show (dats m 0 c).leavesExact 1 t = owns (c : Thread nD τ) (ms0_1 t) fullShare ((dats m 0 c).after 1 t) from by unfold Dat.leavesExact; rw [liveAt0_1 t], after0_1]
  rw [show (dats m 0 c).leavesExact 2 t = owns (c : Thread nD τ) (ms0_2 t) fullShare ((dats m 0 c).after 2 t) from by unfold Dat.leavesExact; rw [liveAt0_2 t], after0_2]
  rw [show (dats m 0 c).leavesExact 3 t = owns (c : Thread nD τ) (ms0_3 t) fullShare ((dats m 0 c).after 3 t) from by unfold Dat.leavesExact; rw [liveAt0_3 t], after0_3]
  rw [show (dats m 0 c).leavesExact 4 t = owns (c : Thread nD τ) (ms0_4 t) fullShare ((dats m 0 c).after 4 t) from by unfold Dat.leavesExact; rw [liveAt0_4 t], after0_4]
  rw [show (dats m 0 c).leavesExact 5 t = owns (c : Thread nD τ) (ms0_5 t) fullShare ((dats m 0 c).after 5 t) from by unfold Dat.leavesExact; rw [liveAt0_5 t], after0_5]
  rw [show (dats m 0 c).leavesExact 6 t = owns (c : Thread nD τ) (ms0_6 t) fullShare ((dats m 0 c).after 6 t) from by unfold Dat.leavesExact; rw [show cfg0.idle 6 (grid0.coords t) = false from rfl], after0_6]
  rw [show (dats m 0 c).leavesExact 7 t = owns (c : Thread nD τ) (ms0_7 t) fullShare ((dats m 0 c).after 7 t) from by unfold Dat.leavesExact; rw [show cfg0.idle 7 (grid0.coords t) = false from rfl], after0_7]
  rw [show (dats m 0 c).leavesExact 9 t = owns (c : Thread nD τ) (ms0_9 t) fullShare ((dats m 0 c).after 9 t) from by unfold Dat.leavesExact; rw [show cfg0.idle 9 (grid0.coords t) = false from rfl], after0_9]
  rw [show (dats m 0 c).leavesExact 10 t = owns (c : Thread nD τ) (ms0_10 t) fullShare ((dats m 0 c).after 10 t) from by unfold Dat.leavesExact; rw [show cfg0.idle 10 (grid0.coords t) = false from rfl], after0_10]
  rw [show (dats m 0 c).leavesExact 11 t = owns (c : Thread nD τ) (ms0_11 t) fullShare ((dats m 0 c).after 11 t) from by unfold Dat.leavesExact; rw [show cfg0.idle 11 (grid0.coords t) = false from rfl], after0_11]
  iintro ⟨⟨⟨HS0, ⟨%s1, %hs1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have hp := pt_val t
  have hv := coords_val t
  iapply ((body_value c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t)
    ((dats m 0 c).before 7 t d7) ((dats m 0 c).before 8 t d8) ((dats m 0 c).before 9 t d9) ((dats m 0 c).before 10 t d10) s1) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  isplitl [H9]; · iexact H9
  isplitl [H10]; · iexact H10
  isplitl [H11]; · iexists _; iexact H11
  isplitl [HS0]; · iexact HS0
  isplitl [HS1]; · iexact HS1
  rw [hv, found0_7, found0_9, found0_10]
  rw [← scaleAt_pt, ← meanAt_pt, ← rstdAt_pt, ← codesAt_pt, ← hiddenAt_pt, stored_upto, stored_upto, stored_upto]
  have hw : kept m c (t.val + 1) (stepWords (iblk m c 3 t) t.val s1) := by
    have := kept_step m c t.val s1 hs1
    rwa [x3_pt] at this
  have h8 : (if cond0_0 (grid0.coords t) then k0_pay97 (F := Ideal) (stepWords (iblk m c 3 t) t.val s1) else (dats m 0 c).before 8 t d8)
      = if cond0_0 (grid0.coords t) then k0_pay97 (F := Ideal) (wordsOf m c (t.val / 8)) else (dats m 0 c).before 8 t d8 := by
    by_cases h : cond0_0 (grid0.coords t)
    · rw [if_pos h, if_pos h]
      have := kept_full m c t.val ((last_iff t).mp h) s1 hs1
      rw [x3_pt] at this
      rw [this]
    · rw [if_neg h, if_neg h]
  rw [h8]
  iintro ⟨H0, H1, H2, H3, H4, H5, H6, H7, H8, H9, H10, H11, HS0, HS1⟩
  isplitl [HS0 HS1 Hg]
  · isplitl [HS0 HS1]
    · isplitl [HS0]
      · iexact HS0
      iexists _; isplitr; · ipureintro; exact hw
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (leaves8 m c t d8); iexact H8
  isplitl [H9]; · iexact H9
  isplitl [H10]; · iexact H10
  iexact H11

/-- The body meets its obligation at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run -/

/-- Before any step nothing is asked of the scratch of words. -/
theorem kept_zero (c : Dev nD) (s : Vec Ideal S8x18432 .i32) : kept m c 0 s := fun y hy => absurd hy (Nat.not_lt_zero _)

/-- What the region is entered with gives what holds before the first step. -/
theorem enter (c : Dev nD) : (Pipeline.ΦA spec0 c : sProp 𝕄) ⊢ (dats m 0 c).Φ 0 := by
  rw [show (dats m 0 c).Φ 0 = iprop(iprop((∃ d, owns (c : Thread nD τ) scM0_0 fullShare d) ∗ (∃ d, ⌜kept m c 0 d⌝ ∗ owns (c : Thread nD τ) scM0_1 fullShare d)) ∗ (∃ r, prngReg c r)) from rfl, PhiA0_eq]
  iintro ⟨⟨HS0, ⟨%d, HS1⟩⟩, Hg⟩
  isplitl [HS0 HS1]
  · isplitl [HS0]; · iexact HS0
    iexists d; isplitr; · ipureintro; exact kept_zero m c d
    iexact HS1
  iexact Hg

/-- What holds after the last step gives what the region is left with. -/
theorem leave (c : Dev nD) : (dats m 0 c).Φ (Fin.last cfg0.N) ⊢ (Pipeline.ΦA spec0 c : sProp 𝕄) := by
  rw [show (dats m 0 c).Φ (Fin.last cfg0.N) = iprop(iprop((∃ d, owns (c : Thread nD τ) scM0_0 fullShare d) ∗ (∃ d, ⌜kept m c 128 d⌝ ∗ owns (c : Thread nD τ) scM0_1 fullShare d)) ∗ (∃ r, prngReg c r)) from rfl, PhiA0_eq]
  iintro ⟨⟨HS0, ⟨%d, -, HS1⟩⟩, Hg⟩
  isplitl [HS0 HS1]
  · isplitl [HS0]; · iexact HS0
    iexists d; iexact HS1
  iexact Hg

set_option backward.isDefEq.respectTransparency.types false in
set_option maxHeartbeats 800000 in
/-- The run: every array of the pipeline ends at what the steps left in it, every other buffer at what the host lines leave. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := enter m) (hout := leave m)

end Cert.KernelIdeal.Value

end
-- ==== Proof.KernelIdeal.Arrays.lean ====
/- The arrays the kernel leaves, as functions of an index: each from what its staging buffers held when they were written
   back. -/
module

public import proofs.«01_k».proof.Proof.KernelIdeal.ValueRun
public import Idealize.ShloMosaic.Lib.Pipeline.ValueKit
public import Idealize.ShloMosaic.Lib.Claim

@[expose] public section

set_option maxRecDepth 16384

noncomputable section

namespace Cert.KernelIdeal.Value

open Cert.KernelIdeal Cert.KernelIdeal.Gen Cert.KernelIdeal.Run Cert.Tile
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ)

/-- The last step. -/
abbrev lastPt : Fin cfg0.N := ⟨127, by decide⟩

/-- The block each window is at in step `t`. -/
theorem index_facts : ∀ t : Fin grid0.N,
    win0_0.index t = ![t.val, 0] ∧ win0_1.index t = ![t.val, 0] ∧ win0_2.index t = ![0, 0] ∧ win0_3.index t = ![t.val, 0]
      ∧ win0_4.index t = ![0, 0] ∧ win0_5.index t = ![0, 0] ∧ win0_6.index t = ![t.val, 0] ∧ win0_7.index t = ![0, 0]
      ∧ win0_8.index t = ![t.val / 8, 0] ∧ win0_9.index t = ![0, 0] ∧ win0_10.index t = ![0, 0] ∧ win0_11.index t = ![t.val, 0] := by
  decide +kernel

/-- The arrays of statistics. -/
theorem scale_array (c : Dev nD) : (dats m 0 c).arrAt 7 cfg0.N = stat (scaleAt m c) := by
  refine (dats m 0 c).arrAt_eq_of_after_last 7 lastPt (by decide +kernel) _ fun j => ?_
  blk_simp
  rw [after0_7, statUpto_all]
/-- The array of means, over all steps. -/
theorem mean_array (c : Dev nD) : (dats m 0 c).arrAt 9 cfg0.N = stat (meanAt m c) := by
  refine (dats m 0 c).arrAt_eq_of_after_last 9 lastPt (by decide +kernel) _ fun j => ?_
  blk_simp
  rw [after0_9, statUpto_all]
/-- The array of reciprocal standard deviations, over all steps. -/
theorem rstd_array (c : Dev nD) : (dats m 0 c).arrAt 10 cfg0.N = stat (rstdAt m c) := by
  refine (dats m 0 c).arrAt_eq_of_after_last 10 lastPt (by decide +kernel) _ fun j => ?_
  blk_simp
  rw [after0_10, statUpto_all]

/-- An array of rows, its row `32 n + r` row `r` of what step `n` computes. -/
def rows {e : EltTy} {R : ℕ} (f : ℕ → Vec Ideal ⟨2, ![32, 18432]⟩ e) : Vec Ideal ⟨2, ![R, 18432]⟩ e :=
  fun y => f ((y 0).val / 32) (ix2 ⟨(y 0).val % 32, Nat.mod_lt _ (by decide)⟩ (y 1))

/-- Row `32 n + r` of an array of rows is row `r` of step `n`. -/
theorem rows_at {e : EltTy} {R : ℕ} (f : ℕ → Vec Ideal ⟨2, ![32, 18432]⟩ e) (i : (⟨2, ![R, 18432]⟩ : Shape).Idx) (n : ℕ)
    (j : (⟨2, ![32, 18432]⟩ : Shape).Idx) (h0 : (i 0).val = n * 32 + (j 0).val) (h1 : (i 1).val = (j 1).val) :
    rows f i = f n j := by
  have hj : (j 0).val < 32 := (j 0).isLt
  have hn : (i 0).val / 32 = n := by omega
  have hr : (i 0).val % 32 = (j 0).val := by omega
  unfold rows
  rw [hn]
  congr 1
  funext a
  fin_cases a
  · exact Fin.ext hr
  · exact Fin.ext h1

/-- The codes. -/
theorem codes_array (c : Dev nD) : (dats m 0 c).arrAt 6 cfg0.N = rows (R := 4096) (codesAt m c) := by
  refine (dats m 0 c).arrAt_eq_of_covers 6 _ (by decide +kernel) fun t hf y => ?_
  have e := (index_facts t).2.2.2.2.2.2.1
  blk_simp
  rw [after0_6]
  refine (rows_at _ _ t.val y ?_ ?_).symm
  · blk_simp [e]
  · blk_simp [e]

/-- The hidden rows. -/
theorem hidden_array (c : Dev nD) : (dats m 0 c).arrAt 11 cfg0.N = rows (R := 4096) (hiddenAt m c) := by
  refine (dats m 0 c).arrAt_eq_of_covers 11 _ (by decide +kernel) fun t hf y => ?_
  have e := (index_facts t).2.2.2.2.2.2.2.2.2.2.2
  blk_simp
  rw [after0_11]
  refine (rows_at _ _ t.val y ?_ ?_).symm
  · blk_simp [e]
  · blk_simp [e]

/-- The packed masks: rows `32 n ..` are the bytes of the words of the eight steps `8 n ..`. -/
theorem mask_array (c : Dev nD) : (dats m 0 c).arrAt 8 cfg0.N = rows (e := .i8) (R := 512) fun n => k0_pay97 (wordsOf m c n) := by
  refine (dats m 0 c).arrAt_eq_of_covers 8 _ (by decide +kernel) fun t hf y => ?_
  have e := (index_facts t).2.2.2.2.2.2.2.2.1
  blk_simp
  rw [after0_8]
  refine (rows_at (e := .i8) (fun n => k0_pay97 (wordsOf m c n)) _ (t.val / 8) y ?_ ?_).symm
  · blk_simp [e]
  · blk_simp [e]

/-- The flattened argument at row `i` is the argument at batch `i / 2048`, token `i mod 2048`. -/
theorem reshaped {e : EltTy} (x : Vec Ideal S2x2048x18432 e) (i : Fin 4096) (k : Fin 18432) :
    shapeCast S4096x18432 x shapeCasts_S2x2048x18432_S4096x18432 (ix2 i k)
      = x (ix3 (⟨i.val / 2048, by omega⟩ : Fin 2) (⟨i.val % 2048, by omega⟩ : Fin 2048) k) := by
  refine shapeCast_apply _ _ _ _ ?_
  refine (Shape.rowMajor_val_three _).trans ((?_ : _ = _).trans (Shape.rowMajor_val_two _).symm)
  show (i.val / 2048 * 2048 + i.val % 2048) * 18432 + k.val = i.val * 18432 + k.val
  have := Nat.div_add_mod i.val 2048
  omega
/-- A vector given a leading axis of size one, at a column. -/
theorem widened (x : Vec Ideal S18432 .f32) (k : Fin 18432) :
    shapeCast S1x18432 x shapeCasts_S18432_S1x18432 (ix2 0 k) = x (ix1 k) := by
  refine shapeCast_apply _ _ _ _ ?_
  refine (Shape.rowMajor_val_one _).trans ((?_ : _ = _).trans (Shape.rowMajor_val_two _).symm)
  show k.val = 0 * 18432 + k.val
  omega
/-- An array of 4096 rows in the shape of the argument, at a token. -/
theorem token_reshaped {e : EltTy} (f : ℕ → Vec Ideal ⟨2, ![32, 18432]⟩ e) (b : Fin 2) (s : Fin 2048) (k : Fin 18432) :
    shapeCast S2x2048x18432 (rows (R := 4096) f) shapeCasts_S4096x18432_S2x2048x18432 (ix3 b s k)
      = f ((2048 * b.val + s.val) / 32) (ix2 ⟨(2048 * b.val + s.val) % 32, Nat.mod_lt _ (by decide)⟩ k) := by
  have hb := b.isLt
  have hs := s.isLt
  refine (shapeCast_apply _ _ _ (ix2 (⟨2048 * b.val + s.val, by omega⟩ : Fin 4096) k) ?_).trans rfl
  refine (Shape.rowMajor_val_two _).trans ((?_ : _ = _).trans (Shape.rowMajor_val_three _).symm)
  show (2048 * b.val + s.val) * 18432 + k.val = (b.val * 2048 + s.val) * 18432 + k.val
  omega
/-- An array of 512 rows in the shape of the packed mask, at a group of eight tokens. -/
theorem group_reshaped {e : EltTy} (f : ℕ → Vec Ideal ⟨2, ![32, 18432]⟩ e) (b : Fin 2) (s : Fin 256) (k : Fin 18432) :
    shapeCast S2x256x18432 (rows (R := 512) f) shapeCasts_S512x18432_S2x256x18432 (ix3 b s k)
      = f ((256 * b.val + s.val) / 32) (ix2 ⟨(256 * b.val + s.val) % 32, Nat.mod_lt _ (by decide)⟩ k) := by
  have hb := b.isLt
  have hs := s.isLt
  refine (shapeCast_apply _ _ _ (ix2 (⟨256 * b.val + s.val, by omega⟩ : Fin 512) k) ?_).trans rfl
  refine (Shape.rowMajor_val_two _).trans ((?_ : _ = _).trans (Shape.rowMajor_val_three _).symm)
  show (256 * b.val + s.val) * 18432 + k.val = (b.val * 256 + s.val) * 18432 + k.val
  omega

/-! ## What a step reads -/

section Reads

/-- The batch and the token from the flat row number. -/
theorem token_index {α : Type} (x : S2x2048x18432.Idx → α) {i : ℕ} {h0 : i / 2048 < 2} {h1 : i % 2048 < 2048} (b : Fin 2) (s : Fin 2048)
    (k : Fin 18432) (h : i = 2048 * b.val + s.val) : x (ix3 (⟨i / 2048, h0⟩ : Fin 2) (⟨i % 2048, h1⟩ : Fin 2048) k) = x (ix3 b s k) := by
  have hs := s.isLt
  have e0 : (⟨i / 2048, h0⟩ : Fin 2) = b := Fin.ext (by show i / 2048 = b.val; omega)
  have e1 : (⟨i % 2048, h1⟩ : Fin 2048) = s := Fin.ext (by show i % 2048 = s.val; omega)
  rw [e0, e1]

variable (c : Dev nD) (n : ℕ) (r : Fin 32) (b : Fin 2) (s : Fin 2048) (hbs : 32 * n + r.val = 2048 * b.val + s.val) (k : Fin 18432)
include hbs

/-- What step `n` reads of the residual stream: its rows of the argument. -/
theorem x0_read : x0 m c n (ix2 r k) = m ((c : Thread nD τ).loc main_arg0) (ix3 b s k) := by
  have hr := r.isLt
  have hb := b.isLt
  have hs := s.isLt
  have h : n < 128 := by omega
  have hi : 32 * n + r.val < 4096 := by omega
  have hp : (pt n).val = n := Nat.mod_eq_of_lt h
  have e := (index_facts (pt n)).1
  rw [hp] at e
  have a : x0 m c n (ix2 r k) = V m c main_v0 (ix2 (⟨32 * n + r.val, hi⟩ : Fin 4096) k) := by
    unfold x0
    blk_ext [iblk, V, e]
  refine a.trans ((reshaped (e := .bf16) (m ((c : Thread nD τ).loc main_arg0)) _ k).trans ?_)
  exact token_index _ b s k hbs
/-- What step `n` reads of the activation. -/
theorem x1_read : x1 m c n (ix2 r k) = m ((c : Thread nD τ).loc main_arg1) (ix3 b s k) := by
  have hr := r.isLt
  have hb := b.isLt
  have hs := s.isLt
  have h : n < 128 := by omega
  have hi : 32 * n + r.val < 4096 := by omega
  have hp : (pt n).val = n := Nat.mod_eq_of_lt h
  have e := (index_facts (pt n)).2.1
  rw [hp] at e
  have a : x1 m c n (ix2 r k) = V m c main_v1 (ix2 (⟨32 * n + r.val, hi⟩ : Fin 4096) k) := by
    unfold x1
    blk_ext [iblk, V, e]
  refine a.trans ((reshaped (e := .bf16) (m ((c : Thread nD τ).loc main_arg1)) _ k).trans ?_)
  exact token_index _ b s k hbs
/-- What step `n` reads of the random words. -/
theorem x3_read : x3 m c n (ix2 r k) = m ((c : Thread nD τ).loc main_arg3) (ix3 b s k) := by
  have hr := r.isLt
  have hb := b.isLt
  have hs := s.isLt
  have h : n < 128 := by omega
  have hi : 32 * n + r.val < 4096 := by omega
  have hp : (pt n).val = n := Nat.mod_eq_of_lt h
  have e := (index_facts (pt n)).2.2.2.1
  rw [hp] at e
  have a : x3 m c n (ix2 r k) = V m c main_v2 (ix2 (⟨32 * n + r.val, hi⟩ : Fin 4096) k) := by
    unfold x3
    blk_ext [iblk, V, e]
  refine a.trans ((reshaped (e := .i32) (m ((c : Thread nD τ).loc main_arg3)) _ k).trans ?_)
  exact token_index _ b s k hbs
omit hbs
/-- What a step reads of the bias: all of it. -/
theorem x2_read : x2 m c n (ix2 0 k) = m ((c : Thread nD τ).loc main_arg2) (ix1 k) := by
  have e := (index_facts (pt n)).2.2.1
  have a : x2 m c n (ix2 0 k) = V m c main_v3 (ix2 0 k) := by
    unfold x2
    blk_ext [iblk, V, e]
  exact a.trans (widened (m ((c : Thread nD τ).loc main_arg2)) k)
/-- What a step reads of the gains: all of them. -/
theorem x4_read : x4 m c n (ix2 0 k) = m ((c : Thread nD τ).loc main_arg4) (ix1 k) := by
  have e := (index_facts (pt n)).2.2.2.2.1
  have a : x4 m c n (ix2 0 k) = V m c main_v4 (ix2 0 k) := by
    unfold x4
    blk_ext [iblk, V, e]
  exact a.trans (widened (m ((c : Thread nD τ).loc main_arg4)) k)
/-- What a step reads of the offsets: all of them. -/
theorem x5_read : x5 m c n (ix2 0 k) = m ((c : Thread nD τ).loc main_arg5) (ix1 k) := by
  have e := (index_facts (pt n)).2.2.2.2.2.1
  have a : x5 m c n (ix2 0 k) = V m c main_v5 (ix2 0 k) := by
    unfold x5
    blk_ext [iblk, V, e]
  exact a.trans (widened (m ((c : Thread nD τ).loc main_arg5)) k)

end Reads

/-! ## The run -/

/-- The codes after the last host line: the rows reshaped. -/
theorem tail_v7 (c : Dev nD) : Pipeline.afterTail₀ cfgs (dats m) 0 (V0 m) [hostOps1] c main_v7 =
    shapeCast S2x2048x18432 (rows (R := 4096) (codesAt m c)) shapeCasts_S4096x18432_S2x2048x18432 := by
  have h : ∀ W : Valuation τ sig (Elt Ideal), StableHlo.after (List.flatten [hostOps1]) W (Proc.devRef .tc main_v7) =
     shapeCast S2x2048x18432 (W (Proc.devRef .tc main_v6_0)) shapeCasts_S4096x18432_S2x2048x18432 := fun W => rfl
  unfold Pipeline.afterTail₀
  rw [h]
  have h' := (Pipeline.withArrays_arr spec0 (by decide) c (V0 m c) (fun w => (dats m 0 c).arrAt w (cfgs 0).N) 6).trans (codes_array m c)
  exact congrArg (fun v => shapeCast S2x2048x18432 v shapeCasts_S4096x18432_S2x2048x18432) h'
/-- The masks after the last host line: the rows reshaped. -/
theorem tail_v8 (c : Dev nD) : Pipeline.afterTail₀ cfgs (dats m) 0 (V0 m) [hostOps1] c main_v8 =
    shapeCast S2x256x18432 (rows (e := .i8) (R := 512) fun n => k0_pay97 (wordsOf m c n)) shapeCasts_S512x18432_S2x256x18432 := by
  have h : ∀ W : Valuation τ sig (Elt Ideal), StableHlo.after (List.flatten [hostOps1]) W (Proc.devRef .tc main_v8) =
     shapeCast S2x256x18432 (W (Proc.devRef .tc main_v6_2)) shapeCasts_S512x18432_S2x256x18432 := fun W => rfl
  unfold Pipeline.afterTail₀
  rw [h]
  have h' := (Pipeline.withArrays_arr spec0 (by decide) c (V0 m c) (fun w => (dats m 0 c).arrAt w (cfgs 0).N) 8).trans (mask_array m c)
  exact congrArg (fun v => shapeCast S2x256x18432 v shapeCasts_S512x18432_S2x256x18432) h'
/-- The hidden rows after the last host line: the rows reshaped. -/
theorem tail_v9 (c : Dev nD) : Pipeline.afterTail₀ cfgs (dats m) 0 (V0 m) [hostOps1] c main_v9 =
    shapeCast S2x2048x18432 (rows (R := 4096) (hiddenAt m c)) shapeCasts_S4096x18432_S2x2048x18432 := by
  have h : ∀ W : Valuation τ sig (Elt Ideal), StableHlo.after (List.flatten [hostOps1]) W (Proc.devRef .tc main_v9) =
     shapeCast S2x2048x18432 (W (Proc.devRef .tc main_v6_5)) shapeCasts_S4096x18432_S2x2048x18432 := fun W => rfl
  unfold Pipeline.afterTail₀
  rw [h]
  have h' := (Pipeline.withArrays_arr spec0 (by decide) c (V0 m c) (fun w => (dats m 0 c).arrAt w (cfgs 0).N) 11).trans (hidden_array m c)
  exact congrArg (fun v => shapeCast S2x2048x18432 v shapeCasts_S4096x18432_S2x2048x18432) h'

/-- What the kernel leaves, from any memory: its six results, the arguments as they were. -/
theorem run (g : Dev nD → PrngReg) : θ_run defs (onTc (τ := τ) (main (F := Ideal))) ⟨m, fun _ => 0, g⟩ fun r => ∀ c : Dev nD,
      r.2.mem ((c : Thread nD τ).loc main_v7)
          = shapeCast S2x2048x18432 (rows (R := 4096) (codesAt m c)) shapeCasts_S4096x18432_S2x2048x18432
      ∧ r.2.mem ((c : Thread nD τ).loc main_v6_1) = stat (scaleAt m c)
      ∧ r.2.mem ((c : Thread nD τ).loc main_v8)
          = shapeCast S2x256x18432 (rows (e := .i8) (R := 512) fun n => k0_pay97 (wordsOf m c n)) shapeCasts_S512x18432_S2x256x18432
      ∧ r.2.mem ((c : Thread nD τ).loc main_v6_3) = stat (meanAt m c)
      ∧ r.2.mem ((c : Thread nD τ).loc main_v6_4) = stat (rstdAt m c)
      ∧ r.2.mem ((c : Thread nD τ).loc main_v9)
          = shapeCast S2x2048x18432 (rows (R := 4096) (hiddenAt m c)) shapeCasts_S4096x18432_S2x2048x18432
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  run_from (run_main m g)
  · exact tail_v7 m c
  · exact scale_array m c
  · exact tail_v8 m c
  · exact mean_array m c
  · exact rstd_array m c
  · exact tail_v9 m c
  · exact W_main_arg0 m (dats m) c
  · exact W_main_arg1 m (dats m) c
  · exact W_main_arg2 m (dats m) c
  · exact W_main_arg3 m (dats m) c
  · exact W_main_arg4 m (dats m) c
  · exact W_main_arg5 m (dats m) c

end Cert.KernelIdeal.Value
end
-- ==== Proof.KernelIdeal.Scale.lean ====
/- The scale the kernel picks by comparing with powers of two: what the search finds, and that it is the least power of two
   above the bound. -/
module

public import proofs.«01_k».proof.Proof.KernelIdeal.Step

@[expose] public section

set_option maxRecDepth 16384

noncomputable section

namespace Cert.KernelIdeal.Run

open Cert.KernelIdeal Cert.KernelIdeal.Gen
open Idealize.ShloMosaic

/-- The number whose exponent field is `n` and whose other bits are zero. -/
def pow2 (n : ℕ) : EReal := Ideal.ofBits .f32 (IntOp.shli .vector (BitVec.ofNat 32 n) 23#32)

/-- The number of a 32-bit pattern, by its three fields. -/
theorem ofBits_f32 (b : BitVec 32) : Ideal.ofBits .f32 b = Ideal.ieee 8 23 b := rfl

/-- The fields of the pattern of a power of two: sign zero, the exponent, mantissa zero. -/
theorem pow2_fields : ∀ n : Fin 256,
    ((IntOp.shli .vector (BitVec.ofNat 32 n.val) 23#32).extractLsb' 31 1 == 1#1) = false
      ∧ ((IntOp.shli .vector (BitVec.ofNat 32 n.val) 23#32).extractLsb' 23 8).toNat = n.val
      ∧ ((IntOp.shli .vector (BitVec.ofNat 32 n.val) 23#32).extractLsb' 0 23).toNat = 0 := by
  decide +kernel

/-- Such a pattern with an exponent from 1 to 254 is that power of two. -/
theorem ieee_mid (b : BitVec 32) (n : ℕ) (ha : (b.extractLsb' 31 1 == 1#1) = false) (hb : (b.extractLsb' 23 8).toNat = n)
    (hd : (b.extractLsb' 0 23).toNat = 0) (h1 : 1 ≤ n) (h2 : n ≤ 254) : Ideal.ieee 8 23 b = (((2 : ℝ) ^ ((n : ℤ) - 127) : ℝ) : EReal) := by
  unfold Ideal.ieee
  simp only [ha, hb, hd]
  rw [if_neg (by omega), if_neg (by omega)]
  congr 1
  rw [if_neg Bool.false_ne_true, one_mul]
  have : ((2 ^ 23 + 0 : ℕ) : ℝ) = (2 : ℝ) ^ (23 : ℤ) := by norm_num
  rw [this, ← zpow_add₀ (by norm_num)]
  congr 1
  norm_num
/-- Such a pattern with exponent 255 is infinity. -/
theorem ieee_top (b : BitVec 32) (ha : (b.extractLsb' 31 1 == 1#1) = false) (hb : (b.extractLsb' 23 8).toNat = 255)
    (hd : (b.extractLsb' 0 23).toNat = 0) : Ideal.ieee 8 23 b = ⊤ := by
  unfold Ideal.ieee
  simp only [ha, hb, hd]
  rw [if_pos (by norm_num), if_pos trivial, if_neg Bool.false_ne_true]

/-- A field strictly between the lowest and the highest is a power of two. -/
theorem pow2_mid (n : ℕ) (h1 : 1 ≤ n) (h2 : n ≤ 254) : pow2 n = (((2 : ℝ) ^ ((n : ℤ) - 127) : ℝ) : EReal) :=
  have h := pow2_fields ⟨n, by omega⟩
  (ofBits_f32 _).trans (ieee_mid _ n h.1 h.2.1 h.2.2 h1 h2)

/-- The highest field is infinity. -/
theorem pow2_top : pow2 255 = ⊤ :=
  have h := pow2_fields 255
  (ofBits_f32 _).trans (ieee_top _ h.1 h.2.1 h.2.2)

/-- Powers of two grow with the exponent. -/
theorem pow2_mono (a b : ℕ) (h1 : 1 ≤ a) (h : a ≤ b) (h2 : b ≤ 255) : pow2 a ≤ pow2 b := by
  rcases Nat.lt_or_ge b 255 with hb | hb
  · rw [pow2_mid a h1 (by omega), pow2_mid b (by omega) (by omega)]
    exact EReal.coe_le_coe_iff.mpr (zpow_le_zpow_right₀ (by norm_num) (by omega))
  · have : b = 255 := by omega
    rw [this, pow2_top]
    exact le_top

/-- Powers of two grow strictly with the exponent. -/
theorem pow2_strict (a b : ℕ) (h1 : 1 ≤ a) (h : a < b) (h2 : b ≤ 255) : pow2 a < pow2 b := by
  rw [pow2_mid a h1 (by omega)]
  rcases Nat.lt_or_ge b 255 with hb | hb
  · rw [pow2_mid b (by omega) (by omega)]
    exact EReal.coe_lt_coe_iff.mpr (zpow_lt_zpow_right₀ (by norm_num) (by omega))
  · have : b = 255 := by omega
    rw [this, pow2_top]
    exact EReal.coe_lt_top _

/-- Exponent 127 is one. -/
theorem pow2_one : pow2 127 = 1 := by
  rw [pow2_mid 127 (by omega) (by omega)]
  norm_num

/-- Where the search stands: the field found so far is zero or its number is at most `v`, and the number `w` fields above is
    beyond `v` (or beyond every field). -/
def At (v : EReal) (e w : ℕ) : Prop := e + w ≤ 256 ∧ (e = 0 ∨ pow2 e ≤ v) ∧ (v < pow2 (e + w) ∨ e + w = 256)

/-- One comparison halves the window the exponent is known to lie in. -/
theorem probe_step (v : EReal) (b d : BitVec 32) (e w : ℕ) (hb : b = BitVec.ofNat 32 e) (hd : d = BitVec.ofNat 32 w) (h : At v e (2 * w)) :
    ∃ e', probe v b d = BitVec.ofNat 32 e' ∧ At v e' w := by
  have hs : IntOp.addi b d = BitVec.ofNat 32 (e + w) := by
    rw [hb, hd]
    exact (BitVec.ofNat_add ..).symm
  obtain ⟨h1, h2, h3⟩ := h
  unfold probe
  rw [hs]
  by_cases hc : pow2 (e + w) ≤ v
  · refine ⟨e + w, if_pos hc, by omega, .inr hc, ?_⟩
    have : e + w + w = e + 2 * w := by omega
    rw [this]
    exact h3
  · exact ⟨e, (if_neg hc).trans hb, by omega, h2, .inl (not_le.mp hc)⟩

/-- What the search finds. -/
theorem field_at (v : EReal) : ∃ e : ℕ, field v = BitVec.ofNat 32 e ∧ e ≤ 255 ∧ (e = 0 ∨ pow2 e ≤ v) ∧ (e = 255 ∨ v < pow2 (e + 1)) := by
  obtain ⟨e1, p1, a1⟩ := probe_step v 0#32 128#32 0 128 rfl rfl ⟨by omega, .inl rfl, .inr rfl⟩
  obtain ⟨e2, p2, a2⟩ := probe_step v _ 64#32 e1 64 p1 rfl a1
  obtain ⟨e3, p3, a3⟩ := probe_step v _ 32#32 e2 32 p2 rfl a2
  obtain ⟨e4, p4, a4⟩ := probe_step v _ 16#32 e3 16 p3 rfl a3
  obtain ⟨e5, p5, a5⟩ := probe_step v _ 8#32 e4 8 p4 rfl a4
  obtain ⟨e6, p6, a6⟩ := probe_step v _ 4#32 e5 4 p5 rfl a5
  obtain ⟨e7, p7, a7⟩ := probe_step v _ 2#32 e6 2 p6 rfl a6
  obtain ⟨e, p, a, b, d⟩ := probe_step v _ 1#32 e7 1 p7 rfl a7
  exact ⟨e, p, by omega, b, by rcases d with d | d <;> [exact .inr d; exact .inl (by omega)]⟩

/-- The scale's pattern from each exponent the search may find. -/
theorem scale_words : ∀ e : Fin 256,
    IntOp.shli .vector (IntOp.addi 127#32 (Scalar.select (IntOp.ori (IntOp.cmpi .eq (BitVec.ofNat 32 e.val) 0#32) (IntOp.cmpi .eq (BitVec.ofNat 32 e.val) 255#32)) 0#32
        (IntOp.subi (BitVec.ofNat 32 e.val) 126#32))) 23#32
      = IntOp.shli .vector (BitVec.ofNat 32 (if e.val = 0 ∨ e.val = 255 then 127 else e.val + 1)) 23#32 := by
  decide +kernel
/-- The reciprocal scale's pattern from each exponent below 253. -/
theorem inv_words : ∀ e : Fin 253,
    IntOp.shli .vector (IntOp.subi 127#32 (Scalar.select (IntOp.ori (IntOp.cmpi .eq (BitVec.ofNat 32 e.val) 0#32) (IntOp.cmpi .eq (BitVec.ofNat 32 e.val) 255#32)) 0#32
        (IntOp.subi (BitVec.ofNat 32 e.val) 126#32))) 23#32
      = IntOp.shli .vector (BitVec.ofNat 32 (if e.val = 0 then 127 else 253 - e.val)) 23#32 := by
  decide +kernel

/-- The scale from the exponent found. -/
theorem scaleOf_field (v : EReal) (e : ℕ) (he : e ≤ 255) (hf : field v = BitVec.ofNat 32 e) :
    scaleOf v = pow2 (if e = 0 ∨ e = 255 then 127 else e + 1) := by
  unfold scaleOf scaleExp pow2
  rw [hf]
  exact congrArg _ (scale_words ⟨e, by omega⟩)
/-- The reciprocal scale from the exponent found. -/
theorem invOf_field (v : EReal) (e : ℕ) (he : e ≤ 252) (hf : field v = BitVec.ofNat 32 e) :
    invOf v = pow2 (if e = 0 then 127 else 253 - e) := by
  unfold invOf scaleExp pow2
  rw [hf]
  exact congrArg _ (inv_words ⟨e, by omega⟩)

/-- The least of the powers of two `2^-126 … 2^127` above `v`, or infinity. -/
def leastAbove (v : EReal) : EReal :=
  Finset.univ.fold min ⊤ fun x : Fin 254 => if v < pow2 (x.val + 1) then pow2 (x.val + 1) else ⊤

/-- Between two successive powers of two, the least power of two above is the upper. -/
theorem leastAbove_eq (v : EReal) (e : ℕ) (h1 : 1 ≤ e) (h2 : e ≤ 254) (hl : pow2 e ≤ v) (hu : v < pow2 (e + 1)) :
    leastAbove v = pow2 (e + 1) := by
  refine le_antisymm ?_ ?_
  · refine Finset.fold_min_le _ |>.mpr ?_
    rcases Nat.lt_or_ge e 254 with h | h
    · exact .inr ⟨⟨e, h⟩, Finset.mem_univ _, by rw [if_pos hu]⟩
    · have : e = 254 := by omega
      left
      rw [this, pow2_top]
  · refine (Finset.le_fold_min _).mpr ⟨le_top, fun x _ => ?_⟩
    split_ifs with hx
    · refine pow2_mono _ _ (by omega) ?_ (by omega)
      by_contra hc
      have : pow2 (x.val + 1) ≤ pow2 e := pow2_mono _ _ (by omega) (by omega) (by omega)
      exact absurd (lt_of_lt_of_le hx (this.trans hl)) (lt_irrefl _)
    · exact le_top

/-- The kernel's scale is the least power of two above the bound, or one where the bound is below `2^-126` or infinite. -/
theorem scaleOf_eq (v : EReal) : scaleOf v = if pow2 1 ≤ v ∧ v < ⊤ then leastAbove v else 1 := by
  obtain ⟨e, hf, he, hl, hu⟩ := field_at v
  rw [scaleOf_field v e he hf]
  by_cases h0 : e = 0
  · rw [if_pos (.inl h0), pow2_one, if_neg]
    rintro ⟨a, _⟩
    rcases hu with hu | hu
    · omega
    · rw [h0] at hu
      exact absurd (lt_of_lt_of_le hu a) (lt_irrefl _)
  by_cases h1 : e = 255
  · rw [if_pos (.inr h1), pow2_one, if_neg]
    rintro ⟨_, a⟩
    rcases hl with hl | hl
    · omega
    · rw [h1, pow2_top] at hl
      exact absurd (lt_of_lt_of_le a hl) (lt_irrefl _)
  · have hl' : pow2 e ≤ v := hl.resolve_left h0
    have hu' : v < pow2 (e + 1) := hu.resolve_left h1
    rw [if_neg (by omega), if_pos ⟨(pow2_mono 1 e le_rfl (by omega) he).trans hl', lt_of_lt_of_le hu' le_top⟩,
      leastAbove_eq v e (by omega) (by omega) hl' hu']

/-- Below `2^126` the kernel's reciprocal scale is one over its scale. -/
theorem invOf_eq (v : EReal) (hv : v < pow2 253) : invOf v = Ideal.div 1 (scaleOf v) := by
  obtain ⟨e, hf, he, hl, hu⟩ := field_at v
  have he2 : e ≤ 252 := by
    by_contra hc
    rcases hl with hl | hl
    · omega
    · exact absurd (lt_of_lt_of_le hv ((pow2_mono 253 e (by omega) (by omega) he).trans hl)) (lt_irrefl _)
  rw [scaleOf_field v e he hf, invOf_field v e he2 hf]
  by_cases h0 : e = 0
  · rw [if_pos h0, if_pos (.inl h0), pow2_one]
    unfold Ideal.div
    rw [if_neg one_ne_zero]
    simp
  · rw [if_neg h0, if_neg (by omega), pow2_mid _ (by omega) (by omega), pow2_mid _ (by omega) (by omega)]
    have hp : (2 : ℝ) ^ (((e + 1 : ℕ) : ℤ) - 127) ≠ 0 := zpow_ne_zero _ (by norm_num)
    unfold Ideal.div
    rw [if_neg (by exact_mod_cast hp), one_mul, ← EReal.coe_inv, ← zpow_neg]
    congr 2
    push_cast
    omega

end Cert.KernelIdeal.Run
end
-- ==== Proof.ReferenceIdeal.Values.lean ====
/- What the reference's host operations hold, each stage in terms of the one before it, read at an index. -/
module

public import proofs.«01_k».proof.Proof.Gen.ReferenceIdeal.Value
public import Idealize.ShloMosaic.Lib.Pointwise
public import Idealize.ShloMosaic.Lib.Claim
public import Idealize.ShloMosaic.Lib.StableHlo.RunRead

@[expose] public section

set_option maxRecDepth 16384

noncomputable section

namespace Cert.ReferenceIdeal.Run

open Cert.ReferenceIdeal Cert.ReferenceIdeal.Gen
open Idealize.ShloMosaic Idealize.ShloMosaic.TcCoe Idealize.ShloMosaic.Tactic
open Idealize.SL.Sem

variable (m : (ℓ : Loc nD τ sig) → Buf (Elt Ideal) ℓ) (c : Dev nD)

/-- The random word of each element is at least the threshold. -/
def keep : IVec S2x2048x18432 1 := V m c main_v1
/-- The hidden values. -/
def hid : FVec Ideal S2x2048x18432 .bf16 := V m c main_v11
/-- The means. -/
def mu : FVec Ideal S2x2048 .f32 := V m c main_v15
/-- The centred values. -/
def cen : FVec Ideal S2x2048x18432 .f32 := V m c main_v18
/-- The reciprocal standard deviations. -/
def rs : FVec Ideal S2x2048 .f32 := V m c main_v25
/-- The normalised values. -/
def nrm : FVec Ideal S2x2048x18432 .f32 := V m c main_v34
/-- The bounds the scales are picked from. -/
def bnd : FVec Ideal S2x2048 .f32 := V m c main_v38
/-- The table of powers of two. -/
def tab : FVec Ideal S254 .f32 := V m c main_cst
/-- The least power of the table above the bound. -/
def abv : FVec Ideal S2x2048 .f32 := V m c main_v45
/-- The scales. -/
def scl : FVec Ideal S2x2048 .f32 := V m c main_v51
/-- The reciprocal scales. -/
def inv : FVec Ideal S2x2048x1 .f32 := V m c main_v63
/-- The packed mask. -/
def msk : IVec S2x256x18432 8 := V m c main_v62

/-- The line that computes it, from the arrays before. -/
theorem keep_eq : keep m c = cmpi .uge (m ((c : Thread nD τ).loc main_arg3) : IVec S2x2048x18432 32)
    (broadcastInDim S2x2048x18432 ![] bcast_S_S2x2048x18432 (constantI S_ 32 429496730#32)) := by
  unfold keep
  after_reads_simp
/-- The line that computes it, from the arrays before. -/
theorem hid_eq : hid m c = truncf .bf16 (addf (extf .f32 (m ((c : Thread nD τ).loc main_arg0) : FVec Ideal S2x2048x18432 .bf16) bitsLt_bf16_f32)
    (select (keep m c) (mulf (addf (extf .f32 (m ((c : Thread nD τ).loc main_arg1) : FVec Ideal S2x2048x18432 .bf16) bitsLt_bf16_f32)
      (broadcastInDim S2x2048x18432 ![0, 1, 2] bcast_S1x1x18432_S2x2048x18432_0_1_2
        (broadcastInDim S1x1x18432 ![2] bcast_S18432_S1x1x18432_2 (m ((c : Thread nD τ).loc main_arg2) : FVec Ideal S18432 .f32))))
      (broadcastInDim S2x2048x18432 ![] bcast_S_S2x2048x18432 (constant S_ .f32 0x3F8E38E4#32)))
     (broadcastInDim S2x2048x18432 ![] bcast_S_S2x2048x18432 (constant S_ .f32 0x00000000#32)))) bitsLt_bf16_f32 := by
  unfold keep hid
  after_reads_simp
  try simp only [StableHlo.TRef.toBuf, StableHlo.TRef.ofBuf, cast_cast, cast_eq, id_eq]
/-- The line that computes it, from the arrays before. -/
theorem mu_eq : mu m c = Host.divf (Host.reduceAdd (extf .f32 (hid m c) bitsLt_bf16_f32) (constant S_ .f32 0x00000000#32) reducesTo_S2x2048x18432_S2x2048_d2 h_S_)
    (broadcastInDim S2x2048 ![] bcast_S_S2x2048 (constant S_ .f32 0x46900000#32)) := by
  unfold hid mu
  after_reads_simp
/-- The line that computes it, from the arrays before. -/
theorem cen_eq : cen m c = subf (extf .f32 (hid m c) bitsLt_bf16_f32) (broadcastInDim S2x2048x18432 ![0, 1, 2] bcast_S2x2048x1_S2x2048x18432_0_1_2
    (broadcastInDim S2x2048x1 ![0, 1] bcast_S2x2048_S2x2048x1_0_1 (mu m c))) := by
  unfold hid mu cen
  after_reads_simp
/-- The line that computes it, from the arrays before. -/
theorem rs_eq : rs m c = Host.rsqrt (addf (Host.divf (Host.reduceAdd (mulf (cen m c) (cen m c)) (constant S_ .f32 0x00000000#32) reducesTo_S2x2048x18432_S2x2048_d2 h_S_)
    (broadcastInDim S2x2048 ![] bcast_S_S2x2048 (constant S_ .f32 0x46900000#32)))
      (broadcastInDim S2x2048 ![] bcast_S_S2x2048 (constant S_ .f32 0x3727C5AC#32))) := by
  unfold cen rs
  after_reads_simp
/-- The line that computes it, from the arrays before. -/
theorem nrm_eq : nrm m c = addf (mulf (mulf (cen m c) (broadcastInDim S2x2048x18432 ![0, 1, 2] bcast_S2x2048x1_S2x2048x18432_0_1_2
      (broadcastInDim S2x2048x1 ![0, 1] bcast_S2x2048_S2x2048x1_0_1 (rs m c))))
      (broadcastInDim S2x2048x18432 ![0, 1, 2] bcast_S1x1x18432_S2x2048x18432_0_1_2
        (broadcastInDim S1x1x18432 ![2] bcast_S18432_S1x1x18432_2 (m ((c : Thread nD τ).loc main_arg4) : FVec Ideal S18432 .f32))))
      (broadcastInDim S2x2048x18432 ![0, 1, 2] bcast_S1x1x18432_S2x2048x18432_0_1_2
        (broadcastInDim S1x1x18432 ![2] bcast_S18432_S1x1x18432_2 (m ((c : Thread nD τ).loc main_arg5) : FVec Ideal S18432 .f32))) := by
  unfold cen rs nrm
  after_reads_simp
/-- The line that computes it, from the arrays before. -/
theorem bnd_eq : bnd m c = mulf (Host.reduce FloatOps.maximumf (Host.absf (nrm m c)) (constant S_ .f32 0xFF800000#32) reducesTo_S2x2048x18432_S2x2048_d2 h_S_)
    (broadcastInDim S2x2048 ![] bcast_S_S2x2048 (constant S_ .f32 0x3B124925#32)) := by
  unfold nrm bnd
  after_reads_simp
/-- The line that computes it, from the arrays before. -/
theorem tab_eq : tab m c = fun i => FloatOps.ofBits .f32 (lit0 (S254.rowMajor i)) := by
  unfold tab
  after_reads_simp
  rfl
/-- The line that computes it, from the arrays before. -/
theorem abv_eq : abv m c = Host.reduce FloatOps.minimumf (select (cmpf .olt
      (broadcastInDim S2x2048x254 ![0, 1, 2] bcast_S2x2048x1_S2x2048x254_0_1_2 (broadcastInDim S2x2048x1 ![0, 1] bcast_S2x2048_S2x2048x1_0_1 (bnd m c)))
      (broadcastInDim S2x2048x254 ![0, 1, 2] bcast_S1x1x254_S2x2048x254_0_1_2 (broadcastInDim S1x1x254 ![2] bcast_S254_S1x1x254_2 (tab m c))))
      (broadcastInDim S2x2048x254 ![2] bcast_S254_S2x2048x254_2 (tab m c))
      (broadcastInDim S2x2048x254 ![] bcast_S_S2x2048x254 (constant S_ .f32 0x7F800000#32)))
    (constant S_ .f32 0x7F800000#32) reducesTo_S2x2048x254_S2x2048_d2 h_S_ := by
  unfold bnd tab abv
  after_reads_simp
  try simp only [StableHlo.TRef.toBuf, StableHlo.TRef.ofBuf, cast_cast, cast_eq, id_eq]
/-- The line that computes it, from the arrays before. -/
theorem scl_eq : scl m c = select (andi (cmpf .oge (bnd m c) (broadcastInDim S2x2048 ![] bcast_S_S2x2048 (constant S_ .f32 0x00800000#32)))
      (cmpf .olt (bnd m c) (broadcastInDim S2x2048 ![] bcast_S_S2x2048 (constant S_ .f32 0x7F800000#32)))) (abv m c)
    (broadcastInDim S2x2048 ![] bcast_S_S2x2048 (constant S_ .f32 0x3F800000#32)) := by
  unfold bnd abv scl
  after_reads_simp
  try simp only [StableHlo.TRef.toBuf, StableHlo.TRef.ofBuf, cast_cast, cast_eq, id_eq]
/-- The line that computes it, from the arrays before. -/
theorem inv_eq : inv m c = broadcastInDim S2x2048x1 ![0, 1] bcast_S2x2048_S2x2048x1_0_1
    (Host.divf (broadcastInDim S2x2048 ![] bcast_S_S2x2048 (constant S_ .f32 0x3F800000#32)) (scl m c)) := by
  unfold scl inv
  after_reads_simp
/-- The line that computes it, from the arrays before. -/
theorem msk_eq : msk m c = trunci 8 (Host.reduce IntOp.addi (Host.shli (extui 32 (shapeCast S2x256x8x18432 (keep m c) shapeCasts_S2x2048x18432_S2x256x8x18432) natLt_1_32)
      (broadcastInDim S2x256x8x18432 ![0, 1, 2, 3] bcast_S1x1x8x1_S2x256x8x18432_0_1_2_3 (broadcastInDim S1x1x8x1 ![2, 3] bcast_S8x1_S1x1x8x1_2_3
        (broadcastInDim S8x1 ![0] bcast_S8_S8x1_0 (iotaInDim S8 32 0)))))
    (constantI S_ 32 0#32) reducesTo_S2x256x8x18432_S2x256x18432_d2 h_S_) natLt_8_32 := by
  unfold keep msk
  after_reads_simp
  rfl

end Cert.ReferenceIdeal.Run
end
-- ==== Proof.ReferenceIdeal.Reads.lean ====
/- The reference's stages read at a token. -/
module

public import proofs.«01_k».proof.Proof.ReferenceIdeal.Values

@[expose] public section

set_option maxRecDepth 16384

noncomputable section

namespace Cert.ReferenceIdeal.Run

open Cert.ReferenceIdeal Cert.ReferenceIdeal.Gen
open Idealize.ShloMosaic Idealize.ShloMosaic.TcCoe Idealize.ShloMosaic.Tactic
open Idealize.SL.Sem

/-! ## The operations, over any operands -/

section Ops
variable (b : Fin 2) (s : Fin 2048) (k : Fin 18432)

/-- A row's maximum, from any start. -/
theorem maxima (h : FVec Ideal S2x2048x18432 .f32) (z : FVec Ideal S_ .f32) :
    (Host.reduce FloatOps.maximumf h z reducesTo_S2x2048x18432_S2x2048_d2 h_S_ : FVec Ideal S2x2048 .f32) (ix2 b s)
      = Finset.univ.fold max (z (Shape.Idx.first h_S_)) fun k : Fin 18432 => h (ix3 b s k) := by
  pointwise
/-- A product with a constant. -/
theorem times (h : FVec Ideal S2x2048 .f32) (w : BitVec 32) :
    (mulf h (broadcastInDim S2x2048 ![] bcast_S_S2x2048 (constant S_ .f32 w)) : FVec Ideal S2x2048 .f32) (ix2 b s)
      = h (ix2 b s) * Ideal.ofBits .f32 w := by
  pointwise
/-- One over an array, with a trailing axis of size one. -/
theorem over (h : FVec Ideal S2x2048 .f32) (l : Fin 1) : broadcastInDim S2x2048x1 ![0, 1] bcast_S2x2048_S2x2048x1_0_1
    (Host.divf (broadcastInDim S2x2048 ![] bcast_S_S2x2048 (constant S_ .f32 0x3F800000#32)) h) (ix3 b s l)
      = Ideal.div (Ideal.ofBits .f32 0x3F800000#32) (h (ix2 b s)) := by
  pointwise
/-- A value where another lies between the smallest normal number and infinity, one elsewhere. -/
theorem picked (h t : FVec Ideal S2x2048 .f32) :
    (select (andi (cmpf .oge h (broadcastInDim S2x2048 ![] bcast_S_S2x2048 (constant S_ .f32 0x00800000#32)))
      (cmpf .olt h (broadcastInDim S2x2048 ![] bcast_S_S2x2048 (constant S_ .f32 0x7F800000#32)))) t
    (broadcastInDim S2x2048 ![] bcast_S_S2x2048 (constant S_ .f32 0x3F800000#32)) : FVec Ideal S2x2048 .f32) (ix2 b s)
      = Scalar.select (IntOp.andi (BitVec.ofBool (decide (Ideal.ofBits .f32 0x00800000#32 ≤ h (ix2 b s))))
          (BitVec.ofBool (decide (h (ix2 b s) < Ideal.ofBits .f32 0x7F800000#32)))) (t (ix2 b s)) 1 := by
  pointwise

end Ops

variable (m : (ℓ : Loc nD τ sig) → Buf (Elt Ideal) ℓ) (c : Dev nD) (b : Fin 2) (s : Fin 2048) (k : Fin 18432)

/-- The arguments. -/
def a0 : FVec Ideal S2x2048x18432 .bf16 := m ((c : Thread nD τ).loc main_arg0)
/-- The activation. -/
def a1 : FVec Ideal S2x2048x18432 .bf16 := m ((c : Thread nD τ).loc main_arg1)
/-- The bias. -/
def a2 : FVec Ideal S18432 .f32 := m ((c : Thread nD τ).loc main_arg2)
/-- The random words. -/
def a3 : IVec S2x2048x18432 32 := m ((c : Thread nD τ).loc main_arg3)
/-- The gains. -/
def a4 : FVec Ideal S18432 .f32 := m ((c : Thread nD τ).loc main_arg4)
/-- The offsets. -/
def a5 : FVec Ideal S18432 .f32 := m ((c : Thread nD τ).loc main_arg5)

/-- An element is kept where its random word is at least the threshold. -/
theorem keep_at : keep m c (ix3 b s k) = IntOp.cmpi .uge (a3 m c (ix3 b s k)) 429496730#32 := by
  rw [keep_eq]
  generalize ha3 : a3 m c = w
  unfold a3 at ha3
  rw [ha3]
  pointwise
/-- A hidden element: the residual stream plus the dropped-out sum of the activation and the bias. -/
theorem hid_at : hid m c (ix3 b s k) = a0 m c (ix3 b s k)
    + Scalar.select (keep m c (ix3 b s k)) ((a1 m c (ix3 b s k) + a2 m c (ix1 k))
        * Ideal.ofBits .f32 0x3F8E38E4#32) 0 := by
  rw [hid_eq]
  generalize ha0 : a0 m c = x0
  unfold a0 at ha0
  rw [ha0]
  generalize ha1 : a1 m c = x1
  unfold a1 at ha1
  rw [ha1]
  generalize ha2 : a2 m c = x2
  unfold a2 at ha2
  rw [ha2]
  generalize keep m c = kp
  pointwise
/-- A mean: the row's sum over its length. -/
theorem mu_at : mu m c (ix2 b s) = Ideal.div (∑ k, hid m c (ix3 b s k)) (Ideal.ofBits .f32 0x46900000#32) := by
  rw [mu_eq]
  generalize hid m c = h
  pointwise
/-- A centred element. -/
theorem cen_at : cen m c (ix3 b s k) = hid m c (ix3 b s k) - mu m c (ix2 b s) := by
  rw [cen_eq]
  generalize hid m c = h
  generalize mu m c = u
  pointwise
/-- A reciprocal standard deviation. -/
theorem rs_at : rs m c (ix2 b s) = Ideal.rsqrt (Ideal.div (∑ k, cen m c (ix3 b s k) * cen m c (ix3 b s k)) (Ideal.ofBits .f32 0x46900000#32)
    + Ideal.ofBits .f32 0x3727C5AC#32) := by
  rw [rs_eq]
  generalize cen m c = h
  pointwise
/-- A normalised element. -/
theorem nrm_at : nrm m c (ix3 b s k) = cen m c (ix3 b s k) * rs m c (ix2 b s) * a4 m c (ix1 k)
    + a5 m c (ix1 k) := by
  rw [nrm_eq]
  generalize ha4 : a4 m c = x4
  unfold a4 at ha4
  rw [ha4]
  generalize ha5 : a5 m c = x5
  unfold a5 at ha5
  rw [ha5]
  generalize cen m c = h
  generalize rs m c = u
  pointwise
/-- A row's largest magnitude times the constant of one over 448. -/
theorem bnd_at : bnd m c (ix2 b s) = (Finset.univ.fold max (Ideal.ofBits .f32 0xFF800000#32)
    fun k : Fin 18432 => max (nrm m c (ix3 b s k)) (-(nrm m c (ix3 b s k)))) * Ideal.ofBits .f32 0x3B124925#32 :=
  (congrFun (bnd_eq m c) (ix2 b s)).trans ((times b s _ _).trans (congrArg (· * Ideal.ofBits .f32 0x3B124925#32) (maxima b s _ _)))
/-- The table of powers of two, at an entry. -/
theorem tab_at (i : Fin 254) : tab m c (ix1 i) = Ideal.ofBits .f32 (lit0 i) := by
  have h : S254.rowMajor (ix1 i) = i := Fin.ext (Shape.rowMajor_val_one _)
  rw [tab_eq]
  show Ideal.ofBits .f32 (lit0 (S254.rowMajor (ix1 i))) = _
  rw [h]
/-- The least entry of the table above the bound. -/
theorem abv_at : abv m c (ix2 b s) = Finset.univ.fold min (Ideal.ofBits .f32 0x7F800000#32)
    fun x : Fin 254 => if bnd m c (ix2 b s) < tab m c (ix1 x) then tab m c (ix1 x) else Ideal.ofBits .f32 0x7F800000#32 := by
  rw [abv_eq]
  generalize bnd m c = h
  generalize tab m c = t
  pointwise
/-- A scale: that entry for a bound in the normal range, one elsewhere. -/
theorem scl_at : scl m c (ix2 b s) = Scalar.select (IntOp.andi (BitVec.ofBool (decide (Ideal.ofBits .f32 0x00800000#32 ≤ bnd m c (ix2 b s))))
          (BitVec.ofBool (decide (bnd m c (ix2 b s) < Ideal.ofBits .f32 0x7F800000#32)))) (abv m c (ix2 b s)) 1 :=
  (congrFun (scl_eq m c) (ix2 b s)).trans (picked b s _ _)
/-- A reciprocal scale. -/
theorem inv_at (l : Fin 1) : inv m c (ix3 b s l) = Ideal.div (Ideal.ofBits .f32 0x3F800000#32) (scl m c (ix2 b s)) :=
  (congrFun (inv_eq m c) (ix3 b s l)).trans (over b s _ l)
/-- A mask byte: eight keep-bits, each shifted to its place, added up. -/
theorem msk_at (g : Fin 256) : msk m c (ix3 b g k) = BitVec.setWidth 8 (Finset.fold IntOp.addi 0#32
    (fun x : Fin 8 => IntOp.shli .host (BitVec.setWidth 32 (keep m c (ix3 b (⟨g.val * 8 + x.val, by omega⟩ : Fin 2048) k))) (BitVec.ofNat 32 x.val)) Finset.univ) := by
  rw [msk_eq]
  generalize keep m c = h
  pointwise

end Cert.ReferenceIdeal.Run
end
-- ==== Proof.ReferenceIdeal.RefRun.lean ====
/- The reference's run: its six results, the arguments as they were. -/
module

public import proofs.«01_k».proof.Proof.ReferenceIdeal.Reads
public import Idealize.ShloMosaic.Lib.Pipeline.ValueKit

@[expose] public section

set_option maxRecDepth 16384

noncomputable section

namespace Cert.ReferenceIdeal.Run

open Cert.ReferenceIdeal Cert.ReferenceIdeal.Gen
open Idealize.ShloMosaic Idealize.ShloMosaic.TcCoe Idealize.ShloMosaic.Tactic
open Idealize.SL.Sem

variable (m : (ℓ : Loc nD τ sig) → Buf (Elt Ideal) ℓ) (c : Dev nD)

/-- The codes: the normalised values times the reciprocal scale, clipped. -/
def cod : FVec Ideal S2x2048x18432 .fp8e4m3 := fun y =>
  min (Ideal.ofBits .f32 0x43E00000#32) (max (Ideal.ofBits .f32 0xC3E00000#32) (nrm m c y * inv m c (ix3 (y 0) (y 1) 0)))

/-- The one point of a call without a grid. -/
abbrev onlyPt : Fin cfg0.N := ⟨0, by decide⟩

/-- What the clip-and-cast call reads: its two operands, whole. -/
def got0 (t : Fin cfg0.N) : FVec Ideal S2x2048x18432 .f32 := iblk m c 0 t
/-- The second operand. -/
def got1 (t : Fin cfg0.N) : FVec Ideal S2x2048x1 .f32 := iblk m c 1 t

/-- The first operand's one block is at the origin. -/
theorem index0 : ∀ t : Fin grid0.N, win0_0.index t = ![0, 0, 0] := by decide +kernel
/-- The second operand's one block is at the origin. -/
theorem index1 : ∀ t : Fin grid0.N, win0_1.index t = ![0, 0, 0] := by decide +kernel

/-- The block is the whole array, for any array in the first operand's place. -/
theorem whole0 (t : Fin cfg0.N) (X : FVec Ideal S2x2048x18432 .f32) :
    ((win0_0.blk t).view.read (Elt Ideal) X : FVec Ideal S2x2048x18432 .f32) = X := by
  have e := index0 t
  funext y
  blk_ext [e]
/-- The block is the whole array, for any array in the second operand's place. -/
theorem whole1 (t : Fin cfg0.N) (X : FVec Ideal S2x2048x1 .f32) :
    ((win0_1.blk t).view.read (Elt Ideal) X : FVec Ideal S2x2048x1 .f32) = X := by
  have e := index1 t
  funext y
  blk_ext [e]
/-- The first operand is the normalised rows. -/
theorem block0 (t : Fin cfg0.N) : got0 m c t = nrm m c := by
  unfold got0 nrm iblk
  generalize V m c = W
  exact whole0 t (W main_v34)
/-- The second operand is the reciprocal scales. -/
theorem block1 (t : Fin cfg0.N) : got1 m c t = inv m c := by
  unfold got1 inv iblk
  generalize V m c = W
  exact whole1 t (W main_v63)
/-- What the clip-and-cast writes of a block and a column of factors. -/
def clip (y0 : FVec Ideal S2x2048x18432 .f32) (y1 : FVec Ideal S2x2048x1 .f32) : FVec Ideal S2x2048x18432 .fp8e4m3 := fun y =>
  min (Ideal.ofBits .f32 0x43E00000#32) (max (Ideal.ofBits .f32 0xC3E00000#32) (y0 y * y1 (ix3 (y 0) (y 1) 0)))
/-- What the call stores is the clip. -/
theorem out_eq (y0 : FVec Ideal S2x2048x18432 .f32) (y1 : FVec Ideal S2x2048x1 .f32) :
    out0_2 (F := Ideal) y0 y1 = clip y0 y1 := by
  have z : (![0, 0, 0] : Fin 3 → ℕ) = fun _ => 0 := by decide
  have h0 : View.ld (Val := Elt Ideal) (e' := .f32) y0 r0_0 = y0 := View.ld_unit_zero (Val := Elt Ideal) (e := .f32) (S := S2x2048x18432) z _ y0
  have h1 : View.ld (Val := Elt Ideal) (e' := .f32) y1 r0_1 = y1 := View.ld_unit_zero (Val := Elt Ideal) (e := .f32) (S := S2x2048x1) z _ y1
  unfold out0_2
  erw [h0, h1]
  funext y
  rw [Value.canon2_eq]
  unfold Value.E2 clip
  have e0 : Value.ix2_0 y = y := by funext a; fin_cases a <;> rfl
  have e1 : Value.ix2_1 y = ix3 (y 0) (y 1) 0 := by funext a; fin_cases a <;> rfl
  rw [e0, e1]
  rfl
/-- The clip of the reference's arrays is its codes. -/
theorem clipped_eq : clip (nrm m c) (inv m c) = cod m c := rfl
/-- The array of codes. -/
theorem codes_array : (dats m 0 c).arrAt 2 cfg0.N = cod m c := by
  have h : out0_2 (F := Ideal) (iblk m c 0 onlyPt) (iblk m c 1 onlyPt) = cod m c :=
    (out_eq (got0 m c onlyPt) (got1 m c onlyPt)).trans ((congrArg₂ clip (block0 m c onlyPt) (block1 m c onlyPt)).trans (clipped_eq m c))
  refine (dats m 0 c).arrAt_eq_of_after_last 2 onlyPt (by decide +kernel) _ fun j => ?_
  blk_simp
  rw [after0_2]
  exact congrFun h j

/-- What the reference leaves, from any memory: its six results, the arguments as they were. -/
theorem run (g : Dev nD → PrngReg) : θ_run defs (onTc (τ := τ) (main (F := Ideal))) ⟨m, fun _ => 0, g⟩ fun r => ∀ c : Dev nD,
      r.2.mem ((c : Thread nD τ).loc main_v64) = cod m c
      ∧ r.2.mem ((c : Thread nD τ).loc main_v51) = scl m c
      ∧ r.2.mem ((c : Thread nD τ).loc main_v62) = msk m c
      ∧ r.2.mem ((c : Thread nD τ).loc main_v15) = mu m c
      ∧ r.2.mem ((c : Thread nD τ).loc main_v25) = rs m c
      ∧ r.2.mem ((c : Thread nD τ).loc main_v11) = hid m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun r h c => ⟨(Value.post2 m r h c).trans (codes_array m c), ?_, ?_, ?_, ?_, ?_,
      Value.kept_main_arg0 m r h c, Value.kept_main_arg1 m r h c, Value.kept_main_arg2 m r h c, Value.kept_main_arg3 m r h c,
      Value.kept_main_arg4 m r h c, Value.kept_main_arg5 m r h c⟩) (run_main m g)
  · exact (h c).2 main_v51 (Pipeline.mem_restRefs_of main_v51 (by decide) (by decide))
  · exact (h c).2 main_v62 (Pipeline.mem_restRefs_of main_v62 (by decide) (by decide))
  · exact (h c).2 main_v15 (Pipeline.mem_restRefs_of main_v15 (by decide) (by decide))
  · exact (h c).2 main_v25 (Pipeline.mem_restRefs_of main_v25 (by decide) (by decide))
  · exact (h c).2 main_v11 (Pipeline.mem_restRefs_of main_v11 (by decide) (by decide))

end Cert.ReferenceIdeal.Run
end
-- ==== Proof.Tokens.lean ====
/- A token at the kernel and at the reference: the same hidden row, statistics, normalised row and scale. -/
module

public import proofs.«01_k».proof.Proof.KernelIdeal.Arrays
public import proofs.«01_k».proof.Proof.KernelIdeal.Scale
public import proofs.«01_k».proof.Proof.ReferenceIdeal.RefRun
public import Idealize.ShloMosaic.PureOps.IdealRules

@[expose] public section

set_option maxRecDepth 16384

noncomputable section

namespace Cert.Tokens

open Cert.KernelIdeal.Value Cert.KernelIdeal.Run
open Cert.ReferenceIdeal.Run (hid mu cen rs nrm bnd tab abv scl inv msk cod hid_at mu_at cen_at rs_at nrm_at bnd_at tab_at abv_at scl_at inv_at keep_at)
open Idealize.ShloMosaic Idealize.ShloMosaic.TcCoe Idealize.ShloMosaic.Tactic
open Idealize.SL.Sem

/-! ## Constants -/

/-- The divisor is the row's length. -/
theorem width : Ideal.ofBits .f32 0x46900000#32 = ((18432 : ℝ) : EReal) := by
  simp [Ideal.ofBits, Ideal.ieee, -EReal.coe_mul]; norm_num
/-- The named constant is one over it. -/
theorem invD_eq : invD = ((1 / 18432 : ℝ) : EReal) :=
  IdealRules.named_const.ideal_named_scalar _ _ _ _ rfl
/-- The product with the named reciprocal is the quotient by the width. -/
theorem quot (s : EReal) : s * invD = Ideal.div s (Ideal.ofBits .f32 0x46900000#32) := by
  rw [width, Ideal.div_coe (by norm_num : (18432 : ℝ) ≠ 0), invD_eq]
/-- The smallest normal number. -/
theorem smallest : Ideal.ofBits .f32 0x00800000#32 = pow2 1 := by
  unfold pow2; congr 1
/-- The pattern of infinity is the top of the extended reals. -/
theorem largest : Ideal.ofBits .f32 0x7F800000#32 = ⊤ := by
  rw [← pow2_top]; unfold pow2; congr 1
/-- The pattern of one. -/
theorem unit : Ideal.ofBits .f32 0x3F800000#32 = 1 := by
  rw [← pow2_one]; unfold pow2; congr 1
/-- The reference's table lists the patterns of the powers of two. -/
theorem table : ∀ i : Fin 254, Cert.ReferenceIdeal.lit0 i = IntOp.shli .vector (BitVec.ofNat 32 (i.val + 1)) 23#32 := by
  decide +kernel

/-- The largest of a nonempty row of magnitudes, from below every value or from zero. -/
theorem largest_mag (f : Fin 18432 → EReal) (h : ∀ k, 0 ≤ f k) :
    max 0 (Finset.univ.sup f) = Finset.univ.fold max (Ideal.ofBits .f32 0xFF800000#32) f := by
  rw [bot_bits]
  have e : Finset.univ.fold max ⊥ f = Finset.univ.sup f := rfl
  rw [e]
  exact max_eq_right ((h 0).trans (Finset.le_sup (Finset.mem_univ (0 : Fin 18432))))
/-- A magnitude is not negative. -/
theorem mag_nonneg (y : EReal) : 0 ≤ max y (-y) := by
  rcases le_total 0 y with h | h
  · exact le_max_of_le_left h
  · exact le_max_of_le_right (by rw [EReal.le_neg]; simpa using h)

/-- Equal rows have equal reciprocal standard deviations. -/
theorem squares (f g : Fin 18432 → EReal) (h : ∀ k, f k = g k) :
    Ideal.rsqrt ((∑ k, f k * f k) * invD + Ideal.ofBits .f32 0x3727C5AC#32)
      = Ideal.rsqrt ((∑ k, g k * g k) * invD + Ideal.ofBits .f32 0x3727C5AC#32) := by
  rw [funext h]

section Row

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two memories hold the same arguments. -/
structure Agree : Prop where
  e0 : Cert.ReferenceIdeal.Run.a0 m' c = m ((c : Thread Cert.KernelIdeal.nD Cert.KernelIdeal.τ).loc Cert.KernelIdeal.main_arg0)
  e1 : Cert.ReferenceIdeal.Run.a1 m' c = m ((c : Thread Cert.KernelIdeal.nD Cert.KernelIdeal.τ).loc Cert.KernelIdeal.main_arg1)
  e2 : Cert.ReferenceIdeal.Run.a2 m' c = m ((c : Thread Cert.KernelIdeal.nD Cert.KernelIdeal.τ).loc Cert.KernelIdeal.main_arg2)
  e3 : Cert.ReferenceIdeal.Run.a3 m' c = m ((c : Thread Cert.KernelIdeal.nD Cert.KernelIdeal.τ).loc Cert.KernelIdeal.main_arg3)
  e4 : Cert.ReferenceIdeal.Run.a4 m' c = m ((c : Thread Cert.KernelIdeal.nD Cert.KernelIdeal.τ).loc Cert.KernelIdeal.main_arg4)
  e5 : Cert.ReferenceIdeal.Run.a5 m' c = m ((c : Thread Cert.KernelIdeal.nD Cert.KernelIdeal.τ).loc Cert.KernelIdeal.main_arg5)

variable (A : Agree m m' c) (n : ℕ) (r : Fin 32) (b : Fin 2) (s : Fin 2048) (hbs : 32 * n + r.val = 2048 * b.val + s.val)
include A hbs

/-- The keep-bits. -/
theorem keeps_eq (k : Fin 18432) : keeps (x3 m c n (ix2 r k)) = Cert.ReferenceIdeal.Run.keep m' c (ix3 b s k) := by
  rw [keep_at, A.e3, x3_read m c n r b s hbs k]
  rfl

/-- The hidden rows. -/
theorem hidden_eq (k : Fin 18432) : hiddenAt m c n (ix2 r k) = hid m' c (ix3 b s k) := by
  rw [hid_at, A.e0, A.e1, A.e2, ← keeps_eq m m' c A n r b s hbs k, ← x0_read m c n r b s hbs k, ← x1_read m c n r b s hbs k, ← x2_read m c n k]
  rfl
/-- The means. -/
theorem mean_eq : meanAt m c n (ix2 r 0) = mu m' c (ix2 b s) := by
  have e : meanAt m c n (ix2 r 0) = (∑ k : Fin 18432, hiddenAt m c n (ix2 r k)) * invD := rfl
  rw [mu_at, ← quot, e]
  exact congrArg (· * invD) (Finset.sum_congr rfl fun k _ => hidden_eq m m' c A n r b s hbs k)
/-- The centred rows. -/
theorem centred_eq (k : Fin 18432) : stepCentred (x0 m c n) (x1 m c n) (x2 m c n) (x3 m c n) (ix2 r k) = cen m' c (ix3 b s k) := by
  rw [cen_at]
  exact congrArg₂ (· - ·) (hidden_eq m m' c A n r b s hbs k) (mean_eq m m' c A n r b s hbs)
/-- The reciprocal standard deviations. -/
theorem rstd_eq : rstdAt m c n (ix2 r 0) = rs m' c (ix2 b s) := by
  rw [rs_at, ← quot]
  exact squares (fun k => stepCentred (x0 m c n) (x1 m c n) (x2 m c n) (x3 m c n) (ix2 r k)) (fun k => cen m' c (ix3 b s k))
    fun k => centred_eq m m' c A n r b s hbs k
/-- The normalised rows. -/
theorem norm_eq (k : Fin 18432) : stepNorm (x0 m c n) (x1 m c n) (x2 m c n) (x3 m c n) (x4 m c n) (x5 m c n) (ix2 r k) = nrm m' c (ix3 b s k) := by
  rw [nrm_at, A.e4, A.e5, ← x4_read m c n k, ← x5_read m c n k, ← centred_eq m m' c A n r b s hbs k, ← rstd_eq m m' c A n r b s hbs]
  rfl
/-- The values whose scales are taken. -/
theorem bound_eq : rowBound (stepNorm (x0 m c n) (x1 m c n) (x2 m c n) (x3 m c n) (x4 m c n) (x5 m c n)) (ix2 r 0) = bnd m' c (ix2 b s) := by
  rw [bnd_at, ← largest_mag _ fun k => mag_nonneg _]
  refine congrArg (fun t => max 0 t * Ideal.ofBits .f32 0x3B124925#32) (Finset.sup_congr rfl fun k _ => ?_)
  exact congrArg (fun t => max t (-t)) (norm_eq m m' c A n r b s hbs k)
omit A hbs in
/-- The reference's entry is the least power of two above the bound. -/
theorem above_eq : abv m' c (ix2 b s) = leastAbove (bnd m' c (ix2 b s)) := by
  rw [abv_at, largest]
  unfold leastAbove
  refine congrArg (fun f => Finset.univ.fold min (⊤ : EReal) f) (funext fun x => ?_)
  rw [tab_at, table]
  rfl
omit A hbs in
/-- The reference's scale is the one the kernel's search gives at the same value. -/
theorem scl_eq' : scl m' c (ix2 b s) = scaleOf (bnd m' c (ix2 b s)) := by
  rw [scl_at, above_eq, scaleOf_eq, smallest, largest]
  by_cases h1 : pow2 1 ≤ bnd m' c (ix2 b s)
  · by_cases h2 : bnd m' c (ix2 b s) < ⊤
    · rw [if_pos ⟨h1, h2⟩, decide_eq_true h1, decide_eq_true h2]; rfl
    · rw [if_neg (fun h => h2 h.2), decide_eq_true h1, decide_eq_false h2]; rfl
  · rw [if_neg (fun h => h1 h.1), decide_eq_false h1]
    cases decide (bnd m' c (ix2 b s) < ⊤) <;> rfl
/-- The scales. -/
theorem scale_eq : scaleAt m c n (ix2 r 0) = scl m' c (ix2 b s) := by
  rw [scl_eq', ← bound_eq m m' c A n r b s hbs]
  rfl
/-- The codes, where the value whose scale is taken is below 2^126. -/
theorem codes_eq (k : Fin 18432) (hv : bnd m' c (ix2 b s) < pow2 253) : codesAt m c n (ix2 r k) = cod m' c (ix3 b s k) := by
  have hi : stepInv (x0 m c n) (x1 m c n) (x2 m c n) (x3 m c n) (x4 m c n) (x5 m c n) (ix2 r 0) = inv m' c (ix3 b s 0) := by
    rw [inv_at, unit, scl_eq', ← invOf_eq _ hv, ← bound_eq m m' c A n r b s hbs]
    rfl
  show min (max (_ * stepInv (x0 m c n) (x1 m c n) (x2 m c n) (x3 m c n) (x4 m c n) (x5 m c n) (ix2 r 0)) _) _ = min _ (max _ (_ * inv m' c (ix3 b s 0)))
  rw [hi, min_comm, max_comm]
  exact congrArg (fun t => min (Ideal.ofBits .f32 0x43E00000#32) (max (Ideal.ofBits .f32 0xC3E00000#32) (t * inv m' c (ix3 b s 0))))
    (norm_eq m m' c A n r b s hbs k)

end Row

end Cert.Tokens
end
-- ==== Proof.WordBytes.lean ====
/- The bytes of a word of thirty-two keep-bits: byte `q` is the eight keep-bits of the rows `8 q … 8 q + 7`, in base two. -/
module

public import proofs.«01_k».proof.Proof.Word

@[expose] public section

namespace Cert.Word

open Idealize.ShloMosaic

/-- A row's contribution is its bit times a power of two. -/
theorem unit_toNat (b : BitVec 1) (r : Fin 8) (q : Fin 4) :
    (unit b (BitVec.ofNat 32 r.val) (BitVec.ofNat 32 (8 * q.val))).toNat = b.toNat * 2 ^ (8 * q.val + r.val) := by
  have hb : b = 0#1 ∨ b = 1#1 := by revert b; decide
  rcases hb with rfl | rfl <;> revert r q <;> decide

/-- Words added up, as a number. -/
theorem fold_toNat {ι : Type} (s : Finset ι) (f : ι → BitVec 32) :
    (s.fold IntOp.addi 0#32 f).toNat = (∑ r ∈ s, (f r).toNat) % 2 ^ 32 := by
  classical
  induction s using Finset.induction_on with
  | empty => rfl
  | insert a s ha ih =>
    rw [Finset.fold_insert ha, Finset.sum_insert ha]
    exact (BitVec.toNat_add _ _).trans (by rw [ih, Nat.add_mod_mod])

/-- Eight rows' bits in base two. -/
def byte (bit : Fin 32 → BitVec 1) (q : Fin 4) : ℕ := ∑ r : Fin 8, (bit ⟨8 * q.val + r.val, by omega⟩).toNat * 2 ^ r.val

/-- Eight bits make a number below 256. -/
theorem byte_lt (bit : Fin 32 → BitVec 1) (q : Fin 4) : byte bit q < 256 := by
  refine Nat.lt_of_le_of_lt (Finset.sum_le_sum (g := fun r : Fin 8 => 2 ^ r.val) fun r _ => ?_) (by decide)
  have := (bit ⟨8 * q.val + r.val, by omega⟩).isLt
  exact (Nat.mul_le_mul_right _ (by omega : _ ≤ 1)).trans (by simp)

/-- The word as a number. -/
theorem packed_toNat (bit : Fin 32 → BitVec 1) :
    (packed bit).toNat = byte bit 0 + byte bit 1 * 2 ^ 8 + byte bit 2 * 2 ^ 16 + byte bit 3 * 2 ^ 24 := by
  have hq : ∀ r : Fin 8, (IntOp.addi (IntOp.addi (IntOp.addi (IntOp.addi 0#32
      (unit (bit ⟨r.val, by omega⟩) (BitVec.ofNat 32 r.val) 0#32))
      (unit (bit ⟨8 + r.val, by omega⟩) (BitVec.ofNat 32 r.val) 8#32))
      (unit (bit ⟨16 + r.val, by omega⟩) (BitVec.ofNat 32 r.val) 16#32))
      (unit (bit ⟨24 + r.val, by omega⟩) (BitVec.ofNat 32 r.val) 24#32)).toNat
      = ((bit ⟨r.val, by omega⟩).toNat * 2 ^ (0 + r.val) + (bit ⟨8 + r.val, by omega⟩).toNat * 2 ^ (8 + r.val)
        + (bit ⟨16 + r.val, by omega⟩).toNat * 2 ^ (16 + r.val) + (bit ⟨24 + r.val, by omega⟩).toNat * 2 ^ (24 + r.val)) % 2 ^ 32 := by
    intro r
    have h0 : (unit _ _ 0#32).toNat = _ * 2 ^ (0 + r.val) := unit_toNat (bit ⟨r.val, by omega⟩) r 0
    have h1 : (unit _ _ 8#32).toNat = _ * 2 ^ (8 + r.val) := unit_toNat (bit ⟨8 + r.val, by omega⟩) r 1
    have h2 : (unit _ _ 16#32).toNat = _ * 2 ^ (16 + r.val) := unit_toNat (bit ⟨16 + r.val, by omega⟩) r 2
    have h3 : (unit _ _ 24#32).toNat = _ * 2 ^ (24 + r.val) := unit_toNat (bit ⟨24 + r.val, by omega⟩) r 3
    simp only [IntOp.addi, BitVec.toNat_add, h0, h1, h2, h3, Nat.add_mod_mod, Nat.mod_add_mod]
    simp
  have h0 := byte_lt bit 0; have h1 := byte_lt bit 1; have h2 := byte_lt bit 2; have h3 := byte_lt bit 3
  unfold packed
  rw [fold_toNat]
  simp only [hq]
  rw [← Finset.sum_nat_mod]
  simp only [Finset.sum_add_distrib, pow_add]
  have hs : ∀ (q : Fin 4) (e : ℕ) (g : Fin 8 → Fin 32) (_ : ∀ r, (g r).val = 8 * q.val + r.val),
      ∑ r : Fin 8, (bit (g r)).toNat * (2 ^ e * 2 ^ r.val) = byte bit q * 2 ^ e := by
    intro q e g hg
    unfold byte
    rw [Finset.sum_mul]
    refine Finset.sum_congr rfl fun r _ => ?_
    rw [show g r = ⟨8 * q.val + r.val, by omega⟩ from Fin.ext (hg r)]
    ring
  rw [hs 0 0 (fun r => ⟨r.val, by omega⟩) (fun r => by simp), hs 1 8 (fun r => ⟨8 + r.val, by omega⟩) (fun r => by simp),
    hs 2 16 (fun r => ⟨16 + r.val, by omega⟩) (fun r => by simp), hs 3 24 (fun r => ⟨24 + r.val, by omega⟩) (fun r => by simp)]
  omega

/-- A byte of the word is the eight bits of its rows in base two. -/
theorem packed_byte (bit : Fin 32 → BitVec 1) (q : Fin 4) :
    ((packed bit).extractLsb' (8 * q.val) 8).toNat = byte bit q := by
  have h0 := byte_lt bit 0; have h1 := byte_lt bit 1; have h2 := byte_lt bit 2; have h3 := byte_lt bit 3
  rw [BitVec.extractLsb'_toNat, packed_toNat, Nat.shiftRight_eq_div_pow]
  obtain ⟨q, hq⟩ := q
  interval_cases q
  · show _ / 2 ^ 0 % 2 ^ 8 = byte bit 0
    omega
  · show _ / 2 ^ 8 % 2 ^ 8 = byte bit 1
    omega
  · show _ / 2 ^ 16 % 2 ^ 8 = byte bit 2
    omega
  · show _ / 2 ^ 24 % 2 ^ 8 = byte bit 3
    omega

end Cert.Word
-- ==== Proof.MaskBytes.lean ====
/- The packed mask: a byte of a word of keep-bits at the kernel, eight keep-bits added up at the reference. -/
module

public import proofs.«01_k».proof.Proof.Tokens
public import proofs.«01_k».proof.Proof.WordBytes
public import Idealize.ShloMosaic.Lib.BitcastPair

@[expose] public section

set_option maxRecDepth 16384

noncomputable section

namespace Cert.Tokens

open Cert.KernelIdeal.Value Cert.KernelIdeal.Run
open Cert.ReferenceIdeal.Run (msk msk_at)
open Idealize.ShloMosaic Idealize.ShloMosaic.TcCoe Idealize.ShloMosaic.Tactic

/-- Words read as bytes: row `p` is byte `p mod 4` of the words of row `p / 4`. -/
theorem byte_read (x : (⟨2, ![8, 18432]⟩ : Shape).Idx → BitVec 32) (h : (⟨2, ![8, 18432]⟩ : Shape).Bitcasts 32 ⟨2, ![32, 18432]⟩ 8)
    (p : Fin 32) (k : Fin 18432) (a : Fin 8) (ha : a.val = p.val / 4) :
    bitcast ⟨2, ![32, 18432]⟩ 8 x h (ix2 p k) = (x (ix2 a k)).extractLsb' (8 * (p.val % 4)) 8 := by
  apply BitVec.eq_of_getLsbD_eq
  intro i hi
  have hrow : (⟨2, ![32, 18432]⟩ : Shape).row (ix2 p k) = p.val := rfl
  rw [bitcast_getLsbD x h _ i hi (by decide), BitVec.getLsbD_extractLsb']
  have eq : ((⟨2, ![32, 18432]⟩ : Shape).row (ix2 p k) * 8 + i) % 32 = 8 * (p.val % 4) + i := by rw [hrow]; omega
  rw [eq, decide_eq_true hi, Bool.true_and]
  refine congrArg (fun w : BitVec 32 => w.getLsbD (8 * (p.val % 4) + i)) (congrArg x ?_)
  funext d
  match d with
  | ⟨0, _⟩ =>
    refine Fin.ext ((h.srcIdx_row _ _ _ ⟨0, Nat.zero_lt_two⟩ rfl).trans ?_)
    show (p.val * 8 + i) / 32 = a.val
    omega
  | ⟨1, _⟩ => exact Fin.ext (h.srcIdx_other _ _ _ ⟨1, Nat.one_lt_two⟩ (by show ¬ 1 + 2 = 2; omega))

/-- What is stored of the words. -/
theorem pay_byte (v : IVec Cert.KernelIdeal.S8x18432 32) (p : Fin 32) (k : Fin 18432) (a : Fin 8) (ha : a.val = p.val / 4) :
    Cert.KernelIdeal.Gen.k0_pay97 (F := Ideal) v (ix2 p k) = (v (ix2 a k)).extractLsb' (8 * (p.val % 4)) 8 := by
  unfold Cert.KernelIdeal.Gen.k0_pay97
  exact byte_read v _ p k a ha

/-- A bit shifted to its place, as a number. -/
theorem shifted_toNat (v : BitVec 1) (x : Fin 8) :
    (IntOp.shli .host (BitVec.setWidth 32 v) (BitVec.ofNat 32 x.val)).toNat = v.toNat * 2 ^ x.val := by
  have hb : v = 0#1 ∨ v = 1#1 := by revert v; decide
  rcases hb with rfl | rfl <;> revert x <;> decide

/-- Eight bits added up, each at its place, are a byte below 256. -/
theorem eight_bits (bit : Fin 8 → BitVec 1) :
    (BitVec.setWidth 8 (Finset.fold IntOp.addi 0#32 (fun x : Fin 8 => IntOp.shli .host (BitVec.setWidth 32 (bit x)) (BitVec.ofNat 32 x.val))
      Finset.univ)).toNat = ∑ x, (bit x).toNat * 2 ^ x.val := by
  have hlt : (∑ x, (bit x).toNat * 2 ^ x.val) < 256 := by
    refine Nat.lt_of_le_of_lt (Finset.sum_le_sum (g := fun r : Fin 8 => 2 ^ r.val) fun r _ => ?_) (by decide)
    have := (bit r).isLt
    exact (Nat.mul_le_mul_right _ (by omega : _ ≤ 1)).trans (by simp)
  rw [BitVec.toNat_setWidth, Word.fold_toNat, Finset.sum_congr rfl fun x _ => shifted_toNat (bit x) x]
  omega

section Mask

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
  (A : Agree m m' c)
include A

omit A in
/-- A word of a group: the keep-bits of its step. -/
theorem words_at (n : ℕ) (a : Fin 8) (k : Fin 18432) :
    wordsOf m c n (ix2 a k) = Word.packed fun r => keeps (x3 m c (8 * n + a.val) (ix2 r k)) := rfl
omit A in
/-- A mask byte of the kernel, as a number. -/
theorem mask_byte (n : ℕ) (p : Fin 32) (k : Fin 18432) (a : Fin 8) (ha : a.val = p.val / 4) (q : Fin 4) (hq : q.val = p.val % 4) :
    (Cert.KernelIdeal.Gen.k0_pay97 (F := Ideal) (wordsOf m c n) (ix2 p k)).toNat
      = Word.byte (fun r => keeps (x3 m c (8 * n + a.val) (ix2 r k))) q := by
  rw [pay_byte _ p k a ha, words_at, ← hq]
  exact Word.packed_byte _ q
omit A in
/-- A mask byte of the reference, as a number. -/
theorem mask_sum (b : Fin 2) (g : Fin 256) (k : Fin 18432) : (msk m' c (ix3 b g k)).toNat
      = ∑ x : Fin 8, (Cert.ReferenceIdeal.Run.keep m' c (ix3 b (⟨g.val * 8 + x.val, by omega⟩ : Fin 2048) k)).toNat * 2 ^ x.val :=
  (congrArg BitVec.toNat (msk_at m' c b k g)).trans
    (eight_bits fun x => Cert.ReferenceIdeal.Run.keep m' c (ix3 b (⟨g.val * 8 + x.val, by omega⟩ : Fin 2048) k))
/-- The mask bytes. -/
theorem mask_eq (n : ℕ) (p : Fin 32) (b : Fin 2) (g : Fin 256) (hbg : 32 * n + p.val = 256 * b.val + g.val) (k : Fin 18432) :
    Cert.KernelIdeal.Gen.k0_pay97 (F := Ideal) (wordsOf m c n) (ix2 p k) = msk m' c (ix3 b g k) := by
  refine BitVec.eq_of_toNat_eq ((mask_byte m c n p k ⟨p.val / 4, by omega⟩ rfl ⟨p.val % 4, by omega⟩ rfl).trans (Eq.trans ?_ (mask_sum m' c b g k).symm))
  unfold Word.byte
  refine Finset.sum_congr rfl fun x _ => congrArg (fun v : BitVec 1 => v.toNat * 2 ^ x.val) ?_
  have hx := x.isLt
  have hg := g.isLt
  have hp := p.isLt
  exact keeps_eq m m' c A (8 * n + p.val / 4) ⟨8 * (p.val % 4) + x.val, by omega⟩ b ⟨g.val * 8 + x.val, by omega⟩
    (by show 32 * (8 * n + p.val / 4) + (8 * (p.val % 4) + x.val) = 2048 * b.val + (g.val * 8 + x.val); omega) k

end Mask

end Cert.Tokens
end
-- ==== Proof.Equation.lean ====
/- The kernel's six results are the reference's. -/
module

public import proofs.«01_k».proof.Proof.MaskBytes

@[expose] public section

set_option maxRecDepth 16384

noncomputable section

namespace Cert.Tokens

open Cert.KernelIdeal.Value Cert.KernelIdeal.Run
open Cert.ReferenceIdeal.Run (hid mu rs bnd scl msk cod)
open Idealize.ShloMosaic Idealize.ShloMosaic.TcCoe Idealize.ShloMosaic.Tactic

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
  (A : Agree m m' c)
include A

/-- An array of one number per token is the reference's if each token's is. -/
theorem stat_eq (f : ℕ → FVec Ideal Cert.KernelIdeal.S32x1 .f32) (v : FVec Ideal Cert.ReferenceIdeal.S2x2048 .f32)
    (h : ∀ (n : ℕ) (r : Fin 32) (b : Fin 2) (s : Fin 2048), 32 * n + r.val = 2048 * b.val + s.val → f n (ix2 r 0) = v (ix2 b s)) : stat f = v := by
  funext y
  have hy : y = ix2 (y 0) (y 1) := by funext d; fin_cases d <;> rfl
  have e := h ((2048 * (y 0).val + (y 1).val) / 32) ⟨(y 1).val % 32, Nat.mod_lt _ (by decide)⟩ (y 0) (y 1) (by
    show 32 * ((2048 * (y 0).val + (y 1).val) / 32) + (y 1).val % 32 = 2048 * (y 0).val + (y 1).val
    omega)
  rw [hy]
  exact e

/-- The scales are the reference's. -/
theorem scales : stat (scaleAt m c) = scl m' c := stat_eq m m' c A _ _ fun n r b s h => scale_eq m m' c A n r b s h
/-- The means are the reference's. -/
theorem means : stat (meanAt m c) = mu m' c := stat_eq m m' c A _ _ fun n r b s h => mean_eq m m' c A n r b s h
/-- The reciprocal standard deviations are the reference's. -/
theorem rstds : stat (rstdAt m c) = rs m' c := stat_eq m m' c A _ _ fun n r b s h => rstd_eq m m' c A n r b s h

/-- The hidden rows, in the shape of the argument. -/
theorem hiddens : shapeCast Cert.KernelIdeal.S2x2048x18432 (rows (R := 4096) (hiddenAt m c)) Cert.KernelIdeal.Gen.shapeCasts_S4096x18432_S2x2048x18432
    = hid m' c := by
  funext y
  have hy : y = ix3 (y 0) (y 1) (y 2) := by funext d; fin_cases d <;> rfl
  rw [hy]
  refine (token_reshaped (hiddenAt m c) (y 0) (y 1) (y 2)).trans (hidden_eq m m' c A _ _ (y 0) (y 1) ?_ (y 2))
  exact Nat.div_add_mod _ 32
/-- The codes, if the values whose scales are taken are below 2^126. -/
theorem codes (hv : ∀ b s, bnd m' c (ix2 b s) < pow2 253) :
    shapeCast Cert.KernelIdeal.S2x2048x18432 (rows (R := 4096) (codesAt m c)) Cert.KernelIdeal.Gen.shapeCasts_S4096x18432_S2x2048x18432
      = cod m' c := by
  funext y
  have hy : y = ix3 (y 0) (y 1) (y 2) := by funext d; fin_cases d <;> rfl
  rw [hy]
  refine (token_reshaped (codesAt m c) (y 0) (y 1) (y 2)).trans (codes_eq m m' c A _ _ (y 0) (y 1) ?_ (y 2) (hv _ _))
  exact Nat.div_add_mod _ 32
/-- The packed masks. -/
theorem masks : shapeCast Cert.KernelIdeal.S2x256x18432 (rows (e := .i8) (R := 512) fun n => Cert.KernelIdeal.Gen.k0_pay97 (F := Ideal) (wordsOf m c n))
      Cert.KernelIdeal.Gen.shapeCasts_S512x18432_S2x256x18432 = msk m' c := by
  funext y
  have hy : y = ix3 (y 0) (y 1) (y 2) := by funext d; fin_cases d <;> rfl
  rw [hy]
  refine (group_reshaped (e := .i8) (fun n => Cert.KernelIdeal.Gen.k0_pay97 (F := Ideal) (wordsOf m c n)) (y 0) (y 1) (y 2)).trans
    (mask_eq m m' c A _ _ (y 0) (y 1) ?_ (y 2))
  exact Nat.div_add_mod _ 32

end Cert.Tokens
end
-- ==== Proof.Bound.lean ====
/- A normalised row is bounded: whatever the row, a centred value times the row's reciprocal standard deviation is at most the
   square root of the row's length in size, so with a gain and an offset of at most 2^127 the value whose scale is taken is
   below 2^126. -/
module

public import Mathlib.Data.EReal.Inv
public import Mathlib.Analysis.Real.Sqrt
public import Mathlib.Tactic.NormNum
public import Mathlib.Tactic.Linarith
public import Mathlib.Tactic.Positivity
public import Idealize.ShloMosaic.PureOps
public import Idealize.ShloMosaic.PureOps.Ideal

@[expose] public section

noncomputable section

namespace Cert.Bound

open Idealize.ShloMosaic

/-- The stabiliser added to the mean square. -/
theorem epsilon : Ideal.ofBits .f32 0x3727C5AC#32 = ((10995116 * (2 : ℝ) ^ (-40 : ℤ) : ℝ) : EReal) := by
  simp [Ideal.ofBits, Ideal.ieee, -EReal.coe_mul]
/-- The constant of one over 448. -/
theorem factor : Ideal.ofBits .f32 0x3B124925#32 = ((9586981 * (2 : ℝ) ^ (-32 : ℤ) : ℝ) : EReal) := by
  simp [Ideal.ofBits, Ideal.ieee, -EReal.coe_mul]
/-- Half the range's top power of two. -/
theorem half_range : Ideal.ofBits .f32 0x7F000000#32 = (((2 : ℝ) ^ 127 : ℝ) : EReal) := by
  simp [Ideal.ofBits, Ideal.ieee, -EReal.coe_mul, -EReal.coe_pow]; norm_num [-EReal.coe_pow]

/-- A magnitude below a real bound is a real's. -/
theorem real_of_mag (x : EReal) (B : ℝ) (h : max x (-x) ≤ (B : EReal)) : ∃ r : ℝ, x = r ∧ |r| ≤ B := by
  induction x using EReal.rec with
  | bot => exact absurd (le_of_max_le_right h) (by simp)
  | top => exact absurd (le_of_max_le_left h) (by simp)
  | coe r =>
    refine ⟨r, rfl, abs_le'.mpr ⟨?_, ?_⟩⟩
    · exact_mod_cast le_of_max_le_left h
    · have := le_of_max_le_right h
      exact_mod_cast this

/-- A real bounded in size is so as an extended real. -/
theorem mag_coe (r B : ℝ) (h : |r| ≤ B) : max (r : EReal) (-(r : EReal)) ≤ (B : EReal) := by
  have h' := abs_le'.mp h
  refine max_le (by exact_mod_cast h'.1) ?_
  rw [← EReal.coe_neg]
  exact_mod_cast h'.2

/-- A sum of reals is the same sum among the extended reals. -/
theorem sum_coe {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A square is not negative. -/
theorem square_nonneg (z : EReal) : 0 ≤ z * z := by
  induction z using EReal.rec with
  | bot => simp
  | top => simp
  | coe r => rw [← EReal.coe_mul]; exact_mod_cast mul_self_nonneg r

/-- A normalised element: a centred one times the reciprocal standard deviation, is zero or at most the root of the row's length. -/
theorem normalised (N : ℕ) (hN : 0 < N) (z : Fin N → EReal) (e : ℝ) (he : 0 < e) (k : Fin N) :
    ∃ r : ℝ, z k * Ideal.rsqrt ((∑ j, z j * z j) * ((1 / (N : ℝ) : ℝ) : EReal) + (e : EReal)) = r ∧ r ^ 2 ≤ N := by
  have hN' : (0 : ℝ) < N := by exact_mod_cast hN
  by_cases hr : ∀ j, ∃ x : ℝ, z j = x
  · choose x hx using hr
    have hs : (∑ j, z j * z j) = ((∑ j, x j * x j : ℝ) : EReal) := by
      rw [← sum_coe]
      exact Finset.sum_congr rfl fun j _ => by rw [hx j, EReal.coe_mul]
    have hpos : 0 < (∑ j, x j * x j) * (1 / (N : ℝ)) + e :=
      add_pos_of_nonneg_of_pos (mul_nonneg (Finset.sum_nonneg fun j _ => mul_self_nonneg _) (by positivity)) he
    rw [hs, hx k, ← EReal.coe_mul, ← EReal.coe_add, Ideal.rsqrt_coe, if_neg (not_lt.mpr hpos.le), if_neg hpos.ne', ← EReal.coe_mul]
    refine ⟨_, rfl, ?_⟩
    rw [mul_pow, inv_pow, Real.sq_sqrt hpos.le, ← div_eq_mul_inv, div_le_iff₀ hpos, mul_add, ← mul_assoc, mul_comm (N : ℝ), mul_assoc,
      mul_one_div_cancel hN'.ne', mul_one]
    have h1 : x k ^ 2 ≤ ∑ j, x j * x j := by
      rw [pow_two]
      exact Finset.single_le_sum (f := fun j => x j * x j) (fun j _ => mul_self_nonneg _) (Finset.mem_univ k)
    have h2 : 0 ≤ (N : ℝ) * e := by positivity
    linarith
  · push Not at hr
    obtain ⟨j, hj⟩ := hr
    have hjj : z j * z j = ⊤ := by
      revert hj
      generalize z j = w
      intro hj
      induction w using EReal.rec with
      | bot => simp
      | top => simp
      | coe x => exact absurd rfl (hj x)
    have hs : (∑ j, z j * z j) = ⊤ := by
      refine top_le_iff.mp (hjj ▸ ?_)
      exact Finset.single_le_sum (f := fun j => z j * z j) (fun j _ => square_nonneg _) (Finset.mem_univ j)
    have h1 : (⊤ : EReal) * ((1 / (N : ℝ) : ℝ) : EReal) = ⊤ := EReal.top_mul_coe_of_pos (by positivity)
    rw [hs, h1, EReal.top_add_coe, Ideal.rsqrt_top, mul_zero]
    exact ⟨0, rfl, by rw [zero_pow two_ne_zero]; exact hN'.le⟩

/-- With a gain and an offset of at most 2^127, the result is at most 137 times that. -/
theorem affine_le (y g t : EReal) (r : ℝ) (hy : y = r) (hr : r ^ 2 ≤ 18432) (hg : max g (-g) ≤ (((2 : ℝ) ^ 127 : ℝ) : EReal))
    (ht : max t (-t) ≤ (((2 : ℝ) ^ 127 : ℝ) : EReal)) : max (y * g + t) (-(y * g + t)) ≤ ((137 * (2 : ℝ) ^ 127 : ℝ) : EReal) := by
  obtain ⟨g', rfl, hg'⟩ := real_of_mag g _ hg
  obtain ⟨t', rfl, ht'⟩ := real_of_mag t _ ht
  rw [hy, ← EReal.coe_mul, ← EReal.coe_add]
  refine mag_coe _ _ ?_
  have h1 : |r| ≤ 136 := abs_le_of_sq_le_sq (by linarith) (by norm_num)
  calc |r * g' + t'| ≤ |r * g'| + |t'| := abs_add_le _ _
    _ = |r| * |g'| + |t'| := by rw [abs_mul]
    _ ≤ 136 * 2 ^ 127 + 2 ^ 127 := add_le_add (mul_le_mul h1 hg' (abs_nonneg _) (by norm_num)) ht'
    _ = 137 * 2 ^ 127 := by ring

/-- The largest magnitude of a row bounded so, times the constant, is below 2^126. -/
theorem below (f : Fin 18432 → EReal) (h : ∀ k, f k ≤ ((137 * (2 : ℝ) ^ 127 : ℝ) : EReal)) :
    Finset.univ.fold max (⊥ : EReal) f * Ideal.ofBits .f32 0x3B124925#32 < (((2 : ℝ) ^ (126 : ℤ) : ℝ) : EReal) := by
  rw [factor]
  have h0 : Finset.univ.fold max (⊥ : EReal) f ≤ ((137 * (2 : ℝ) ^ 127 : ℝ) : EReal) :=
    (Finset.fold_max_le _).mpr ⟨bot_le, fun k _ => h k⟩
  have hc : (0 : EReal) ≤ ((9586981 * (2 : ℝ) ^ (-32 : ℤ) : ℝ) : EReal) := by
    exact_mod_cast (by positivity : (0 : ℝ) ≤ 9586981 * (2 : ℝ) ^ (-32 : ℤ))
  refine (mul_le_mul_of_nonneg_right h0 hc).trans_lt ?_
  rw [← EReal.coe_mul]
  refine EReal.coe_lt_coe_iff.mpr ?_
  norm_num

end Cert.Bound
end
-- ==== Proof.Admissible.lean ====
/- What the precondition says of the gains and the offsets, and that the values whose scales are taken are then below 2^126. -/
module

public import proofs.«01_k».proof.Proof.Tokens
public import proofs.«01_k».proof.Proof.Bound
public import proofs.«01_k».proof.Proof.Gen.Pre_bounded_affine

@[expose] public section

set_option maxRecDepth 16384

noncomputable section

namespace Cert.Tokens

open Cert.KernelIdeal.Run (pow2 pow2_mid bot_bits)
open Cert.ReferenceIdeal.Run (cen rs nrm bnd nrm_at rs_at bnd_at a4 a5)
open Idealize.ShloMosaic Idealize.ShloMosaic.TcCoe Idealize.ShloMosaic.Tactic

section Pre
open Cert.Pre_bounded_affine

/-- The precondition at a column. -/
theorem pre_at (x0 x1 : FVec Ideal S2x2048x18432 .bf16) (x2 : FVec Ideal S18432 .f32) (x3 : IVec S2x2048x18432 32) (x4 x5 : FVec Ideal S18432 .f32)
    (k : Fin 18432) : fn (F := Ideal) x0 x1 x2 x3 x4 x5 (ix1 k)
      = IntOp.andi (BitVec.ofBool (decide (max (x4 (ix1 k)) (-(x4 (ix1 k))) ≤ Ideal.ofBits .f32 0x7F000000#32)))
          (BitVec.ofBool (decide (max (x5 (ix1 k)) (-(x5 (ix1 k))) ≤ Ideal.ofBits .f32 0x7F000000#32))) := rfl

/-- Two decided facts whose bits join to one both hold. -/
theorem both {p q : Prop} [Decidable p] [Decidable q] (h : IntOp.andi (BitVec.ofBool (decide p)) (BitVec.ofBool (decide q)) = 1#1) : p ∧ q := by
  by_cases hp : p
  · by_cases hq : q
    · exact ⟨hp, hq⟩
    · rw [decide_eq_true hp, decide_eq_false hq] at h; exact absurd h (by decide)
  · rw [decide_eq_false hp] at h
    by_cases hq : q
    · rw [decide_eq_true hq] at h; exact absurd h (by decide)
    · rw [decide_eq_false hq] at h; exact absurd h (by decide)

/-- Under the precondition the gains and the offsets are at most 2^127 in size. -/
theorem pre_bounds (x0 x1 : FVec Ideal S2x2048x18432 .bf16) (x2 : FVec Ideal S18432 .f32) (x3 : IVec S2x2048x18432 32) (x4 x5 : FVec Ideal S18432 .f32)
    (h : fn (F := Ideal) x0 x1 x2 x3 x4 x5 = fun _ => 1#1) (k : Fin 18432) :
    max (x4 (ix1 k)) (-(x4 (ix1 k))) ≤ (((2 : ℝ) ^ 127 : ℝ) : EReal) ∧ max (x5 (ix1 k)) (-(x5 (ix1 k))) ≤ (((2 : ℝ) ^ 127 : ℝ) : EReal) := by
  rw [← Bound.half_range]
  exact both ((pre_at x0 x1 x2 x3 x4 x5 k).symm.trans (congrFun h (ix1 k)))

end Pre

variable (m' : (ℓ : Loc Cert.ReferenceIdeal.nD Cert.ReferenceIdeal.τ Cert.ReferenceIdeal.sig) → Buf (Elt Ideal) ℓ) (c : Dev Cert.ReferenceIdeal.nD)

/-- With such gains and offsets every value whose scale is taken is below 2^126, whatever the other arguments hold. -/
theorem bnd_lt (hg : ∀ k, max (a4 m' c (ix1 k)) (-(a4 m' c (ix1 k))) ≤ (((2 : ℝ) ^ 127 : ℝ) : EReal))
    (ht : ∀ k, max (a5 m' c (ix1 k)) (-(a5 m' c (ix1 k))) ≤ (((2 : ℝ) ^ 127 : ℝ) : EReal)) (b : Fin 2) (s : Fin 2048) :
    bnd m' c (ix2 b s) < pow2 253 := by
  have hN : ((18432 : ℕ) : ℝ) = 18432 := by norm_num
  have hp : ((253 : ℕ) : ℤ) - 127 = 126 := by norm_num
  rw [bnd_at, bot_bits, pow2_mid 253 (by norm_num) (by norm_num), hp]
  refine Bound.below _ fun k => ?_
  obtain ⟨r, hr, h2⟩ := Bound.normalised 18432 (by norm_num) (fun k => cen m' c (ix3 b s k)) _ (by positivity : (0 : ℝ) < 10995116 * (2 : ℝ) ^ (-40 : ℤ)) k
  rw [hN] at hr h2
  rw [nrm_at]
  refine Bound.affine_le _ _ _ r ?_ h2 (hg k) (ht k)
  rw [rs_at, width, Ideal.div_coe (by norm_num : (18432 : ℝ) ≠ 0), Bound.epsilon]
  exact hr

end Cert.Tokens
end
-- ==== Proof.lean ====
/- The proof of the claims: the frames, that the ideal reading of the kernel is the kernel with one constant named, and that
   at the extended reals the kernel's six results are the reference's. -/
module

public import proofs.«01_k».proof.Defs
public import proofs.«01_k».proof.Proof.Kernel.Frame
public import proofs.«01_k».proof.Proof.KernelIdeal.Frame
public import proofs.«01_k».proof.Proof.Equation
public import proofs.«01_k».proof.Proof.Admissible
public import proofs.«01_k».proof.Proof.Gen.ReferenceIdeal.Value
public import proofs.«01_k».proof.Proof.Gen.Pre_bounded_affine

@[expose] public section

set_option maxRecDepth 16384

noncomputable section

namespace Cert.Proof

open Idealize.ShloMosaic Idealize.SL.Sem

/-- At the extended reals, from equal arguments, the kernel's codes, scales, masks, means, reciprocal standard deviations and
    hidden rows are the reference's. -/
theorem equation : Cert.algebraic_KernelIdeal_ReferenceIdeal_pre_bounded_affine := by
  intro m g m' g' hpre hagree
  have A : ∀ c, Cert.Tokens.Agree m m' c := fun c => ⟨(hagree c).1, (hagree c).2.1, (hagree c).2.2.1, (hagree c).2.2.2.1,
    (hagree c).2.2.2.2.1, (hagree c).2.2.2.2.2⟩
  have hb : ∀ c b s, Cert.ReferenceIdeal.Run.bnd m' c (ix2 b s) < Cert.KernelIdeal.Run.pow2 253 := fun c =>
    Cert.Tokens.bnd_lt m' c
      (fun k => (congrArg (fun v : FVec Ideal Cert.ReferenceIdeal.S18432 .f32 => max (v (ix1 k)) (-(v (ix1 k)))) (A c).e4).trans_le
        (Cert.Tokens.pre_bounds _ _ _ _ _ _ (hpre c) k).1)
      (fun k => (congrArg (fun v : FVec Ideal Cert.ReferenceIdeal.S18432 .f32 => max (v (ix1 k)) (-(v (ix1 k)))) (A c).e5).trans_le
        (Cert.Tokens.pre_bounds _ _ _ _ _ _ (hpre c) k).2)
  refine ⟨fun c => Cert.ReferenceIdeal.Run.cod m' c, fun c => Cert.ReferenceIdeal.Run.scl m' c, fun c => Cert.ReferenceIdeal.Run.msk m' c,
    fun c => Cert.ReferenceIdeal.Run.mu m' c, fun c => Cert.ReferenceIdeal.Run.rs m' c, fun c => Cert.ReferenceIdeal.Run.hid m' c,
    (θ_run _ _ _).mono (fun r h c => ?_) (Cert.KernelIdeal.Value.run m g), Cert.ReferenceIdeal.Run.run m' g'⟩
  obtain ⟨h0, h1, h2, h3, h4, h5, h6⟩ := h c
  exact ⟨h0.trans (Cert.Tokens.codes m m' c (A c) (hb c)), h1.trans (Cert.Tokens.scales m m' c (A c)),
    h2.trans (Cert.Tokens.masks m m' c (A c)), h3.trans (Cert.Tokens.means m m' c (A c)), h4.trans (Cert.Tokens.rstds m m' c (A c)),
    h5.trans (Cert.Tokens.hiddens m m' c (A c)), h6⟩

/-- Every claim certified in the statement. -/
theorem claim : Cert.Claim := ⟨Cert.Kernel.Gen.facts, Cert.KernelIdeal.Gen.facts, Cert.ReferenceIdeal.Gen.facts, Cert.Pre_bounded_affine.Gen.facts,
  fun m ρ _ => Cert.Kernel.Run.frame m ρ, fun m ρ _ => Cert.KernelIdeal.Run.frame m ρ, fun m ρ _ => Cert.KernelIdeal.Run.frame m ρ,
  fun m ρ _ => Cert.ReferenceIdeal.Gen.frame m ρ, fun m ρ _ => Cert.ReferenceIdeal.Gen.frame m ρ,
  IdealRules.named_const.statement Cert.KernelIdeal.κ "inv_d_model" .f32 0x38638E39#32 ((1 / 18432 : ℝ) : EReal) rfl,
  equation⟩

end Cert.Proof

end
